-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_Product (m : (ℓ : Loc Cert.Product.nD Cert.Product.τ Cert.Product.sig) → Buf (Elt Bits) ℓ) : Prop :=
  True

def Pre_ProductIdeal (m : (ℓ : Loc Cert.ProductIdeal.nD Cert.ProductIdeal.τ Cert.ProductIdeal.sig) → Buf (Elt Ideal) ℓ) : Prop :=
  True

def Pre_ProductReferenceIdeal (m : (ℓ : Loc Cert.ProductReferenceIdeal.nD Cert.ProductReferenceIdeal.τ Cert.ProductReferenceIdeal.sig) → Buf (Elt Ideal) ℓ) : Prop :=
  True

def Pre_Forward (m : (ℓ : Loc Cert.Forward.nD Cert.Forward.τ Cert.Forward.sig) → Buf (Elt Bits) ℓ) : Prop :=
  True

def Pre_ForwardIdeal (m : (ℓ : Loc Cert.ForwardIdeal.nD Cert.ForwardIdeal.τ Cert.ForwardIdeal.sig) → Buf (Elt Ideal) ℓ) : Prop :=
  True

def Pre_ForwardReferenceIdeal (m : (ℓ : Loc Cert.ForwardReferenceIdeal.nD Cert.ForwardReferenceIdeal.τ Cert.ForwardReferenceIdeal.sig) → Buf (Elt Ideal) ℓ) : Prop :=
  True

def Pre_Weight (m : (ℓ : Loc Cert.Weight.nD Cert.Weight.τ Cert.Weight.sig) → Buf (Elt Bits) ℓ) : Prop :=
  True

def Pre_WeightIdeal (m : (ℓ : Loc Cert.WeightIdeal.nD Cert.WeightIdeal.τ Cert.WeightIdeal.sig) → Buf (Elt Ideal) ℓ) : Prop :=
  True

def Pre_WeightReferenceIdeal (m : (ℓ : Loc Cert.WeightReferenceIdeal.nD Cert.WeightReferenceIdeal.τ Cert.WeightReferenceIdeal.sig) → Buf (Elt Ideal) ℓ) : Prop :=
  True

def Pre_Back (m : (ℓ : Loc Cert.Back.nD Cert.Back.τ Cert.Back.sig) → Buf (Elt Bits) ℓ) : Prop :=
  True

def Pre_BackIdeal (m : (ℓ : Loc Cert.BackIdeal.nD Cert.BackIdeal.τ Cert.BackIdeal.sig) → Buf (Elt Ideal) ℓ) : Prop :=
  True

def Pre_BackReferenceIdeal (m : (ℓ : Loc Cert.BackReferenceIdeal.nD Cert.BackReferenceIdeal.τ Cert.BackReferenceIdeal.sig) → Buf (Elt Ideal) ℓ) : Prop :=
  True

def Pre_Inward (m : (ℓ : Loc Cert.Inward.nD Cert.Inward.τ Cert.Inward.sig) → Buf (Elt Bits) ℓ) : Prop :=
  True

def Pre_InwardIdeal (m : (ℓ : Loc Cert.InwardIdeal.nD Cert.InwardIdeal.τ Cert.InwardIdeal.sig) → Buf (Elt Ideal) ℓ) : Prop :=
  True

def Pre_InwardReferenceIdeal (m : (ℓ : Loc Cert.InwardReferenceIdeal.nD Cert.InwardReferenceIdeal.τ Cert.InwardReferenceIdeal.sig) → Buf (Elt Ideal) ℓ) : Prop :=
  True

def Pre_FirstBack (m : (ℓ : Loc Cert.FirstBack.nD Cert.FirstBack.τ Cert.FirstBack.sig) → Buf (Elt Bits) ℓ) : Prop :=
  True

def Pre_FirstBackIdeal (m : (ℓ : Loc Cert.FirstBackIdeal.nD Cert.FirstBackIdeal.τ Cert.FirstBackIdeal.sig) → Buf (Elt Ideal) ℓ) : Prop :=
  True

def Pre_FirstBackReferenceIdeal (m : (ℓ : Loc Cert.FirstBackReferenceIdeal.nD Cert.FirstBackReferenceIdeal.τ Cert.FirstBackReferenceIdeal.sig) → Buf (Elt Ideal) ℓ) : Prop :=
  True

def Pre_BranchInward (m : (ℓ : Loc Cert.BranchInward.nD Cert.BranchInward.τ Cert.BranchInward.sig) → Buf (Elt Bits) ℓ) : Prop :=
  True

def Pre_BranchInwardIdeal (m : (ℓ : Loc Cert.BranchInwardIdeal.nD Cert.BranchInwardIdeal.τ Cert.BranchInwardIdeal.sig) → Buf (Elt Ideal) ℓ) : Prop :=
  True

def Pre_BranchInwardReferenceIdeal (m : (ℓ : Loc Cert.BranchInwardReferenceIdeal.nD Cert.BranchInwardReferenceIdeal.τ Cert.BranchInwardReferenceIdeal.sig) → Buf (Elt Ideal) ℓ) : Prop :=
  True

def Pre_BranchWeight (m : (ℓ : Loc Cert.BranchWeight.nD Cert.BranchWeight.τ Cert.BranchWeight.sig) → Buf (Elt Bits) ℓ) : Prop :=
  True

def Pre_BranchWeightIdeal (m : (ℓ : Loc Cert.BranchWeightIdeal.nD Cert.BranchWeightIdeal.τ Cert.BranchWeightIdeal.sig) → Buf (Elt Ideal) ℓ) : Prop :=
  True

def Pre_BranchWeightReferenceIdeal (m : (ℓ : Loc Cert.BranchWeightReferenceIdeal.nD Cert.BranchWeightReferenceIdeal.τ Cert.BranchWeightReferenceIdeal.sig) → Buf (Elt Ideal) ℓ) : Prop :=
  True

def Pre_BranchBack (m : (ℓ : Loc Cert.BranchBack.nD Cert.BranchBack.τ Cert.BranchBack.sig) → Buf (Elt Bits) ℓ) : Prop :=
  True

def Pre_BranchBackIdeal (m : (ℓ : Loc Cert.BranchBackIdeal.nD Cert.BranchBackIdeal.τ Cert.BranchBackIdeal.sig) → Buf (Elt Ideal) ℓ) : Prop :=
  True

def Pre_BranchBackReferenceIdeal (m : (ℓ : Loc Cert.BranchBackReferenceIdeal.nD Cert.BranchBackReferenceIdeal.τ Cert.BranchBackReferenceIdeal.sig) → Buf (Elt Ideal) ℓ) : Prop :=
  True

def Pre_Outward (m : (ℓ : Loc Cert.Outward.nD Cert.Outward.τ Cert.Outward.sig) → Buf (Elt Bits) ℓ) : Prop :=
  True

def Pre_OutwardIdeal (m : (ℓ : Loc Cert.OutwardIdeal.nD Cert.OutwardIdeal.τ Cert.OutwardIdeal.sig) → Buf (Elt Ideal) ℓ) : Prop :=
  True

def Pre_OutwardReferenceIdeal (m : (ℓ : Loc Cert.OutwardReferenceIdeal.nD Cert.OutwardReferenceIdeal.τ Cert.OutwardReferenceIdeal.sig) → Buf (Elt Ideal) ℓ) : Prop :=
  True

def Pre_OutwardWeight (m : (ℓ : Loc Cert.OutwardWeight.nD Cert.OutwardWeight.τ Cert.OutwardWeight.sig) → Buf (Elt Bits) ℓ) : Prop :=
  True

def Pre_OutwardWeightIdeal (m : (ℓ : Loc Cert.OutwardWeightIdeal.nD Cert.OutwardWeightIdeal.τ Cert.OutwardWeightIdeal.sig) → Buf (Elt Ideal) ℓ) : Prop :=
  True

def Pre_OutwardWeightReferenceIdeal (m : (ℓ : Loc Cert.OutwardWeightReferenceIdeal.nD Cert.OutwardWeightReferenceIdeal.τ Cert.OutwardWeightReferenceIdeal.sig) → Buf (Elt Ideal) ℓ) : Prop :=
  True

def Pre_OutwardBack (m : (ℓ : Loc Cert.OutwardBack.nD Cert.OutwardBack.τ Cert.OutwardBack.sig) → Buf (Elt Bits) ℓ) : Prop :=
  True

def Pre_OutwardBackIdeal (m : (ℓ : Loc Cert.OutwardBackIdeal.nD Cert.OutwardBackIdeal.τ Cert.OutwardBackIdeal.sig) → Buf (Elt Ideal) ℓ) : Prop :=
  True

def Pre_OutwardBackReferenceIdeal (m : (ℓ : Loc Cert.OutwardBackReferenceIdeal.nD Cert.OutwardBackReferenceIdeal.τ Cert.OutwardBackReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Product [hProduct : Cert.Product.Facts] : Prop :=
  ∀ (m : (ℓ : Loc Cert.Product.nD Cert.Product.τ Cert.Product.sig) → Buf (Elt Bits) ℓ) (g : Dev Cert.Product.nD → PrngReg), Pre_Product m →
    θ_run (Cert.Product.defs (F := Bits)) (onTc (τ := Cert.Product.τ) (Cert.Product.main (F := Bits))) ⟨m, fun _ => 0, g⟩ (fun r => (∀ c : Dev Cert.Product.nD,
      r.2.mem ((c.tc : Thread Cert.Product.nD Cert.Product.τ).loc Cert.Product.main_arg0) = m ((c.tc : Thread Cert.Product.nD Cert.Product.τ).loc Cert.Product.main_arg0)
      ∧ r.2.mem ((c.tc : Thread Cert.Product.nD Cert.Product.τ).loc Cert.Product.main_arg1) = m ((c.tc : Thread Cert.Product.nD Cert.Product.τ).loc Cert.Product.main_arg1))
      ∧ r.2.sem = fun _ => 0)

def quiescent_ProductIdeal [hProductIdeal : Cert.ProductIdeal.Facts] : Prop :=
  ∀ (m : (ℓ : Loc Cert.ProductIdeal.nD Cert.ProductIdeal.τ Cert.ProductIdeal.sig) → Buf (Elt Ideal) ℓ) (g : Dev Cert.ProductIdeal.nD → PrngReg), Pre_ProductIdeal m →
    θ_run (Cert.ProductIdeal.defs (F := Ideal)) (onTc (τ := Cert.ProductIdeal.τ) (Cert.ProductIdeal.main (F := Ideal))) ⟨m, fun _ => 0, g⟩ (fun r => (∀ c : Dev Cert.ProductIdeal.nD,
      r.2.mem ((c.tc : Thread Cert.ProductIdeal.nD Cert.ProductIdeal.τ).loc Cert.ProductIdeal.main_arg0) = m ((c.tc : Thread Cert.ProductIdeal.nD Cert.ProductIdeal.τ).loc Cert.ProductIdeal.main_arg0)
      ∧ r.2.mem ((c.tc : Thread Cert.ProductIdeal.nD Cert.ProductIdeal.τ).loc Cert.ProductIdeal.main_arg1) = m ((c.tc : Thread Cert.ProductIdeal.nD Cert.ProductIdeal.τ).loc Cert.ProductIdeal.main_arg1))
      ∧ r.2.sem = fun _ => 0)

def quiescent_ProductReferenceIdeal [hProductReferenceIdeal : Cert.ProductReferenceIdeal.Facts] : Prop :=
  ∀ (m : (ℓ : Loc Cert.ProductReferenceIdeal.nD Cert.ProductReferenceIdeal.τ Cert.ProductReferenceIdeal.sig) → Buf (Elt Ideal) ℓ) (g : Dev Cert.ProductReferenceIdeal.nD → PrngReg), Pre_ProductReferenceIdeal m →
    θ_run (Cert.ProductReferenceIdeal.defs (F := Ideal)) (onTc (τ := Cert.ProductReferenceIdeal.τ) (Cert.ProductReferenceIdeal.main (F := Ideal))) ⟨m, fun _ => 0, g⟩ (fun r => (∀ c : Dev Cert.ProductReferenceIdeal.nD,
      r.2.mem ((c.tc : Thread Cert.ProductReferenceIdeal.nD Cert.ProductReferenceIdeal.τ).loc Cert.ProductReferenceIdeal.main_arg0) = m ((c.tc : Thread Cert.ProductReferenceIdeal.nD Cert.ProductReferenceIdeal.τ).loc Cert.ProductReferenceIdeal.main_arg0)
      ∧ r.2.mem ((c.tc : Thread Cert.ProductReferenceIdeal.nD Cert.ProductReferenceIdeal.τ).loc Cert.ProductReferenceIdeal.main_arg1) = m ((c.tc : Thread Cert.ProductReferenceIdeal.nD Cert.ProductReferenceIdeal.τ).loc Cert.ProductReferenceIdeal.main_arg1))
      ∧ r.2.sem = fun _ => 0)

def quiescent_Forward [hForward : Cert.Forward.Facts] : Prop :=
  ∀ (m : (ℓ : Loc Cert.Forward.nD Cert.Forward.τ Cert.Forward.sig) → Buf (Elt Bits) ℓ) (g : Dev Cert.Forward.nD → PrngReg), Pre_Forward m →
    θ_run (Cert.Forward.defs (F := Bits)) (onTc (τ := Cert.Forward.τ) (Cert.Forward.main (F := Bits))) ⟨m, fun _ => 0, g⟩ (fun r => (∀ c : Dev Cert.Forward.nD,
      r.2.mem ((c.tc : Thread Cert.Forward.nD Cert.Forward.τ).loc Cert.Forward.main_arg0) = m ((c.tc : Thread Cert.Forward.nD Cert.Forward.τ).loc Cert.Forward.main_arg0)
      ∧ r.2.mem ((c.tc : Thread Cert.Forward.nD Cert.Forward.τ).loc Cert.Forward.main_arg1) = m ((c.tc : Thread Cert.Forward.nD Cert.Forward.τ).loc Cert.Forward.main_arg1)
      ∧ r.2.mem ((c.tc : Thread Cert.Forward.nD Cert.Forward.τ).loc Cert.Forward.main_arg2) = m ((c.tc : Thread Cert.Forward.nD Cert.Forward.τ).loc Cert.Forward.main_arg2)
      ∧ r.2.mem ((c.tc : Thread Cert.Forward.nD Cert.Forward.τ).loc Cert.Forward.main_arg3) = m ((c.tc : Thread Cert.Forward.nD Cert.Forward.τ).loc Cert.Forward.main_arg3))
      ∧ r.2.sem = fun _ => 0)

def quiescent_ForwardIdeal [hForwardIdeal : Cert.ForwardIdeal.Facts] : Prop :=
  ∀ (m : (ℓ : Loc Cert.ForwardIdeal.nD Cert.ForwardIdeal.τ Cert.ForwardIdeal.sig) → Buf (Elt Ideal) ℓ) (g : Dev Cert.ForwardIdeal.nD → PrngReg), Pre_ForwardIdeal m →
    θ_run (Cert.ForwardIdeal.defs (F := Ideal)) (onTc (τ := Cert.ForwardIdeal.τ) (Cert.ForwardIdeal.main (F := Ideal))) ⟨m, fun _ => 0, g⟩ (fun r => (∀ c : Dev Cert.ForwardIdeal.nD,
      r.2.mem ((c.tc : Thread Cert.ForwardIdeal.nD Cert.ForwardIdeal.τ).loc Cert.ForwardIdeal.main_arg0) = m ((c.tc : Thread Cert.ForwardIdeal.nD Cert.ForwardIdeal.τ).loc Cert.ForwardIdeal.main_arg0)
      ∧ r.2.mem ((c.tc : Thread Cert.ForwardIdeal.nD Cert.ForwardIdeal.τ).loc Cert.ForwardIdeal.main_arg1) = m ((c.tc : Thread Cert.ForwardIdeal.nD Cert.ForwardIdeal.τ).loc Cert.ForwardIdeal.main_arg1)
      ∧ r.2.mem ((c.tc : Thread Cert.ForwardIdeal.nD Cert.ForwardIdeal.τ).loc Cert.ForwardIdeal.main_arg2) = m ((c.tc : Thread Cert.ForwardIdeal.nD Cert.ForwardIdeal.τ).loc Cert.ForwardIdeal.main_arg2)
      ∧ r.2.mem ((c.tc : Thread Cert.ForwardIdeal.nD Cert.ForwardIdeal.τ).loc Cert.ForwardIdeal.main_arg3) = m ((c.tc : Thread Cert.ForwardIdeal.nD Cert.ForwardIdeal.τ).loc Cert.ForwardIdeal.main_arg3))
      ∧ r.2.sem = fun _ => 0)

def quiescent_ForwardReferenceIdeal [hForwardReferenceIdeal : Cert.ForwardReferenceIdeal.Facts] : Prop :=
  ∀ (m : (ℓ : Loc Cert.ForwardReferenceIdeal.nD Cert.ForwardReferenceIdeal.τ Cert.ForwardReferenceIdeal.sig) → Buf (Elt Ideal) ℓ) (g : Dev Cert.ForwardReferenceIdeal.nD → PrngReg), Pre_ForwardReferenceIdeal m →
    θ_run (Cert.ForwardReferenceIdeal.defs (F := Ideal)) (onTc (τ := Cert.ForwardReferenceIdeal.τ) (Cert.ForwardReferenceIdeal.main (F := Ideal))) ⟨m, fun _ => 0, g⟩ (fun r => (∀ c : Dev Cert.ForwardReferenceIdeal.nD,
      r.2.mem ((c.tc : Thread Cert.ForwardReferenceIdeal.nD Cert.ForwardReferenceIdeal.τ).loc Cert.ForwardReferenceIdeal.main_arg0) = m ((c.tc : Thread Cert.ForwardReferenceIdeal.nD Cert.ForwardReferenceIdeal.τ).loc Cert.ForwardReferenceIdeal.main_arg0)
      ∧ r.2.mem ((c.tc : Thread Cert.ForwardReferenceIdeal.nD Cert.ForwardReferenceIdeal.τ).loc Cert.ForwardReferenceIdeal.main_arg1) = m ((c.tc : Thread Cert.ForwardReferenceIdeal.nD Cert.ForwardReferenceIdeal.τ).loc Cert.ForwardReferenceIdeal.main_arg1)
      ∧ r.2.mem ((c.tc : Thread Cert.ForwardReferenceIdeal.nD Cert.ForwardReferenceIdeal.τ).loc Cert.ForwardReferenceIdeal.main_arg2) = m ((c.tc : Thread Cert.ForwardReferenceIdeal.nD Cert.ForwardReferenceIdeal.τ).loc Cert.ForwardReferenceIdeal.main_arg2)
      ∧ r.2.mem ((c.tc : Thread Cert.ForwardReferenceIdeal.nD Cert.ForwardReferenceIdeal.τ).loc Cert.ForwardReferenceIdeal.main_arg3) = m ((c.tc : Thread Cert.ForwardReferenceIdeal.nD Cert.ForwardReferenceIdeal.τ).loc Cert.ForwardReferenceIdeal.main_arg3))
      ∧ r.2.sem = fun _ => 0)

def quiescent_Weight [hWeight : Cert.Weight.Facts] : Prop :=
  ∀ (m : (ℓ : Loc Cert.Weight.nD Cert.Weight.τ Cert.Weight.sig) → Buf (Elt Bits) ℓ) (g : Dev Cert.Weight.nD → PrngReg), Pre_Weight m →
    θ_run (Cert.Weight.defs (F := Bits)) (onTc (τ := Cert.Weight.τ) (Cert.Weight.main (F := Bits))) ⟨m, fun _ => 0, g⟩ (fun r => (∀ c : Dev Cert.Weight.nD,
      r.2.mem ((c.tc : Thread Cert.Weight.nD Cert.Weight.τ).loc Cert.Weight.main_arg0) = m ((c.tc : Thread Cert.Weight.nD Cert.Weight.τ).loc Cert.Weight.main_arg0)
      ∧ r.2.mem ((c.tc : Thread Cert.Weight.nD Cert.Weight.τ).loc Cert.Weight.main_arg1) = m ((c.tc : Thread Cert.Weight.nD Cert.Weight.τ).loc Cert.Weight.main_arg1))
      ∧ r.2.sem = fun _ => 0)

def quiescent_WeightIdeal [hWeightIdeal : Cert.WeightIdeal.Facts] : Prop :=
  ∀ (m : (ℓ : Loc Cert.WeightIdeal.nD Cert.WeightIdeal.τ Cert.WeightIdeal.sig) → Buf (Elt Ideal) ℓ) (g : Dev Cert.WeightIdeal.nD → PrngReg), Pre_WeightIdeal m →
    θ_run (Cert.WeightIdeal.defs (F := Ideal)) (onTc (τ := Cert.WeightIdeal.τ) (Cert.WeightIdeal.main (F := Ideal))) ⟨m, fun _ => 0, g⟩ (fun r => (∀ c : Dev Cert.WeightIdeal.nD,
      r.2.mem ((c.tc : Thread Cert.WeightIdeal.nD Cert.WeightIdeal.τ).loc Cert.WeightIdeal.main_arg0) = m ((c.tc : Thread Cert.WeightIdeal.nD Cert.WeightIdeal.τ).loc Cert.WeightIdeal.main_arg0)
      ∧ r.2.mem ((c.tc : Thread Cert.WeightIdeal.nD Cert.WeightIdeal.τ).loc Cert.WeightIdeal.main_arg1) = m ((c.tc : Thread Cert.WeightIdeal.nD Cert.WeightIdeal.τ).loc Cert.WeightIdeal.main_arg1))
      ∧ r.2.sem = fun _ => 0)

def quiescent_WeightReferenceIdeal [hWeightReferenceIdeal : Cert.WeightReferenceIdeal.Facts] : Prop :=
  ∀ (m : (ℓ : Loc Cert.WeightReferenceIdeal.nD Cert.WeightReferenceIdeal.τ Cert.WeightReferenceIdeal.sig) → Buf (Elt Ideal) ℓ) (g : Dev Cert.WeightReferenceIdeal.nD → PrngReg), Pre_WeightReferenceIdeal m →
    θ_run (Cert.WeightReferenceIdeal.defs (F := Ideal)) (onTc (τ := Cert.WeightReferenceIdeal.τ) (Cert.WeightReferenceIdeal.main (F := Ideal))) ⟨m, fun _ => 0, g⟩ (fun r => (∀ c : Dev Cert.WeightReferenceIdeal.nD,
      r.2.mem ((c.tc : Thread Cert.WeightReferenceIdeal.nD Cert.WeightReferenceIdeal.τ).loc Cert.WeightReferenceIdeal.main_arg0) = m ((c.tc : Thread Cert.WeightReferenceIdeal.nD Cert.WeightReferenceIdeal.τ).loc Cert.WeightReferenceIdeal.main_arg0)
      ∧ r.2.mem ((c.tc : Thread Cert.WeightReferenceIdeal.nD Cert.WeightReferenceIdeal.τ).loc Cert.WeightReferenceIdeal.main_arg1) = m ((c.tc : Thread Cert.WeightReferenceIdeal.nD Cert.WeightReferenceIdeal.τ).loc Cert.WeightReferenceIdeal.main_arg1))
      ∧ r.2.sem = fun _ => 0)

def quiescent_Back [hBack : Cert.Back.Facts] : Prop :=
  ∀ (m : (ℓ : Loc Cert.Back.nD Cert.Back.τ Cert.Back.sig) → Buf (Elt Bits) ℓ) (g : Dev Cert.Back.nD → PrngReg), Pre_Back m →
    θ_run (Cert.Back.defs (F := Bits)) (onTc (τ := Cert.Back.τ) (Cert.Back.main (F := Bits))) ⟨m, fun _ => 0, g⟩ (fun r => (∀ c : Dev Cert.Back.nD,
      r.2.mem ((c.tc : Thread Cert.Back.nD Cert.Back.τ).loc Cert.Back.main_arg0) = m ((c.tc : Thread Cert.Back.nD Cert.Back.τ).loc Cert.Back.main_arg0)
      ∧ r.2.mem ((c.tc : Thread Cert.Back.nD Cert.Back.τ).loc Cert.Back.main_arg1) = m ((c.tc : Thread Cert.Back.nD Cert.Back.τ).loc Cert.Back.main_arg1)
      ∧ r.2.mem ((c.tc : Thread Cert.Back.nD Cert.Back.τ).loc Cert.Back.main_arg2) = m ((c.tc : Thread Cert.Back.nD Cert.Back.τ).loc Cert.Back.main_arg2))
      ∧ r.2.sem = fun _ => 0)

def quiescent_BackIdeal [hBackIdeal : Cert.BackIdeal.Facts] : Prop :=
  ∀ (m : (ℓ : Loc Cert.BackIdeal.nD Cert.BackIdeal.τ Cert.BackIdeal.sig) → Buf (Elt Ideal) ℓ) (g : Dev Cert.BackIdeal.nD → PrngReg), Pre_BackIdeal m →
    θ_run (Cert.BackIdeal.defs (F := Ideal)) (onTc (τ := Cert.BackIdeal.τ) (Cert.BackIdeal.main (F := Ideal))) ⟨m, fun _ => 0, g⟩ (fun r => (∀ c : Dev Cert.BackIdeal.nD,
      r.2.mem ((c.tc : Thread Cert.BackIdeal.nD Cert.BackIdeal.τ).loc Cert.BackIdeal.main_arg0) = m ((c.tc : Thread Cert.BackIdeal.nD Cert.BackIdeal.τ).loc Cert.BackIdeal.main_arg0)
      ∧ r.2.mem ((c.tc : Thread Cert.BackIdeal.nD Cert.BackIdeal.τ).loc Cert.BackIdeal.main_arg1) = m ((c.tc : Thread Cert.BackIdeal.nD Cert.BackIdeal.τ).loc Cert.BackIdeal.main_arg1)
      ∧ r.2.mem ((c.tc : Thread Cert.BackIdeal.nD Cert.BackIdeal.τ).loc Cert.BackIdeal.main_arg2) = m ((c.tc : Thread Cert.BackIdeal.nD Cert.BackIdeal.τ).loc Cert.BackIdeal.main_arg2))
      ∧ r.2.sem = fun _ => 0)

def quiescent_BackReferenceIdeal [hBackReferenceIdeal : Cert.BackReferenceIdeal.Facts] : Prop :=
  ∀ (m : (ℓ : Loc Cert.BackReferenceIdeal.nD Cert.BackReferenceIdeal.τ Cert.BackReferenceIdeal.sig) → Buf (Elt Ideal) ℓ) (g : Dev Cert.BackReferenceIdeal.nD → PrngReg), Pre_BackReferenceIdeal m →
    θ_run (Cert.BackReferenceIdeal.defs (F := Ideal)) (onTc (τ := Cert.BackReferenceIdeal.τ) (Cert.BackReferenceIdeal.main (F := Ideal))) ⟨m, fun _ => 0, g⟩ (fun r => (∀ c : Dev Cert.BackReferenceIdeal.nD,
      r.2.mem ((c.tc : Thread Cert.BackReferenceIdeal.nD Cert.BackReferenceIdeal.τ).loc Cert.BackReferenceIdeal.main_arg0) = m ((c.tc : Thread Cert.BackReferenceIdeal.nD Cert.BackReferenceIdeal.τ).loc Cert.BackReferenceIdeal.main_arg0)
      ∧ r.2.mem ((c.tc : Thread Cert.BackReferenceIdeal.nD Cert.BackReferenceIdeal.τ).loc Cert.BackReferenceIdeal.main_arg1) = m ((c.tc : Thread Cert.BackReferenceIdeal.nD Cert.BackReferenceIdeal.τ).loc Cert.BackReferenceIdeal.main_arg1)
      ∧ r.2.mem ((c.tc : Thread Cert.BackReferenceIdeal.nD Cert.BackReferenceIdeal.τ).loc Cert.BackReferenceIdeal.main_arg2) = m ((c.tc : Thread Cert.BackReferenceIdeal.nD Cert.BackReferenceIdeal.τ).loc Cert.BackReferenceIdeal.main_arg2))
      ∧ r.2.sem = fun _ => 0)

def quiescent_Inward [hInward : Cert.Inward.Facts] : Prop :=
  ∀ (m : (ℓ : Loc Cert.Inward.nD Cert.Inward.τ Cert.Inward.sig) → Buf (Elt Bits) ℓ) (g : Dev Cert.Inward.nD → PrngReg), Pre_Inward m →
    θ_run (Cert.Inward.defs (F := Bits)) (onTc (τ := Cert.Inward.τ) (Cert.Inward.main (F := Bits))) ⟨m, fun _ => 0, g⟩ (fun r => (∀ c : Dev Cert.Inward.nD,
      r.2.mem ((c.tc : Thread Cert.Inward.nD Cert.Inward.τ).loc Cert.Inward.main_arg0) = m ((c.tc : Thread Cert.Inward.nD Cert.Inward.τ).loc Cert.Inward.main_arg0)
      ∧ r.2.mem ((c.tc : Thread Cert.Inward.nD Cert.Inward.τ).loc Cert.Inward.main_arg1) = m ((c.tc : Thread Cert.Inward.nD Cert.Inward.τ).loc Cert.Inward.main_arg1))
      ∧ r.2.sem = fun _ => 0)

def quiescent_InwardIdeal [hInwardIdeal : Cert.InwardIdeal.Facts] : Prop :=
  ∀ (m : (ℓ : Loc Cert.InwardIdeal.nD Cert.InwardIdeal.τ Cert.InwardIdeal.sig) → Buf (Elt Ideal) ℓ) (g : Dev Cert.InwardIdeal.nD → PrngReg), Pre_InwardIdeal m →
    θ_run (Cert.InwardIdeal.defs (F := Ideal)) (onTc (τ := Cert.InwardIdeal.τ) (Cert.InwardIdeal.main (F := Ideal))) ⟨m, fun _ => 0, g⟩ (fun r => (∀ c : Dev Cert.InwardIdeal.nD,
      r.2.mem ((c.tc : Thread Cert.InwardIdeal.nD Cert.InwardIdeal.τ).loc Cert.InwardIdeal.main_arg0) = m ((c.tc : Thread Cert.InwardIdeal.nD Cert.InwardIdeal.τ).loc Cert.InwardIdeal.main_arg0)
      ∧ r.2.mem ((c.tc : Thread Cert.InwardIdeal.nD Cert.InwardIdeal.τ).loc Cert.InwardIdeal.main_arg1) = m ((c.tc : Thread Cert.InwardIdeal.nD Cert.InwardIdeal.τ).loc Cert.InwardIdeal.main_arg1))
      ∧ r.2.sem = fun _ => 0)

def quiescent_InwardReferenceIdeal [hInwardReferenceIdeal : Cert.InwardReferenceIdeal.Facts] : Prop :=
  ∀ (m : (ℓ : Loc Cert.InwardReferenceIdeal.nD Cert.InwardReferenceIdeal.τ Cert.InwardReferenceIdeal.sig) → Buf (Elt Ideal) ℓ) (g : Dev Cert.InwardReferenceIdeal.nD → PrngReg), Pre_InwardReferenceIdeal m →
    θ_run (Cert.InwardReferenceIdeal.defs (F := Ideal)) (onTc (τ := Cert.InwardReferenceIdeal.τ) (Cert.InwardReferenceIdeal.main (F := Ideal))) ⟨m, fun _ => 0, g⟩ (fun r => (∀ c : Dev Cert.InwardReferenceIdeal.nD,
      r.2.mem ((c.tc : Thread Cert.InwardReferenceIdeal.nD Cert.InwardReferenceIdeal.τ).loc Cert.InwardReferenceIdeal.main_arg0) = m ((c.tc : Thread Cert.InwardReferenceIdeal.nD Cert.InwardReferenceIdeal.τ).loc Cert.InwardReferenceIdeal.main_arg0)
      ∧ r.2.mem ((c.tc : Thread Cert.InwardReferenceIdeal.nD Cert.InwardReferenceIdeal.τ).loc Cert.InwardReferenceIdeal.main_arg1) = m ((c.tc : Thread Cert.InwardReferenceIdeal.nD Cert.InwardReferenceIdeal.τ).loc Cert.InwardReferenceIdeal.main_arg1))
      ∧ r.2.sem = fun _ => 0)

def quiescent_FirstBack [hFirstBack : Cert.FirstBack.Facts] : Prop :=
  ∀ (m : (ℓ : Loc Cert.FirstBack.nD Cert.FirstBack.τ Cert.FirstBack.sig) → Buf (Elt Bits) ℓ) (g : Dev Cert.FirstBack.nD → PrngReg), Pre_FirstBack m →
    θ_run (Cert.FirstBack.defs (F := Bits)) (onTc (τ := Cert.FirstBack.τ) (Cert.FirstBack.main (F := Bits))) ⟨m, fun _ => 0, g⟩ (fun r => (∀ c : Dev Cert.FirstBack.nD,
      r.2.mem ((c.tc : Thread Cert.FirstBack.nD Cert.FirstBack.τ).loc Cert.FirstBack.main_arg0) = m ((c.tc : Thread Cert.FirstBack.nD Cert.FirstBack.τ).loc Cert.FirstBack.main_arg0)
      ∧ r.2.mem ((c.tc : Thread Cert.FirstBack.nD Cert.FirstBack.τ).loc Cert.FirstBack.main_arg1) = m ((c.tc : Thread Cert.FirstBack.nD Cert.FirstBack.τ).loc Cert.FirstBack.main_arg1))
      ∧ r.2.sem = fun _ => 0)

def quiescent_FirstBackIdeal [hFirstBackIdeal : Cert.FirstBackIdeal.Facts] : Prop :=
  ∀ (m : (ℓ : Loc Cert.FirstBackIdeal.nD Cert.FirstBackIdeal.τ Cert.FirstBackIdeal.sig) → Buf (Elt Ideal) ℓ) (g : Dev Cert.FirstBackIdeal.nD → PrngReg), Pre_FirstBackIdeal m →
    θ_run (Cert.FirstBackIdeal.defs (F := Ideal)) (onTc (τ := Cert.FirstBackIdeal.τ) (Cert.FirstBackIdeal.main (F := Ideal))) ⟨m, fun _ => 0, g⟩ (fun r => (∀ c : Dev Cert.FirstBackIdeal.nD,
      r.2.mem ((c.tc : Thread Cert.FirstBackIdeal.nD Cert.FirstBackIdeal.τ).loc Cert.FirstBackIdeal.main_arg0) = m ((c.tc : Thread Cert.FirstBackIdeal.nD Cert.FirstBackIdeal.τ).loc Cert.FirstBackIdeal.main_arg0)
      ∧ r.2.mem ((c.tc : Thread Cert.FirstBackIdeal.nD Cert.FirstBackIdeal.τ).loc Cert.FirstBackIdeal.main_arg1) = m ((c.tc : Thread Cert.FirstBackIdeal.nD Cert.FirstBackIdeal.τ).loc Cert.FirstBackIdeal.main_arg1))
      ∧ r.2.sem = fun _ => 0)

def quiescent_FirstBackReferenceIdeal [hFirstBackReferenceIdeal : Cert.FirstBackReferenceIdeal.Facts] : Prop :=
  ∀ (m : (ℓ : Loc Cert.FirstBackReferenceIdeal.nD Cert.FirstBackReferenceIdeal.τ Cert.FirstBackReferenceIdeal.sig) → Buf (Elt Ideal) ℓ) (g : Dev Cert.FirstBackReferenceIdeal.nD → PrngReg), Pre_FirstBackReferenceIdeal m →
    θ_run (Cert.FirstBackReferenceIdeal.defs (F := Ideal)) (onTc (τ := Cert.FirstBackReferenceIdeal.τ) (Cert.FirstBackReferenceIdeal.main (F := Ideal))) ⟨m, fun _ => 0, g⟩ (fun r => (∀ c : Dev Cert.FirstBackReferenceIdeal.nD,
      r.2.mem ((c.tc : Thread Cert.FirstBackReferenceIdeal.nD Cert.FirstBackReferenceIdeal.τ).loc Cert.FirstBackReferenceIdeal.main_arg0) = m ((c.tc : Thread Cert.FirstBackReferenceIdeal.nD Cert.FirstBackReferenceIdeal.τ).loc Cert.FirstBackReferenceIdeal.main_arg0)
      ∧ r.2.mem ((c.tc : Thread Cert.FirstBackReferenceIdeal.nD Cert.FirstBackReferenceIdeal.τ).loc Cert.FirstBackReferenceIdeal.main_arg1) = m ((c.tc : Thread Cert.FirstBackReferenceIdeal.nD Cert.FirstBackReferenceIdeal.τ).loc Cert.FirstBackReferenceIdeal.main_arg1))
      ∧ r.2.sem = fun _ => 0)

def quiescent_BranchInward [hBranchInward : Cert.BranchInward.Facts] : Prop :=
  ∀ (m : (ℓ : Loc Cert.BranchInward.nD Cert.BranchInward.τ Cert.BranchInward.sig) → Buf (Elt Bits) ℓ) (g : Dev Cert.BranchInward.nD → PrngReg), Pre_BranchInward m →
    θ_run (Cert.BranchInward.defs (F := Bits)) (onTc (τ := Cert.BranchInward.τ) (Cert.BranchInward.main (F := Bits))) ⟨m, fun _ => 0, g⟩ (fun r => (∀ c : Dev Cert.BranchInward.nD,
      r.2.mem ((c.tc : Thread Cert.BranchInward.nD Cert.BranchInward.τ).loc Cert.BranchInward.main_arg0) = m ((c.tc : Thread Cert.BranchInward.nD Cert.BranchInward.τ).loc Cert.BranchInward.main_arg0)
      ∧ r.2.mem ((c.tc : Thread Cert.BranchInward.nD Cert.BranchInward.τ).loc Cert.BranchInward.main_arg1) = m ((c.tc : Thread Cert.BranchInward.nD Cert.BranchInward.τ).loc Cert.BranchInward.main_arg1))
      ∧ r.2.sem = fun _ => 0)

def quiescent_BranchInwardIdeal [hBranchInwardIdeal : Cert.BranchInwardIdeal.Facts] : Prop :=
  ∀ (m : (ℓ : Loc Cert.BranchInwardIdeal.nD Cert.BranchInwardIdeal.τ Cert.BranchInwardIdeal.sig) → Buf (Elt Ideal) ℓ) (g : Dev Cert.BranchInwardIdeal.nD → PrngReg), Pre_BranchInwardIdeal m →
    θ_run (Cert.BranchInwardIdeal.defs (F := Ideal)) (onTc (τ := Cert.BranchInwardIdeal.τ) (Cert.BranchInwardIdeal.main (F := Ideal))) ⟨m, fun _ => 0, g⟩ (fun r => (∀ c : Dev Cert.BranchInwardIdeal.nD,
      r.2.mem ((c.tc : Thread Cert.BranchInwardIdeal.nD Cert.BranchInwardIdeal.τ).loc Cert.BranchInwardIdeal.main_arg0) = m ((c.tc : Thread Cert.BranchInwardIdeal.nD Cert.BranchInwardIdeal.τ).loc Cert.BranchInwardIdeal.main_arg0)
      ∧ r.2.mem ((c.tc : Thread Cert.BranchInwardIdeal.nD Cert.BranchInwardIdeal.τ).loc Cert.BranchInwardIdeal.main_arg1) = m ((c.tc : Thread Cert.BranchInwardIdeal.nD Cert.BranchInwardIdeal.τ).loc Cert.BranchInwardIdeal.main_arg1))
      ∧ r.2.sem = fun _ => 0)

def quiescent_BranchInwardReferenceIdeal [hBranchInwardReferenceIdeal : Cert.BranchInwardReferenceIdeal.Facts] : Prop :=
  ∀ (m : (ℓ : Loc Cert.BranchInwardReferenceIdeal.nD Cert.BranchInwardReferenceIdeal.τ Cert.BranchInwardReferenceIdeal.sig) → Buf (Elt Ideal) ℓ) (g : Dev Cert.BranchInwardReferenceIdeal.nD → PrngReg), Pre_BranchInwardReferenceIdeal m →
    θ_run (Cert.BranchInwardReferenceIdeal.defs (F := Ideal)) (onTc (τ := Cert.BranchInwardReferenceIdeal.τ) (Cert.BranchInwardReferenceIdeal.main (F := Ideal))) ⟨m, fun _ => 0, g⟩ (fun r => (∀ c : Dev Cert.BranchInwardReferenceIdeal.nD,
      r.2.mem ((c.tc : Thread Cert.BranchInwardReferenceIdeal.nD Cert.BranchInwardReferenceIdeal.τ).loc Cert.BranchInwardReferenceIdeal.main_arg0) = m ((c.tc : Thread Cert.BranchInwardReferenceIdeal.nD Cert.BranchInwardReferenceIdeal.τ).loc Cert.BranchInwardReferenceIdeal.main_arg0)
      ∧ r.2.mem ((c.tc : Thread Cert.BranchInwardReferenceIdeal.nD Cert.BranchInwardReferenceIdeal.τ).loc Cert.BranchInwardReferenceIdeal.main_arg1) = m ((c.tc : Thread Cert.BranchInwardReferenceIdeal.nD Cert.BranchInwardReferenceIdeal.τ).loc Cert.BranchInwardReferenceIdeal.main_arg1))
      ∧ r.2.sem = fun _ => 0)

def quiescent_BranchWeight [hBranchWeight : Cert.BranchWeight.Facts] : Prop :=
  ∀ (m : (ℓ : Loc Cert.BranchWeight.nD Cert.BranchWeight.τ Cert.BranchWeight.sig) → Buf (Elt Bits) ℓ) (g : Dev Cert.BranchWeight.nD → PrngReg), Pre_BranchWeight m →
    θ_run (Cert.BranchWeight.defs (F := Bits)) (onTc (τ := Cert.BranchWeight.τ) (Cert.BranchWeight.main (F := Bits))) ⟨m, fun _ => 0, g⟩ (fun r => (∀ c : Dev Cert.BranchWeight.nD,
      r.2.mem ((c.tc : Thread Cert.BranchWeight.nD Cert.BranchWeight.τ).loc Cert.BranchWeight.main_arg0) = m ((c.tc : Thread Cert.BranchWeight.nD Cert.BranchWeight.τ).loc Cert.BranchWeight.main_arg0)
      ∧ r.2.mem ((c.tc : Thread Cert.BranchWeight.nD Cert.BranchWeight.τ).loc Cert.BranchWeight.main_arg1) = m ((c.tc : Thread Cert.BranchWeight.nD Cert.BranchWeight.τ).loc Cert.BranchWeight.main_arg1))
      ∧ r.2.sem = fun _ => 0)

def quiescent_BranchWeightIdeal [hBranchWeightIdeal : Cert.BranchWeightIdeal.Facts] : Prop :=
  ∀ (m : (ℓ : Loc Cert.BranchWeightIdeal.nD Cert.BranchWeightIdeal.τ Cert.BranchWeightIdeal.sig) → Buf (Elt Ideal) ℓ) (g : Dev Cert.BranchWeightIdeal.nD → PrngReg), Pre_BranchWeightIdeal m →
    θ_run (Cert.BranchWeightIdeal.defs (F := Ideal)) (onTc (τ := Cert.BranchWeightIdeal.τ) (Cert.BranchWeightIdeal.main (F := Ideal))) ⟨m, fun _ => 0, g⟩ (fun r => (∀ c : Dev Cert.BranchWeightIdeal.nD,
      r.2.mem ((c.tc : Thread Cert.BranchWeightIdeal.nD Cert.BranchWeightIdeal.τ).loc Cert.BranchWeightIdeal.main_arg0) = m ((c.tc : Thread Cert.BranchWeightIdeal.nD Cert.BranchWeightIdeal.τ).loc Cert.BranchWeightIdeal.main_arg0)
      ∧ r.2.mem ((c.tc : Thread Cert.BranchWeightIdeal.nD Cert.BranchWeightIdeal.τ).loc Cert.BranchWeightIdeal.main_arg1) = m ((c.tc : Thread Cert.BranchWeightIdeal.nD Cert.BranchWeightIdeal.τ).loc Cert.BranchWeightIdeal.main_arg1))
      ∧ r.2.sem = fun _ => 0)

def quiescent_BranchWeightReferenceIdeal [hBranchWeightReferenceIdeal : Cert.BranchWeightReferenceIdeal.Facts] : Prop :=
  ∀ (m : (ℓ : Loc Cert.BranchWeightReferenceIdeal.nD Cert.BranchWeightReferenceIdeal.τ Cert.BranchWeightReferenceIdeal.sig) → Buf (Elt Ideal) ℓ) (g : Dev Cert.BranchWeightReferenceIdeal.nD → PrngReg), Pre_BranchWeightReferenceIdeal m →
    θ_run (Cert.BranchWeightReferenceIdeal.defs (F := Ideal)) (onTc (τ := Cert.BranchWeightReferenceIdeal.τ) (Cert.BranchWeightReferenceIdeal.main (F := Ideal))) ⟨m, fun _ => 0, g⟩ (fun r => (∀ c : Dev Cert.BranchWeightReferenceIdeal.nD,
      r.2.mem ((c.tc : Thread Cert.BranchWeightReferenceIdeal.nD Cert.BranchWeightReferenceIdeal.τ).loc Cert.BranchWeightReferenceIdeal.main_arg0) = m ((c.tc : Thread Cert.BranchWeightReferenceIdeal.nD Cert.BranchWeightReferenceIdeal.τ).loc Cert.BranchWeightReferenceIdeal.main_arg0)
      ∧ r.2.mem ((c.tc : Thread Cert.BranchWeightReferenceIdeal.nD Cert.BranchWeightReferenceIdeal.τ).loc Cert.BranchWeightReferenceIdeal.main_arg1) = m ((c.tc : Thread Cert.BranchWeightReferenceIdeal.nD Cert.BranchWeightReferenceIdeal.τ).loc Cert.BranchWeightReferenceIdeal.main_arg1))
      ∧ r.2.sem = fun _ => 0)

def quiescent_BranchBack [hBranchBack : Cert.BranchBack.Facts] : Prop :=
  ∀ (m : (ℓ : Loc Cert.BranchBack.nD Cert.BranchBack.τ Cert.BranchBack.sig) → Buf (Elt Bits) ℓ) (g : Dev Cert.BranchBack.nD → PrngReg), Pre_BranchBack m →
    θ_run (Cert.BranchBack.defs (F := Bits)) (onTc (τ := Cert.BranchBack.τ) (Cert.BranchBack.main (F := Bits))) ⟨m, fun _ => 0, g⟩ (fun r => (∀ c : Dev Cert.BranchBack.nD,
      r.2.mem ((c.tc : Thread Cert.BranchBack.nD Cert.BranchBack.τ).loc Cert.BranchBack.main_arg0) = m ((c.tc : Thread Cert.BranchBack.nD Cert.BranchBack.τ).loc Cert.BranchBack.main_arg0)
      ∧ r.2.mem ((c.tc : Thread Cert.BranchBack.nD Cert.BranchBack.τ).loc Cert.BranchBack.main_arg1) = m ((c.tc : Thread Cert.BranchBack.nD Cert.BranchBack.τ).loc Cert.BranchBack.main_arg1)
      ∧ r.2.mem ((c.tc : Thread Cert.BranchBack.nD Cert.BranchBack.τ).loc Cert.BranchBack.main_arg2) = m ((c.tc : Thread Cert.BranchBack.nD Cert.BranchBack.τ).loc Cert.BranchBack.main_arg2))
      ∧ r.2.sem = fun _ => 0)

def quiescent_BranchBackIdeal [hBranchBackIdeal : Cert.BranchBackIdeal.Facts] : Prop :=
  ∀ (m : (ℓ : Loc Cert.BranchBackIdeal.nD Cert.BranchBackIdeal.τ Cert.BranchBackIdeal.sig) → Buf (Elt Ideal) ℓ) (g : Dev Cert.BranchBackIdeal.nD → PrngReg), Pre_BranchBackIdeal m →
    θ_run (Cert.BranchBackIdeal.defs (F := Ideal)) (onTc (τ := Cert.BranchBackIdeal.τ) (Cert.BranchBackIdeal.main (F := Ideal))) ⟨m, fun _ => 0, g⟩ (fun r => (∀ c : Dev Cert.BranchBackIdeal.nD,
      r.2.mem ((c.tc : Thread Cert.BranchBackIdeal.nD Cert.BranchBackIdeal.τ).loc Cert.BranchBackIdeal.main_arg0) = m ((c.tc : Thread Cert.BranchBackIdeal.nD Cert.BranchBackIdeal.τ).loc Cert.BranchBackIdeal.main_arg0)
      ∧ r.2.mem ((c.tc : Thread Cert.BranchBackIdeal.nD Cert.BranchBackIdeal.τ).loc Cert.BranchBackIdeal.main_arg1) = m ((c.tc : Thread Cert.BranchBackIdeal.nD Cert.BranchBackIdeal.τ).loc Cert.BranchBackIdeal.main_arg1)
      ∧ r.2.mem ((c.tc : Thread Cert.BranchBackIdeal.nD Cert.BranchBackIdeal.τ).loc Cert.BranchBackIdeal.main_arg2) = m ((c.tc : Thread Cert.BranchBackIdeal.nD Cert.BranchBackIdeal.τ).loc Cert.BranchBackIdeal.main_arg2))
      ∧ r.2.sem = fun _ => 0)

def quiescent_BranchBackReferenceIdeal [hBranchBackReferenceIdeal : Cert.BranchBackReferenceIdeal.Facts] : Prop :=
  ∀ (m : (ℓ : Loc Cert.BranchBackReferenceIdeal.nD Cert.BranchBackReferenceIdeal.τ Cert.BranchBackReferenceIdeal.sig) → Buf (Elt Ideal) ℓ) (g : Dev Cert.BranchBackReferenceIdeal.nD → PrngReg), Pre_BranchBackReferenceIdeal m →
    θ_run (Cert.BranchBackReferenceIdeal.defs (F := Ideal)) (onTc (τ := Cert.BranchBackReferenceIdeal.τ) (Cert.BranchBackReferenceIdeal.main (F := Ideal))) ⟨m, fun _ => 0, g⟩ (fun r => (∀ c : Dev Cert.BranchBackReferenceIdeal.nD,
      r.2.mem ((c.tc : Thread Cert.BranchBackReferenceIdeal.nD Cert.BranchBackReferenceIdeal.τ).loc Cert.BranchBackReferenceIdeal.main_arg0) = m ((c.tc : Thread Cert.BranchBackReferenceIdeal.nD Cert.BranchBackReferenceIdeal.τ).loc Cert.BranchBackReferenceIdeal.main_arg0)
      ∧ r.2.mem ((c.tc : Thread Cert.BranchBackReferenceIdeal.nD Cert.BranchBackReferenceIdeal.τ).loc Cert.BranchBackReferenceIdeal.main_arg1) = m ((c.tc : Thread Cert.BranchBackReferenceIdeal.nD Cert.BranchBackReferenceIdeal.τ).loc Cert.BranchBackReferenceIdeal.main_arg1)
      ∧ r.2.mem ((c.tc : Thread Cert.BranchBackReferenceIdeal.nD Cert.BranchBackReferenceIdeal.τ).loc Cert.BranchBackReferenceIdeal.main_arg2) = m ((c.tc : Thread Cert.BranchBackReferenceIdeal.nD Cert.BranchBackReferenceIdeal.τ).loc Cert.BranchBackReferenceIdeal.main_arg2))
      ∧ r.2.sem = fun _ => 0)

def quiescent_Outward [hOutward : Cert.Outward.Facts] : Prop :=
  ∀ (m : (ℓ : Loc Cert.Outward.nD Cert.Outward.τ Cert.Outward.sig) → Buf (Elt Bits) ℓ) (g : Dev Cert.Outward.nD → PrngReg), Pre_Outward m →
    θ_run (Cert.Outward.defs (F := Bits)) (onTc (τ := Cert.Outward.τ) (Cert.Outward.main (F := Bits))) ⟨m, fun _ => 0, g⟩ (fun r => (∀ c : Dev Cert.Outward.nD,
      r.2.mem ((c.tc : Thread Cert.Outward.nD Cert.Outward.τ).loc Cert.Outward.main_arg0) = m ((c.tc : Thread Cert.Outward.nD Cert.Outward.τ).loc Cert.Outward.main_arg0)
      ∧ r.2.mem ((c.tc : Thread Cert.Outward.nD Cert.Outward.τ).loc Cert.Outward.main_arg1) = m ((c.tc : Thread Cert.Outward.nD Cert.Outward.τ).loc Cert.Outward.main_arg1)
      ∧ r.2.mem ((c.tc : Thread Cert.Outward.nD Cert.Outward.τ).loc Cert.Outward.main_arg2) = m ((c.tc : Thread Cert.Outward.nD Cert.Outward.τ).loc Cert.Outward.main_arg2))
      ∧ r.2.sem = fun _ => 0)

def quiescent_OutwardIdeal [hOutwardIdeal : Cert.OutwardIdeal.Facts] : Prop :=
  ∀ (m : (ℓ : Loc Cert.OutwardIdeal.nD Cert.OutwardIdeal.τ Cert.OutwardIdeal.sig) → Buf (Elt Ideal) ℓ) (g : Dev Cert.OutwardIdeal.nD → PrngReg), Pre_OutwardIdeal m →
    θ_run (Cert.OutwardIdeal.defs (F := Ideal)) (onTc (τ := Cert.OutwardIdeal.τ) (Cert.OutwardIdeal.main (F := Ideal))) ⟨m, fun _ => 0, g⟩ (fun r => (∀ c : Dev Cert.OutwardIdeal.nD,
      r.2.mem ((c.tc : Thread Cert.OutwardIdeal.nD Cert.OutwardIdeal.τ).loc Cert.OutwardIdeal.main_arg0) = m ((c.tc : Thread Cert.OutwardIdeal.nD Cert.OutwardIdeal.τ).loc Cert.OutwardIdeal.main_arg0)
      ∧ r.2.mem ((c.tc : Thread Cert.OutwardIdeal.nD Cert.OutwardIdeal.τ).loc Cert.OutwardIdeal.main_arg1) = m ((c.tc : Thread Cert.OutwardIdeal.nD Cert.OutwardIdeal.τ).loc Cert.OutwardIdeal.main_arg1)
      ∧ r.2.mem ((c.tc : Thread Cert.OutwardIdeal.nD Cert.OutwardIdeal.τ).loc Cert.OutwardIdeal.main_arg2) = m ((c.tc : Thread Cert.OutwardIdeal.nD Cert.OutwardIdeal.τ).loc Cert.OutwardIdeal.main_arg2))
      ∧ r.2.sem = fun _ => 0)

def quiescent_OutwardReferenceIdeal [hOutwardReferenceIdeal : Cert.OutwardReferenceIdeal.Facts] : Prop :=
  ∀ (m : (ℓ : Loc Cert.OutwardReferenceIdeal.nD Cert.OutwardReferenceIdeal.τ Cert.OutwardReferenceIdeal.sig) → Buf (Elt Ideal) ℓ) (g : Dev Cert.OutwardReferenceIdeal.nD → PrngReg), Pre_OutwardReferenceIdeal m →
    θ_run (Cert.OutwardReferenceIdeal.defs (F := Ideal)) (onTc (τ := Cert.OutwardReferenceIdeal.τ) (Cert.OutwardReferenceIdeal.main (F := Ideal))) ⟨m, fun _ => 0, g⟩ (fun r => (∀ c : Dev Cert.OutwardReferenceIdeal.nD,
      r.2.mem ((c.tc : Thread Cert.OutwardReferenceIdeal.nD Cert.OutwardReferenceIdeal.τ).loc Cert.OutwardReferenceIdeal.main_arg0) = m ((c.tc : Thread Cert.OutwardReferenceIdeal.nD Cert.OutwardReferenceIdeal.τ).loc Cert.OutwardReferenceIdeal.main_arg0)
      ∧ r.2.mem ((c.tc : Thread Cert.OutwardReferenceIdeal.nD Cert.OutwardReferenceIdeal.τ).loc Cert.OutwardReferenceIdeal.main_arg1) = m ((c.tc : Thread Cert.OutwardReferenceIdeal.nD Cert.OutwardReferenceIdeal.τ).loc Cert.OutwardReferenceIdeal.main_arg1)
      ∧ r.2.mem ((c.tc : Thread Cert.OutwardReferenceIdeal.nD Cert.OutwardReferenceIdeal.τ).loc Cert.OutwardReferenceIdeal.main_arg2) = m ((c.tc : Thread Cert.OutwardReferenceIdeal.nD Cert.OutwardReferenceIdeal.τ).loc Cert.OutwardReferenceIdeal.main_arg2))
      ∧ r.2.sem = fun _ => 0)

def quiescent_OutwardWeight [hOutwardWeight : Cert.OutwardWeight.Facts] : Prop :=
  ∀ (m : (ℓ : Loc Cert.OutwardWeight.nD Cert.OutwardWeight.τ Cert.OutwardWeight.sig) → Buf (Elt Bits) ℓ) (g : Dev Cert.OutwardWeight.nD → PrngReg), Pre_OutwardWeight m →
    θ_run (Cert.OutwardWeight.defs (F := Bits)) (onTc (τ := Cert.OutwardWeight.τ) (Cert.OutwardWeight.main (F := Bits))) ⟨m, fun _ => 0, g⟩ (fun r => (∀ c : Dev Cert.OutwardWeight.nD,
      r.2.mem ((c.tc : Thread Cert.OutwardWeight.nD Cert.OutwardWeight.τ).loc Cert.OutwardWeight.main_arg0) = m ((c.tc : Thread Cert.OutwardWeight.nD Cert.OutwardWeight.τ).loc Cert.OutwardWeight.main_arg0)
      ∧ r.2.mem ((c.tc : Thread Cert.OutwardWeight.nD Cert.OutwardWeight.τ).loc Cert.OutwardWeight.main_arg1) = m ((c.tc : Thread Cert.OutwardWeight.nD Cert.OutwardWeight.τ).loc Cert.OutwardWeight.main_arg1))
      ∧ r.2.sem = fun _ => 0)

def quiescent_OutwardWeightIdeal [hOutwardWeightIdeal : Cert.OutwardWeightIdeal.Facts] : Prop :=
  ∀ (m : (ℓ : Loc Cert.OutwardWeightIdeal.nD Cert.OutwardWeightIdeal.τ Cert.OutwardWeightIdeal.sig) → Buf (Elt Ideal) ℓ) (g : Dev Cert.OutwardWeightIdeal.nD → PrngReg), Pre_OutwardWeightIdeal m →
    θ_run (Cert.OutwardWeightIdeal.defs (F := Ideal)) (onTc (τ := Cert.OutwardWeightIdeal.τ) (Cert.OutwardWeightIdeal.main (F := Ideal))) ⟨m, fun _ => 0, g⟩ (fun r => (∀ c : Dev Cert.OutwardWeightIdeal.nD,
      r.2.mem ((c.tc : Thread Cert.OutwardWeightIdeal.nD Cert.OutwardWeightIdeal.τ).loc Cert.OutwardWeightIdeal.main_arg0) = m ((c.tc : Thread Cert.OutwardWeightIdeal.nD Cert.OutwardWeightIdeal.τ).loc Cert.OutwardWeightIdeal.main_arg0)
      ∧ r.2.mem ((c.tc : Thread Cert.OutwardWeightIdeal.nD Cert.OutwardWeightIdeal.τ).loc Cert.OutwardWeightIdeal.main_arg1) = m ((c.tc : Thread Cert.OutwardWeightIdeal.nD Cert.OutwardWeightIdeal.τ).loc Cert.OutwardWeightIdeal.main_arg1))
      ∧ r.2.sem = fun _ => 0)

def quiescent_OutwardWeightReferenceIdeal [hOutwardWeightReferenceIdeal : Cert.OutwardWeightReferenceIdeal.Facts] : Prop :=
  ∀ (m : (ℓ : Loc Cert.OutwardWeightReferenceIdeal.nD Cert.OutwardWeightReferenceIdeal.τ Cert.OutwardWeightReferenceIdeal.sig) → Buf (Elt Ideal) ℓ) (g : Dev Cert.OutwardWeightReferenceIdeal.nD → PrngReg), Pre_OutwardWeightReferenceIdeal m →
    θ_run (Cert.OutwardWeightReferenceIdeal.defs (F := Ideal)) (onTc (τ := Cert.OutwardWeightReferenceIdeal.τ) (Cert.OutwardWeightReferenceIdeal.main (F := Ideal))) ⟨m, fun _ => 0, g⟩ (fun r => (∀ c : Dev Cert.OutwardWeightReferenceIdeal.nD,
      r.2.mem ((c.tc : Thread Cert.OutwardWeightReferenceIdeal.nD Cert.OutwardWeightReferenceIdeal.τ).loc Cert.OutwardWeightReferenceIdeal.main_arg0) = m ((c.tc : Thread Cert.OutwardWeightReferenceIdeal.nD Cert.OutwardWeightReferenceIdeal.τ).loc Cert.OutwardWeightReferenceIdeal.main_arg0)
      ∧ r.2.mem ((c.tc : Thread Cert.OutwardWeightReferenceIdeal.nD Cert.OutwardWeightReferenceIdeal.τ).loc Cert.OutwardWeightReferenceIdeal.main_arg1) = m ((c.tc : Thread Cert.OutwardWeightReferenceIdeal.nD Cert.OutwardWeightReferenceIdeal.τ).loc Cert.OutwardWeightReferenceIdeal.main_arg1))
      ∧ r.2.sem = fun _ => 0)

def quiescent_OutwardBack [hOutwardBack : Cert.OutwardBack.Facts] : Prop :=
  ∀ (m : (ℓ : Loc Cert.OutwardBack.nD Cert.OutwardBack.τ Cert.OutwardBack.sig) → Buf (Elt Bits) ℓ) (g : Dev Cert.OutwardBack.nD → PrngReg), Pre_OutwardBack m →
    θ_run (Cert.OutwardBack.defs (F := Bits)) (onTc (τ := Cert.OutwardBack.τ) (Cert.OutwardBack.main (F := Bits))) ⟨m, fun _ => 0, g⟩ (fun r => (∀ c : Dev Cert.OutwardBack.nD,
      r.2.mem ((c.tc : Thread Cert.OutwardBack.nD Cert.OutwardBack.τ).loc Cert.OutwardBack.main_arg0) = m ((c.tc : Thread Cert.OutwardBack.nD Cert.OutwardBack.τ).loc Cert.OutwardBack.main_arg0)
      ∧ r.2.mem ((c.tc : Thread Cert.OutwardBack.nD Cert.OutwardBack.τ).loc Cert.OutwardBack.main_arg1) = m ((c.tc : Thread Cert.OutwardBack.nD Cert.OutwardBack.τ).loc Cert.OutwardBack.main_arg1))
      ∧ r.2.sem = fun _ => 0)

def quiescent_OutwardBackIdeal [hOutwardBackIdeal : Cert.OutwardBackIdeal.Facts] : Prop :=
  ∀ (m : (ℓ : Loc Cert.OutwardBackIdeal.nD Cert.OutwardBackIdeal.τ Cert.OutwardBackIdeal.sig) → Buf (Elt Ideal) ℓ) (g : Dev Cert.OutwardBackIdeal.nD → PrngReg), Pre_OutwardBackIdeal m →
    θ_run (Cert.OutwardBackIdeal.defs (F := Ideal)) (onTc (τ := Cert.OutwardBackIdeal.τ) (Cert.OutwardBackIdeal.main (F := Ideal))) ⟨m, fun _ => 0, g⟩ (fun r => (∀ c : Dev Cert.OutwardBackIdeal.nD,
      r.2.mem ((c.tc : Thread Cert.OutwardBackIdeal.nD Cert.OutwardBackIdeal.τ).loc Cert.OutwardBackIdeal.main_arg0) = m ((c.tc : Thread Cert.OutwardBackIdeal.nD Cert.OutwardBackIdeal.τ).loc Cert.OutwardBackIdeal.main_arg0)
      ∧ r.2.mem ((c.tc : Thread Cert.OutwardBackIdeal.nD Cert.OutwardBackIdeal.τ).loc Cert.OutwardBackIdeal.main_arg1) = m ((c.tc : Thread Cert.OutwardBackIdeal.nD Cert.OutwardBackIdeal.τ).loc Cert.OutwardBackIdeal.main_arg1))
      ∧ r.2.sem = fun _ => 0)

def quiescent_OutwardBackReferenceIdeal [hOutwardBackReferenceIdeal : Cert.OutwardBackReferenceIdeal.Facts] : Prop :=
  ∀ (m : (ℓ : Loc Cert.OutwardBackReferenceIdeal.nD Cert.OutwardBackReferenceIdeal.τ Cert.OutwardBackReferenceIdeal.sig) → Buf (Elt Ideal) ℓ) (g : Dev Cert.OutwardBackReferenceIdeal.nD → PrngReg), Pre_OutwardBackReferenceIdeal m →
    θ_run (Cert.OutwardBackReferenceIdeal.defs (F := Ideal)) (onTc (τ := Cert.OutwardBackReferenceIdeal.τ) (Cert.OutwardBackReferenceIdeal.main (F := Ideal))) ⟨m, fun _ => 0, g⟩ (fun r => (∀ c : Dev Cert.OutwardBackReferenceIdeal.nD,
      r.2.mem ((c.tc : Thread Cert.OutwardBackReferenceIdeal.nD Cert.OutwardBackReferenceIdeal.τ).loc Cert.OutwardBackReferenceIdeal.main_arg0) = m ((c.tc : Thread Cert.OutwardBackReferenceIdeal.nD Cert.OutwardBackReferenceIdeal.τ).loc Cert.OutwardBackReferenceIdeal.main_arg0)
      ∧ r.2.mem ((c.tc : Thread Cert.OutwardBackReferenceIdeal.nD Cert.OutwardBackReferenceIdeal.τ).loc Cert.OutwardBackReferenceIdeal.main_arg1) = m ((c.tc : Thread Cert.OutwardBackReferenceIdeal.nD Cert.OutwardBackReferenceIdeal.τ).loc Cert.OutwardBackReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)) (v3 : (c : Dev Cert.KernelIdeal.nD) → Buf (Elt Ideal) ((c.tc : Thread Cert.KernelIdeal.nD Cert.KernelIdeal.τ).loc Cert.KernelIdeal.main_v5_3)) (v4 : (c : Dev Cert.KernelIdeal.nD) → Buf (Elt Ideal) ((c.tc : Thread Cert.KernelIdeal.nD Cert.KernelIdeal.τ).loc Cert.KernelIdeal.main_v5_4)) (v5 : (c : Dev Cert.KernelIdeal.nD) → Buf (Elt Ideal) ((c.tc : Thread Cert.KernelIdeal.nD Cert.KernelIdeal.τ).loc Cert.KernelIdeal.main_v5_5)) (v6 : (c : Dev Cert.KernelIdeal.nD) → Buf (Elt Ideal) ((c.tc : Thread Cert.KernelIdeal.nD Cert.KernelIdeal.τ).loc Cert.KernelIdeal.main_v5_6)) (v7 : (c : Dev Cert.KernelIdeal.nD) → Buf (Elt Ideal) ((c.tc : Thread Cert.KernelIdeal.nD Cert.KernelIdeal.τ).loc Cert.KernelIdeal.main_v5_7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_v5_3) = v3 c
          ∧ r.2.mem ((c.tc : Thread Cert.KernelIdeal.nD Cert.KernelIdeal.τ).loc Cert.KernelIdeal.main_v5_4) = v4 c
          ∧ r.2.mem ((c.tc : Thread Cert.KernelIdeal.nD Cert.KernelIdeal.τ).loc Cert.KernelIdeal.main_v5_5) = v5 c
          ∧ r.2.mem ((c.tc : Thread Cert.KernelIdeal.nD Cert.KernelIdeal.τ).loc Cert.KernelIdeal.main_v5_6) = v6 c
          ∧ r.2.mem ((c.tc : Thread Cert.KernelIdeal.nD Cert.KernelIdeal.τ).loc Cert.KernelIdeal.main_v5_7) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_v80) = v1 c
          ∧ r.2.mem ((c.tc : Thread Cert.ReferenceIdeal.nD Cert.ReferenceIdeal.τ).loc Cert.ReferenceIdeal.main_v81) = v2 c
          ∧ r.2.mem ((c.tc : Thread Cert.ReferenceIdeal.nD Cert.ReferenceIdeal.τ).loc Cert.ReferenceIdeal.main_v82) = v3 c
          ∧ r.2.mem ((c.tc : Thread Cert.ReferenceIdeal.nD Cert.ReferenceIdeal.τ).loc Cert.ReferenceIdeal.main_v85) = v4 c
          ∧ r.2.mem ((c.tc : Thread Cert.ReferenceIdeal.nD Cert.ReferenceIdeal.τ).loc Cert.ReferenceIdeal.main_v88) = v5 c
          ∧ r.2.mem ((c.tc : Thread Cert.ReferenceIdeal.nD Cert.ReferenceIdeal.τ).loc Cert.ReferenceIdeal.main_v91) = v6 c
          ∧ r.2.mem ((c.tc : Thread Cert.ReferenceIdeal.nD Cert.ReferenceIdeal.τ).loc Cert.ReferenceIdeal.main_v94) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Product_ProductIdeal : Prop :=
  True

def algebraic_ProductIdeal_ProductReferenceIdeal [hProductIdeal : Cert.ProductIdeal.Facts] [hProductReferenceIdeal : Cert.ProductReferenceIdeal.Facts] : Prop :=
  ∀ (m : (ℓ : Loc Cert.ProductIdeal.nD Cert.ProductIdeal.τ Cert.ProductIdeal.sig) → Buf (Elt Ideal) ℓ) (g : Dev Cert.ProductIdeal.nD → PrngReg)
    (m' : (ℓ : Loc Cert.ProductReferenceIdeal.nD Cert.ProductReferenceIdeal.τ Cert.ProductReferenceIdeal.sig) → Buf (Elt Ideal) ℓ) (g' : Dev Cert.ProductReferenceIdeal.nD → PrngReg), Pre_ProductIdeal m →
    (∀ c : Dev Cert.ProductIdeal.nD,
      m' ((c.tc : Thread Cert.ProductReferenceIdeal.nD Cert.ProductReferenceIdeal.τ).loc Cert.ProductReferenceIdeal.main_arg0) = m ((c.tc : Thread Cert.ProductIdeal.nD Cert.ProductIdeal.τ).loc Cert.ProductIdeal.main_arg0)
      ∧ m' ((c.tc : Thread Cert.ProductReferenceIdeal.nD Cert.ProductReferenceIdeal.τ).loc Cert.ProductReferenceIdeal.main_arg1) = m ((c.tc : Thread Cert.ProductIdeal.nD Cert.ProductIdeal.τ).loc Cert.ProductIdeal.main_arg1)) →
    ∃ (v0 : (c : Dev Cert.ProductIdeal.nD) → Buf (Elt Ideal) ((c.tc : Thread Cert.ProductIdeal.nD Cert.ProductIdeal.τ).loc Cert.ProductIdeal.main_v0)),
      θ_run (Cert.ProductIdeal.defs (F := Ideal)) (onTc (τ := Cert.ProductIdeal.τ) (Cert.ProductIdeal.main (F := Ideal))) ⟨m, fun _ => 0, g⟩ (fun r => ∀ c : Dev Cert.ProductIdeal.nD,
          r.2.mem ((c.tc : Thread Cert.ProductIdeal.nD Cert.ProductIdeal.τ).loc Cert.ProductIdeal.main_v0) = v0 c
          ∧ r.2.mem ((c.tc : Thread Cert.ProductIdeal.nD Cert.ProductIdeal.τ).loc Cert.ProductIdeal.main_arg0) = m ((c.tc : Thread Cert.ProductIdeal.nD Cert.ProductIdeal.τ).loc Cert.ProductIdeal.main_arg0)
          ∧ r.2.mem ((c.tc : Thread Cert.ProductIdeal.nD Cert.ProductIdeal.τ).loc Cert.ProductIdeal.main_arg1) = m ((c.tc : Thread Cert.ProductIdeal.nD Cert.ProductIdeal.τ).loc Cert.ProductIdeal.main_arg1))
      ∧ θ_run (Cert.ProductReferenceIdeal.defs (F := Ideal)) (onTc (τ := Cert.ProductReferenceIdeal.τ) (Cert.ProductReferenceIdeal.main (F := Ideal))) ⟨m', fun _ => 0, g'⟩ (fun r => ∀ c : Dev Cert.ProductReferenceIdeal.nD,
          r.2.mem ((c.tc : Thread Cert.ProductReferenceIdeal.nD Cert.ProductReferenceIdeal.τ).loc Cert.ProductReferenceIdeal.main_v8) = v0 c
          ∧ r.2.mem ((c.tc : Thread Cert.ProductReferenceIdeal.nD Cert.ProductReferenceIdeal.τ).loc Cert.ProductReferenceIdeal.main_arg0) = m' ((c.tc : Thread Cert.ProductReferenceIdeal.nD Cert.ProductReferenceIdeal.τ).loc Cert.ProductReferenceIdeal.main_arg0)
          ∧ r.2.mem ((c.tc : Thread Cert.ProductReferenceIdeal.nD Cert.ProductReferenceIdeal.τ).loc Cert.ProductReferenceIdeal.main_arg1) = m' ((c.tc : Thread Cert.ProductReferenceIdeal.nD Cert.ProductReferenceIdeal.τ).loc Cert.ProductReferenceIdeal.main_arg1))

def preserves_Forward_ForwardIdeal : Prop :=
  True

def algebraic_ForwardIdeal_ForwardReferenceIdeal [hForwardIdeal : Cert.ForwardIdeal.Facts] [hForwardReferenceIdeal : Cert.ForwardReferenceIdeal.Facts] : Prop :=
  ∀ (m : (ℓ : Loc Cert.ForwardIdeal.nD Cert.ForwardIdeal.τ Cert.ForwardIdeal.sig) → Buf (Elt Ideal) ℓ) (g : Dev Cert.ForwardIdeal.nD → PrngReg)
    (m' : (ℓ : Loc Cert.ForwardReferenceIdeal.nD Cert.ForwardReferenceIdeal.τ Cert.ForwardReferenceIdeal.sig) → Buf (Elt Ideal) ℓ) (g' : Dev Cert.ForwardReferenceIdeal.nD → PrngReg), Pre_ForwardIdeal m →
    (∀ c : Dev Cert.ForwardIdeal.nD,
      m' ((c.tc : Thread Cert.ForwardReferenceIdeal.nD Cert.ForwardReferenceIdeal.τ).loc Cert.ForwardReferenceIdeal.main_arg0) = m ((c.tc : Thread Cert.ForwardIdeal.nD Cert.ForwardIdeal.τ).loc Cert.ForwardIdeal.main_arg0)
      ∧ m' ((c.tc : Thread Cert.ForwardReferenceIdeal.nD Cert.ForwardReferenceIdeal.τ).loc Cert.ForwardReferenceIdeal.main_arg1) = m ((c.tc : Thread Cert.ForwardIdeal.nD Cert.ForwardIdeal.τ).loc Cert.ForwardIdeal.main_arg1)
      ∧ m' ((c.tc : Thread Cert.ForwardReferenceIdeal.nD Cert.ForwardReferenceIdeal.τ).loc Cert.ForwardReferenceIdeal.main_arg2) = m ((c.tc : Thread Cert.ForwardIdeal.nD Cert.ForwardIdeal.τ).loc Cert.ForwardIdeal.main_arg2)
      ∧ m' ((c.tc : Thread Cert.ForwardReferenceIdeal.nD Cert.ForwardReferenceIdeal.τ).loc Cert.ForwardReferenceIdeal.main_arg3) = m ((c.tc : Thread Cert.ForwardIdeal.nD Cert.ForwardIdeal.τ).loc Cert.ForwardIdeal.main_arg3)) →
    ∃ (v0 : (c : Dev Cert.ForwardIdeal.nD) → Buf (Elt Ideal) ((c.tc : Thread Cert.ForwardIdeal.nD Cert.ForwardIdeal.τ).loc Cert.ForwardIdeal.main_v5)),
      θ_run (Cert.ForwardIdeal.defs (F := Ideal)) (onTc (τ := Cert.ForwardIdeal.τ) (Cert.ForwardIdeal.main (F := Ideal))) ⟨m, fun _ => 0, g⟩ (fun r => ∀ c : Dev Cert.ForwardIdeal.nD,
          r.2.mem ((c.tc : Thread Cert.ForwardIdeal.nD Cert.ForwardIdeal.τ).loc Cert.ForwardIdeal.main_v5) = v0 c
          ∧ r.2.mem ((c.tc : Thread Cert.ForwardIdeal.nD Cert.ForwardIdeal.τ).loc Cert.ForwardIdeal.main_arg0) = m ((c.tc : Thread Cert.ForwardIdeal.nD Cert.ForwardIdeal.τ).loc Cert.ForwardIdeal.main_arg0)
          ∧ r.2.mem ((c.tc : Thread Cert.ForwardIdeal.nD Cert.ForwardIdeal.τ).loc Cert.ForwardIdeal.main_arg1) = m ((c.tc : Thread Cert.ForwardIdeal.nD Cert.ForwardIdeal.τ).loc Cert.ForwardIdeal.main_arg1)
          ∧ r.2.mem ((c.tc : Thread Cert.ForwardIdeal.nD Cert.ForwardIdeal.τ).loc Cert.ForwardIdeal.main_arg2) = m ((c.tc : Thread Cert.ForwardIdeal.nD Cert.ForwardIdeal.τ).loc Cert.ForwardIdeal.main_arg2)
          ∧ r.2.mem ((c.tc : Thread Cert.ForwardIdeal.nD Cert.ForwardIdeal.τ).loc Cert.ForwardIdeal.main_arg3) = m ((c.tc : Thread Cert.ForwardIdeal.nD Cert.ForwardIdeal.τ).loc Cert.ForwardIdeal.main_arg3))
      ∧ θ_run (Cert.ForwardReferenceIdeal.defs (F := Ideal)) (onTc (τ := Cert.ForwardReferenceIdeal.τ) (Cert.ForwardReferenceIdeal.main (F := Ideal))) ⟨m', fun _ => 0, g'⟩ (fun r => ∀ c : Dev Cert.ForwardReferenceIdeal.nD,
          r.2.mem ((c.tc : Thread Cert.ForwardReferenceIdeal.nD Cert.ForwardReferenceIdeal.τ).loc Cert.ForwardReferenceIdeal.main_v21) = v0 c
          ∧ r.2.mem ((c.tc : Thread Cert.ForwardReferenceIdeal.nD Cert.ForwardReferenceIdeal.τ).loc Cert.ForwardReferenceIdeal.main_arg0) = m' ((c.tc : Thread Cert.ForwardReferenceIdeal.nD Cert.ForwardReferenceIdeal.τ).loc Cert.ForwardReferenceIdeal.main_arg0)
          ∧ r.2.mem ((c.tc : Thread Cert.ForwardReferenceIdeal.nD Cert.ForwardReferenceIdeal.τ).loc Cert.ForwardReferenceIdeal.main_arg1) = m' ((c.tc : Thread Cert.ForwardReferenceIdeal.nD Cert.ForwardReferenceIdeal.τ).loc Cert.ForwardReferenceIdeal.main_arg1)
          ∧ r.2.mem ((c.tc : Thread Cert.ForwardReferenceIdeal.nD Cert.ForwardReferenceIdeal.τ).loc Cert.ForwardReferenceIdeal.main_arg2) = m' ((c.tc : Thread Cert.ForwardReferenceIdeal.nD Cert.ForwardReferenceIdeal.τ).loc Cert.ForwardReferenceIdeal.main_arg2)
          ∧ r.2.mem ((c.tc : Thread Cert.ForwardReferenceIdeal.nD Cert.ForwardReferenceIdeal.τ).loc Cert.ForwardReferenceIdeal.main_arg3) = m' ((c.tc : Thread Cert.ForwardReferenceIdeal.nD Cert.ForwardReferenceIdeal.τ).loc Cert.ForwardReferenceIdeal.main_arg3))

def preserves_Weight_WeightIdeal : Prop :=
  True

def algebraic_WeightIdeal_WeightReferenceIdeal [hWeightIdeal : Cert.WeightIdeal.Facts] [hWeightReferenceIdeal : Cert.WeightReferenceIdeal.Facts] : Prop :=
  ∀ (m : (ℓ : Loc Cert.WeightIdeal.nD Cert.WeightIdeal.τ Cert.WeightIdeal.sig) → Buf (Elt Ideal) ℓ) (g : Dev Cert.WeightIdeal.nD → PrngReg)
    (m' : (ℓ : Loc Cert.WeightReferenceIdeal.nD Cert.WeightReferenceIdeal.τ Cert.WeightReferenceIdeal.sig) → Buf (Elt Ideal) ℓ) (g' : Dev Cert.WeightReferenceIdeal.nD → PrngReg), Pre_WeightIdeal m →
    (∀ c : Dev Cert.WeightIdeal.nD,
      m' ((c.tc : Thread Cert.WeightReferenceIdeal.nD Cert.WeightReferenceIdeal.τ).loc Cert.WeightReferenceIdeal.main_arg0) = m ((c.tc : Thread Cert.WeightIdeal.nD Cert.WeightIdeal.τ).loc Cert.WeightIdeal.main_arg0)
      ∧ m' ((c.tc : Thread Cert.WeightReferenceIdeal.nD Cert.WeightReferenceIdeal.τ).loc Cert.WeightReferenceIdeal.main_arg1) = m ((c.tc : Thread Cert.WeightIdeal.nD Cert.WeightIdeal.τ).loc Cert.WeightIdeal.main_arg1)) →
    ∃ (v0 : (c : Dev Cert.WeightIdeal.nD) → Buf (Elt Ideal) ((c.tc : Thread Cert.WeightIdeal.nD Cert.WeightIdeal.τ).loc Cert.WeightIdeal.main_v0)),
      θ_run (Cert.WeightIdeal.defs (F := Ideal)) (onTc (τ := Cert.WeightIdeal.τ) (Cert.WeightIdeal.main (F := Ideal))) ⟨m, fun _ => 0, g⟩ (fun r => ∀ c : Dev Cert.WeightIdeal.nD,
          r.2.mem ((c.tc : Thread Cert.WeightIdeal.nD Cert.WeightIdeal.τ).loc Cert.WeightIdeal.main_v0) = v0 c
          ∧ r.2.mem ((c.tc : Thread Cert.WeightIdeal.nD Cert.WeightIdeal.τ).loc Cert.WeightIdeal.main_arg0) = m ((c.tc : Thread Cert.WeightIdeal.nD Cert.WeightIdeal.τ).loc Cert.WeightIdeal.main_arg0)
          ∧ r.2.mem ((c.tc : Thread Cert.WeightIdeal.nD Cert.WeightIdeal.τ).loc Cert.WeightIdeal.main_arg1) = m ((c.tc : Thread Cert.WeightIdeal.nD Cert.WeightIdeal.τ).loc Cert.WeightIdeal.main_arg1))
      ∧ θ_run (Cert.WeightReferenceIdeal.defs (F := Ideal)) (onTc (τ := Cert.WeightReferenceIdeal.τ) (Cert.WeightReferenceIdeal.main (F := Ideal))) ⟨m', fun _ => 0, g'⟩ (fun r => ∀ c : Dev Cert.WeightReferenceIdeal.nD,
          r.2.mem ((c.tc : Thread Cert.WeightReferenceIdeal.nD Cert.WeightReferenceIdeal.τ).loc Cert.WeightReferenceIdeal.main_v8) = v0 c
          ∧ r.2.mem ((c.tc : Thread Cert.WeightReferenceIdeal.nD Cert.WeightReferenceIdeal.τ).loc Cert.WeightReferenceIdeal.main_arg0) = m' ((c.tc : Thread Cert.WeightReferenceIdeal.nD Cert.WeightReferenceIdeal.τ).loc Cert.WeightReferenceIdeal.main_arg0)
          ∧ r.2.mem ((c.tc : Thread Cert.WeightReferenceIdeal.nD Cert.WeightReferenceIdeal.τ).loc Cert.WeightReferenceIdeal.main_arg1) = m' ((c.tc : Thread Cert.WeightReferenceIdeal.nD Cert.WeightReferenceIdeal.τ).loc Cert.WeightReferenceIdeal.main_arg1))

def preserves_Back_BackIdeal : Prop :=
  True

def algebraic_BackIdeal_BackReferenceIdeal [hBackIdeal : Cert.BackIdeal.Facts] [hBackReferenceIdeal : Cert.BackReferenceIdeal.Facts] : Prop :=
  ∀ (m : (ℓ : Loc Cert.BackIdeal.nD Cert.BackIdeal.τ Cert.BackIdeal.sig) → Buf (Elt Ideal) ℓ) (g : Dev Cert.BackIdeal.nD → PrngReg)
    (m' : (ℓ : Loc Cert.BackReferenceIdeal.nD Cert.BackReferenceIdeal.τ Cert.BackReferenceIdeal.sig) → Buf (Elt Ideal) ℓ) (g' : Dev Cert.BackReferenceIdeal.nD → PrngReg), Pre_BackIdeal m →
    (∀ c : Dev Cert.BackIdeal.nD,
      m' ((c.tc : Thread Cert.BackReferenceIdeal.nD Cert.BackReferenceIdeal.τ).loc Cert.BackReferenceIdeal.main_arg0) = m ((c.tc : Thread Cert.BackIdeal.nD Cert.BackIdeal.τ).loc Cert.BackIdeal.main_arg0)
      ∧ m' ((c.tc : Thread Cert.BackReferenceIdeal.nD Cert.BackReferenceIdeal.τ).loc Cert.BackReferenceIdeal.main_arg1) = m ((c.tc : Thread Cert.BackIdeal.nD Cert.BackIdeal.τ).loc Cert.BackIdeal.main_arg1)
      ∧ m' ((c.tc : Thread Cert.BackReferenceIdeal.nD Cert.BackReferenceIdeal.τ).loc Cert.BackReferenceIdeal.main_arg2) = m ((c.tc : Thread Cert.BackIdeal.nD Cert.BackIdeal.τ).loc Cert.BackIdeal.main_arg2)) →
    ∃ (v0 : (c : Dev Cert.BackIdeal.nD) → Buf (Elt Ideal) ((c.tc : Thread Cert.BackIdeal.nD Cert.BackIdeal.τ).loc Cert.BackIdeal.main_v0)),
      θ_run (Cert.BackIdeal.defs (F := Ideal)) (onTc (τ := Cert.BackIdeal.τ) (Cert.BackIdeal.main (F := Ideal))) ⟨m, fun _ => 0, g⟩ (fun r => ∀ c : Dev Cert.BackIdeal.nD,
          r.2.mem ((c.tc : Thread Cert.BackIdeal.nD Cert.BackIdeal.τ).loc Cert.BackIdeal.main_v0) = v0 c
          ∧ r.2.mem ((c.tc : Thread Cert.BackIdeal.nD Cert.BackIdeal.τ).loc Cert.BackIdeal.main_arg0) = m ((c.tc : Thread Cert.BackIdeal.nD Cert.BackIdeal.τ).loc Cert.BackIdeal.main_arg0)
          ∧ r.2.mem ((c.tc : Thread Cert.BackIdeal.nD Cert.BackIdeal.τ).loc Cert.BackIdeal.main_arg1) = m ((c.tc : Thread Cert.BackIdeal.nD Cert.BackIdeal.τ).loc Cert.BackIdeal.main_arg1)
          ∧ r.2.mem ((c.tc : Thread Cert.BackIdeal.nD Cert.BackIdeal.τ).loc Cert.BackIdeal.main_arg2) = m ((c.tc : Thread Cert.BackIdeal.nD Cert.BackIdeal.τ).loc Cert.BackIdeal.main_arg2))
      ∧ θ_run (Cert.BackReferenceIdeal.defs (F := Ideal)) (onTc (τ := Cert.BackReferenceIdeal.τ) (Cert.BackReferenceIdeal.main (F := Ideal))) ⟨m', fun _ => 0, g'⟩ (fun r => ∀ c : Dev Cert.BackReferenceIdeal.nD,
          r.2.mem ((c.tc : Thread Cert.BackReferenceIdeal.nD Cert.BackReferenceIdeal.τ).loc Cert.BackReferenceIdeal.main_v6) = v0 c
          ∧ r.2.mem ((c.tc : Thread Cert.BackReferenceIdeal.nD Cert.BackReferenceIdeal.τ).loc Cert.BackReferenceIdeal.main_arg0) = m' ((c.tc : Thread Cert.BackReferenceIdeal.nD Cert.BackReferenceIdeal.τ).loc Cert.BackReferenceIdeal.main_arg0)
          ∧ r.2.mem ((c.tc : Thread Cert.BackReferenceIdeal.nD Cert.BackReferenceIdeal.τ).loc Cert.BackReferenceIdeal.main_arg1) = m' ((c.tc : Thread Cert.BackReferenceIdeal.nD Cert.BackReferenceIdeal.τ).loc Cert.BackReferenceIdeal.main_arg1)
          ∧ r.2.mem ((c.tc : Thread Cert.BackReferenceIdeal.nD Cert.BackReferenceIdeal.τ).loc Cert.BackReferenceIdeal.main_arg2) = m' ((c.tc : Thread Cert.BackReferenceIdeal.nD Cert.BackReferenceIdeal.τ).loc Cert.BackReferenceIdeal.main_arg2))

def preserves_Inward_InwardIdeal : Prop :=
  True

def algebraic_InwardIdeal_InwardReferenceIdeal [hInwardIdeal : Cert.InwardIdeal.Facts] [hInwardReferenceIdeal : Cert.InwardReferenceIdeal.Facts] : Prop :=
  ∀ (m : (ℓ : Loc Cert.InwardIdeal.nD Cert.InwardIdeal.τ Cert.InwardIdeal.sig) → Buf (Elt Ideal) ℓ) (g : Dev Cert.InwardIdeal.nD → PrngReg)
    (m' : (ℓ : Loc Cert.InwardReferenceIdeal.nD Cert.InwardReferenceIdeal.τ Cert.InwardReferenceIdeal.sig) → Buf (Elt Ideal) ℓ) (g' : Dev Cert.InwardReferenceIdeal.nD → PrngReg), Pre_InwardIdeal m →
    (∀ c : Dev Cert.InwardIdeal.nD,
      m' ((c.tc : Thread Cert.InwardReferenceIdeal.nD Cert.InwardReferenceIdeal.τ).loc Cert.InwardReferenceIdeal.main_arg0) = m ((c.tc : Thread Cert.InwardIdeal.nD Cert.InwardIdeal.τ).loc Cert.InwardIdeal.main_arg0)
      ∧ m' ((c.tc : Thread Cert.InwardReferenceIdeal.nD Cert.InwardReferenceIdeal.τ).loc Cert.InwardReferenceIdeal.main_arg1) = m ((c.tc : Thread Cert.InwardIdeal.nD Cert.InwardIdeal.τ).loc Cert.InwardIdeal.main_arg1)) →
    ∃ (v0 : (c : Dev Cert.InwardIdeal.nD) → Buf (Elt Ideal) ((c.tc : Thread Cert.InwardIdeal.nD Cert.InwardIdeal.τ).loc Cert.InwardIdeal.main_v0)),
      θ_run (Cert.InwardIdeal.defs (F := Ideal)) (onTc (τ := Cert.InwardIdeal.τ) (Cert.InwardIdeal.main (F := Ideal))) ⟨m, fun _ => 0, g⟩ (fun r => ∀ c : Dev Cert.InwardIdeal.nD,
          r.2.mem ((c.tc : Thread Cert.InwardIdeal.nD Cert.InwardIdeal.τ).loc Cert.InwardIdeal.main_v0) = v0 c
          ∧ r.2.mem ((c.tc : Thread Cert.InwardIdeal.nD Cert.InwardIdeal.τ).loc Cert.InwardIdeal.main_arg0) = m ((c.tc : Thread Cert.InwardIdeal.nD Cert.InwardIdeal.τ).loc Cert.InwardIdeal.main_arg0)
          ∧ r.2.mem ((c.tc : Thread Cert.InwardIdeal.nD Cert.InwardIdeal.τ).loc Cert.InwardIdeal.main_arg1) = m ((c.tc : Thread Cert.InwardIdeal.nD Cert.InwardIdeal.τ).loc Cert.InwardIdeal.main_arg1))
      ∧ θ_run (Cert.InwardReferenceIdeal.defs (F := Ideal)) (onTc (τ := Cert.InwardReferenceIdeal.τ) (Cert.InwardReferenceIdeal.main (F := Ideal))) ⟨m', fun _ => 0, g'⟩ (fun r => ∀ c : Dev Cert.InwardReferenceIdeal.nD,
          r.2.mem ((c.tc : Thread Cert.InwardReferenceIdeal.nD Cert.InwardReferenceIdeal.τ).loc Cert.InwardReferenceIdeal.main_v3) = v0 c
          ∧ r.2.mem ((c.tc : Thread Cert.InwardReferenceIdeal.nD Cert.InwardReferenceIdeal.τ).loc Cert.InwardReferenceIdeal.main_arg0) = m' ((c.tc : Thread Cert.InwardReferenceIdeal.nD Cert.InwardReferenceIdeal.τ).loc Cert.InwardReferenceIdeal.main_arg0)
          ∧ r.2.mem ((c.tc : Thread Cert.InwardReferenceIdeal.nD Cert.InwardReferenceIdeal.τ).loc Cert.InwardReferenceIdeal.main_arg1) = m' ((c.tc : Thread Cert.InwardReferenceIdeal.nD Cert.InwardReferenceIdeal.τ).loc Cert.InwardReferenceIdeal.main_arg1))

def preserves_FirstBack_FirstBackIdeal : Prop :=
  True

def algebraic_FirstBackIdeal_FirstBackReferenceIdeal [hFirstBackIdeal : Cert.FirstBackIdeal.Facts] [hFirstBackReferenceIdeal : Cert.FirstBackReferenceIdeal.Facts] : Prop :=
  ∀ (m : (ℓ : Loc Cert.FirstBackIdeal.nD Cert.FirstBackIdeal.τ Cert.FirstBackIdeal.sig) → Buf (Elt Ideal) ℓ) (g : Dev Cert.FirstBackIdeal.nD → PrngReg)
    (m' : (ℓ : Loc Cert.FirstBackReferenceIdeal.nD Cert.FirstBackReferenceIdeal.τ Cert.FirstBackReferenceIdeal.sig) → Buf (Elt Ideal) ℓ) (g' : Dev Cert.FirstBackReferenceIdeal.nD → PrngReg), Pre_FirstBackIdeal m →
    (∀ c : Dev Cert.FirstBackIdeal.nD,
      m' ((c.tc : Thread Cert.FirstBackReferenceIdeal.nD Cert.FirstBackReferenceIdeal.τ).loc Cert.FirstBackReferenceIdeal.main_arg0) = m ((c.tc : Thread Cert.FirstBackIdeal.nD Cert.FirstBackIdeal.τ).loc Cert.FirstBackIdeal.main_arg0)
      ∧ m' ((c.tc : Thread Cert.FirstBackReferenceIdeal.nD Cert.FirstBackReferenceIdeal.τ).loc Cert.FirstBackReferenceIdeal.main_arg1) = m ((c.tc : Thread Cert.FirstBackIdeal.nD Cert.FirstBackIdeal.τ).loc Cert.FirstBackIdeal.main_arg1)) →
    ∃ (v0 : (c : Dev Cert.FirstBackIdeal.nD) → Buf (Elt Ideal) ((c.tc : Thread Cert.FirstBackIdeal.nD Cert.FirstBackIdeal.τ).loc Cert.FirstBackIdeal.main_v0)),
      θ_run (Cert.FirstBackIdeal.defs (F := Ideal)) (onTc (τ := Cert.FirstBackIdeal.τ) (Cert.FirstBackIdeal.main (F := Ideal))) ⟨m, fun _ => 0, g⟩ (fun r => ∀ c : Dev Cert.FirstBackIdeal.nD,
          r.2.mem ((c.tc : Thread Cert.FirstBackIdeal.nD Cert.FirstBackIdeal.τ).loc Cert.FirstBackIdeal.main_v0) = v0 c
          ∧ r.2.mem ((c.tc : Thread Cert.FirstBackIdeal.nD Cert.FirstBackIdeal.τ).loc Cert.FirstBackIdeal.main_arg0) = m ((c.tc : Thread Cert.FirstBackIdeal.nD Cert.FirstBackIdeal.τ).loc Cert.FirstBackIdeal.main_arg0)
          ∧ r.2.mem ((c.tc : Thread Cert.FirstBackIdeal.nD Cert.FirstBackIdeal.τ).loc Cert.FirstBackIdeal.main_arg1) = m ((c.tc : Thread Cert.FirstBackIdeal.nD Cert.FirstBackIdeal.τ).loc Cert.FirstBackIdeal.main_arg1))
      ∧ θ_run (Cert.FirstBackReferenceIdeal.defs (F := Ideal)) (onTc (τ := Cert.FirstBackReferenceIdeal.τ) (Cert.FirstBackReferenceIdeal.main (F := Ideal))) ⟨m', fun _ => 0, g'⟩ (fun r => ∀ c : Dev Cert.FirstBackReferenceIdeal.nD,
          r.2.mem ((c.tc : Thread Cert.FirstBackReferenceIdeal.nD Cert.FirstBackReferenceIdeal.τ).loc Cert.FirstBackReferenceIdeal.main_v5) = v0 c
          ∧ r.2.mem ((c.tc : Thread Cert.FirstBackReferenceIdeal.nD Cert.FirstBackReferenceIdeal.τ).loc Cert.FirstBackReferenceIdeal.main_arg0) = m' ((c.tc : Thread Cert.FirstBackReferenceIdeal.nD Cert.FirstBackReferenceIdeal.τ).loc Cert.FirstBackReferenceIdeal.main_arg0)
          ∧ r.2.mem ((c.tc : Thread Cert.FirstBackReferenceIdeal.nD Cert.FirstBackReferenceIdeal.τ).loc Cert.FirstBackReferenceIdeal.main_arg1) = m' ((c.tc : Thread Cert.FirstBackReferenceIdeal.nD Cert.FirstBackReferenceIdeal.τ).loc Cert.FirstBackReferenceIdeal.main_arg1))

def preserves_BranchInward_BranchInwardIdeal : Prop :=
  True

def algebraic_BranchInwardIdeal_BranchInwardReferenceIdeal [hBranchInwardIdeal : Cert.BranchInwardIdeal.Facts] [hBranchInwardReferenceIdeal : Cert.BranchInwardReferenceIdeal.Facts] : Prop :=
  ∀ (m : (ℓ : Loc Cert.BranchInwardIdeal.nD Cert.BranchInwardIdeal.τ Cert.BranchInwardIdeal.sig) → Buf (Elt Ideal) ℓ) (g : Dev Cert.BranchInwardIdeal.nD → PrngReg)
    (m' : (ℓ : Loc Cert.BranchInwardReferenceIdeal.nD Cert.BranchInwardReferenceIdeal.τ Cert.BranchInwardReferenceIdeal.sig) → Buf (Elt Ideal) ℓ) (g' : Dev Cert.BranchInwardReferenceIdeal.nD → PrngReg), Pre_BranchInwardIdeal m →
    (∀ c : Dev Cert.BranchInwardIdeal.nD,
      m' ((c.tc : Thread Cert.BranchInwardReferenceIdeal.nD Cert.BranchInwardReferenceIdeal.τ).loc Cert.BranchInwardReferenceIdeal.main_arg0) = m ((c.tc : Thread Cert.BranchInwardIdeal.nD Cert.BranchInwardIdeal.τ).loc Cert.BranchInwardIdeal.main_arg0)
      ∧ m' ((c.tc : Thread Cert.BranchInwardReferenceIdeal.nD Cert.BranchInwardReferenceIdeal.τ).loc Cert.BranchInwardReferenceIdeal.main_arg1) = m ((c.tc : Thread Cert.BranchInwardIdeal.nD Cert.BranchInwardIdeal.τ).loc Cert.BranchInwardIdeal.main_arg1)) →
    ∃ (v0 : (c : Dev Cert.BranchInwardIdeal.nD) → Buf (Elt Ideal) ((c.tc : Thread Cert.BranchInwardIdeal.nD Cert.BranchInwardIdeal.τ).loc Cert.BranchInwardIdeal.main_v0)),
      θ_run (Cert.BranchInwardIdeal.defs (F := Ideal)) (onTc (τ := Cert.BranchInwardIdeal.τ) (Cert.BranchInwardIdeal.main (F := Ideal))) ⟨m, fun _ => 0, g⟩ (fun r => ∀ c : Dev Cert.BranchInwardIdeal.nD,
          r.2.mem ((c.tc : Thread Cert.BranchInwardIdeal.nD Cert.BranchInwardIdeal.τ).loc Cert.BranchInwardIdeal.main_v0) = v0 c
          ∧ r.2.mem ((c.tc : Thread Cert.BranchInwardIdeal.nD Cert.BranchInwardIdeal.τ).loc Cert.BranchInwardIdeal.main_arg0) = m ((c.tc : Thread Cert.BranchInwardIdeal.nD Cert.BranchInwardIdeal.τ).loc Cert.BranchInwardIdeal.main_arg0)
          ∧ r.2.mem ((c.tc : Thread Cert.BranchInwardIdeal.nD Cert.BranchInwardIdeal.τ).loc Cert.BranchInwardIdeal.main_arg1) = m ((c.tc : Thread Cert.BranchInwardIdeal.nD Cert.BranchInwardIdeal.τ).loc Cert.BranchInwardIdeal.main_arg1))
      ∧ θ_run (Cert.BranchInwardReferenceIdeal.defs (F := Ideal)) (onTc (τ := Cert.BranchInwardReferenceIdeal.τ) (Cert.BranchInwardReferenceIdeal.main (F := Ideal))) ⟨m', fun _ => 0, g'⟩ (fun r => ∀ c : Dev Cert.BranchInwardReferenceIdeal.nD,
          r.2.mem ((c.tc : Thread Cert.BranchInwardReferenceIdeal.nD Cert.BranchInwardReferenceIdeal.τ).loc Cert.BranchInwardReferenceIdeal.main_v3) = v0 c
          ∧ r.2.mem ((c.tc : Thread Cert.BranchInwardReferenceIdeal.nD Cert.BranchInwardReferenceIdeal.τ).loc Cert.BranchInwardReferenceIdeal.main_arg0) = m' ((c.tc : Thread Cert.BranchInwardReferenceIdeal.nD Cert.BranchInwardReferenceIdeal.τ).loc Cert.BranchInwardReferenceIdeal.main_arg0)
          ∧ r.2.mem ((c.tc : Thread Cert.BranchInwardReferenceIdeal.nD Cert.BranchInwardReferenceIdeal.τ).loc Cert.BranchInwardReferenceIdeal.main_arg1) = m' ((c.tc : Thread Cert.BranchInwardReferenceIdeal.nD Cert.BranchInwardReferenceIdeal.τ).loc Cert.BranchInwardReferenceIdeal.main_arg1))

def preserves_BranchWeight_BranchWeightIdeal : Prop :=
  True

def algebraic_BranchWeightIdeal_BranchWeightReferenceIdeal [hBranchWeightIdeal : Cert.BranchWeightIdeal.Facts] [hBranchWeightReferenceIdeal : Cert.BranchWeightReferenceIdeal.Facts] : Prop :=
  ∀ (m : (ℓ : Loc Cert.BranchWeightIdeal.nD Cert.BranchWeightIdeal.τ Cert.BranchWeightIdeal.sig) → Buf (Elt Ideal) ℓ) (g : Dev Cert.BranchWeightIdeal.nD → PrngReg)
    (m' : (ℓ : Loc Cert.BranchWeightReferenceIdeal.nD Cert.BranchWeightReferenceIdeal.τ Cert.BranchWeightReferenceIdeal.sig) → Buf (Elt Ideal) ℓ) (g' : Dev Cert.BranchWeightReferenceIdeal.nD → PrngReg), Pre_BranchWeightIdeal m →
    (∀ c : Dev Cert.BranchWeightIdeal.nD,
      m' ((c.tc : Thread Cert.BranchWeightReferenceIdeal.nD Cert.BranchWeightReferenceIdeal.τ).loc Cert.BranchWeightReferenceIdeal.main_arg0) = m ((c.tc : Thread Cert.BranchWeightIdeal.nD Cert.BranchWeightIdeal.τ).loc Cert.BranchWeightIdeal.main_arg0)
      ∧ m' ((c.tc : Thread Cert.BranchWeightReferenceIdeal.nD Cert.BranchWeightReferenceIdeal.τ).loc Cert.BranchWeightReferenceIdeal.main_arg1) = m ((c.tc : Thread Cert.BranchWeightIdeal.nD Cert.BranchWeightIdeal.τ).loc Cert.BranchWeightIdeal.main_arg1)) →
    ∃ (v0 : (c : Dev Cert.BranchWeightIdeal.nD) → Buf (Elt Ideal) ((c.tc : Thread Cert.BranchWeightIdeal.nD Cert.BranchWeightIdeal.τ).loc Cert.BranchWeightIdeal.main_v0)),
      θ_run (Cert.BranchWeightIdeal.defs (F := Ideal)) (onTc (τ := Cert.BranchWeightIdeal.τ) (Cert.BranchWeightIdeal.main (F := Ideal))) ⟨m, fun _ => 0, g⟩ (fun r => ∀ c : Dev Cert.BranchWeightIdeal.nD,
          r.2.mem ((c.tc : Thread Cert.BranchWeightIdeal.nD Cert.BranchWeightIdeal.τ).loc Cert.BranchWeightIdeal.main_v0) = v0 c
          ∧ r.2.mem ((c.tc : Thread Cert.BranchWeightIdeal.nD Cert.BranchWeightIdeal.τ).loc Cert.BranchWeightIdeal.main_arg0) = m ((c.tc : Thread Cert.BranchWeightIdeal.nD Cert.BranchWeightIdeal.τ).loc Cert.BranchWeightIdeal.main_arg0)
          ∧ r.2.mem ((c.tc : Thread Cert.BranchWeightIdeal.nD Cert.BranchWeightIdeal.τ).loc Cert.BranchWeightIdeal.main_arg1) = m ((c.tc : Thread Cert.BranchWeightIdeal.nD Cert.BranchWeightIdeal.τ).loc Cert.BranchWeightIdeal.main_arg1))
      ∧ θ_run (Cert.BranchWeightReferenceIdeal.defs (F := Ideal)) (onTc (τ := Cert.BranchWeightReferenceIdeal.τ) (Cert.BranchWeightReferenceIdeal.main (F := Ideal))) ⟨m', fun _ => 0, g'⟩ (fun r => ∀ c : Dev Cert.BranchWeightReferenceIdeal.nD,
          r.2.mem ((c.tc : Thread Cert.BranchWeightReferenceIdeal.nD Cert.BranchWeightReferenceIdeal.τ).loc Cert.BranchWeightReferenceIdeal.main_v8) = v0 c
          ∧ r.2.mem ((c.tc : Thread Cert.BranchWeightReferenceIdeal.nD Cert.BranchWeightReferenceIdeal.τ).loc Cert.BranchWeightReferenceIdeal.main_arg0) = m' ((c.tc : Thread Cert.BranchWeightReferenceIdeal.nD Cert.BranchWeightReferenceIdeal.τ).loc Cert.BranchWeightReferenceIdeal.main_arg0)
          ∧ r.2.mem ((c.tc : Thread Cert.BranchWeightReferenceIdeal.nD Cert.BranchWeightReferenceIdeal.τ).loc Cert.BranchWeightReferenceIdeal.main_arg1) = m' ((c.tc : Thread Cert.BranchWeightReferenceIdeal.nD Cert.BranchWeightReferenceIdeal.τ).loc Cert.BranchWeightReferenceIdeal.main_arg1))

def preserves_BranchBack_BranchBackIdeal : Prop :=
  True

def algebraic_BranchBackIdeal_BranchBackReferenceIdeal [hBranchBackIdeal : Cert.BranchBackIdeal.Facts] [hBranchBackReferenceIdeal : Cert.BranchBackReferenceIdeal.Facts] : Prop :=
  ∀ (m : (ℓ : Loc Cert.BranchBackIdeal.nD Cert.BranchBackIdeal.τ Cert.BranchBackIdeal.sig) → Buf (Elt Ideal) ℓ) (g : Dev Cert.BranchBackIdeal.nD → PrngReg)
    (m' : (ℓ : Loc Cert.BranchBackReferenceIdeal.nD Cert.BranchBackReferenceIdeal.τ Cert.BranchBackReferenceIdeal.sig) → Buf (Elt Ideal) ℓ) (g' : Dev Cert.BranchBackReferenceIdeal.nD → PrngReg), Pre_BranchBackIdeal m →
    (∀ c : Dev Cert.BranchBackIdeal.nD,
      m' ((c.tc : Thread Cert.BranchBackReferenceIdeal.nD Cert.BranchBackReferenceIdeal.τ).loc Cert.BranchBackReferenceIdeal.main_arg0) = m ((c.tc : Thread Cert.BranchBackIdeal.nD Cert.BranchBackIdeal.τ).loc Cert.BranchBackIdeal.main_arg0)
      ∧ m' ((c.tc : Thread Cert.BranchBackReferenceIdeal.nD Cert.BranchBackReferenceIdeal.τ).loc Cert.BranchBackReferenceIdeal.main_arg1) = m ((c.tc : Thread Cert.BranchBackIdeal.nD Cert.BranchBackIdeal.τ).loc Cert.BranchBackIdeal.main_arg1)
      ∧ m' ((c.tc : Thread Cert.BranchBackReferenceIdeal.nD Cert.BranchBackReferenceIdeal.τ).loc Cert.BranchBackReferenceIdeal.main_arg2) = m ((c.tc : Thread Cert.BranchBackIdeal.nD Cert.BranchBackIdeal.τ).loc Cert.BranchBackIdeal.main_arg2)) →
    ∃ (v0 : (c : Dev Cert.BranchBackIdeal.nD) → Buf (Elt Ideal) ((c.tc : Thread Cert.BranchBackIdeal.nD Cert.BranchBackIdeal.τ).loc Cert.BranchBackIdeal.main_v0)),
      θ_run (Cert.BranchBackIdeal.defs (F := Ideal)) (onTc (τ := Cert.BranchBackIdeal.τ) (Cert.BranchBackIdeal.main (F := Ideal))) ⟨m, fun _ => 0, g⟩ (fun r => ∀ c : Dev Cert.BranchBackIdeal.nD,
          r.2.mem ((c.tc : Thread Cert.BranchBackIdeal.nD Cert.BranchBackIdeal.τ).loc Cert.BranchBackIdeal.main_v0) = v0 c
          ∧ r.2.mem ((c.tc : Thread Cert.BranchBackIdeal.nD Cert.BranchBackIdeal.τ).loc Cert.BranchBackIdeal.main_arg0) = m ((c.tc : Thread Cert.BranchBackIdeal.nD Cert.BranchBackIdeal.τ).loc Cert.BranchBackIdeal.main_arg0)
          ∧ r.2.mem ((c.tc : Thread Cert.BranchBackIdeal.nD Cert.BranchBackIdeal.τ).loc Cert.BranchBackIdeal.main_arg1) = m ((c.tc : Thread Cert.BranchBackIdeal.nD Cert.BranchBackIdeal.τ).loc Cert.BranchBackIdeal.main_arg1)
          ∧ r.2.mem ((c.tc : Thread Cert.BranchBackIdeal.nD Cert.BranchBackIdeal.τ).loc Cert.BranchBackIdeal.main_arg2) = m ((c.tc : Thread Cert.BranchBackIdeal.nD Cert.BranchBackIdeal.τ).loc Cert.BranchBackIdeal.main_arg2))
      ∧ θ_run (Cert.BranchBackReferenceIdeal.defs (F := Ideal)) (onTc (τ := Cert.BranchBackReferenceIdeal.τ) (Cert.BranchBackReferenceIdeal.main (F := Ideal))) ⟨m', fun _ => 0, g'⟩ (fun r => ∀ c : Dev Cert.BranchBackReferenceIdeal.nD,
          r.2.mem ((c.tc : Thread Cert.BranchBackReferenceIdeal.nD Cert.BranchBackReferenceIdeal.τ).loc Cert.BranchBackReferenceIdeal.main_v6) = v0 c
          ∧ r.2.mem ((c.tc : Thread Cert.BranchBackReferenceIdeal.nD Cert.BranchBackReferenceIdeal.τ).loc Cert.BranchBackReferenceIdeal.main_arg0) = m' ((c.tc : Thread Cert.BranchBackReferenceIdeal.nD Cert.BranchBackReferenceIdeal.τ).loc Cert.BranchBackReferenceIdeal.main_arg0)
          ∧ r.2.mem ((c.tc : Thread Cert.BranchBackReferenceIdeal.nD Cert.BranchBackReferenceIdeal.τ).loc Cert.BranchBackReferenceIdeal.main_arg1) = m' ((c.tc : Thread Cert.BranchBackReferenceIdeal.nD Cert.BranchBackReferenceIdeal.τ).loc Cert.BranchBackReferenceIdeal.main_arg1)
          ∧ r.2.mem ((c.tc : Thread Cert.BranchBackReferenceIdeal.nD Cert.BranchBackReferenceIdeal.τ).loc Cert.BranchBackReferenceIdeal.main_arg2) = m' ((c.tc : Thread Cert.BranchBackReferenceIdeal.nD Cert.BranchBackReferenceIdeal.τ).loc Cert.BranchBackReferenceIdeal.main_arg2))

def preserves_Outward_OutwardIdeal : Prop :=
  True

def algebraic_OutwardIdeal_OutwardReferenceIdeal [hOutwardIdeal : Cert.OutwardIdeal.Facts] [hOutwardReferenceIdeal : Cert.OutwardReferenceIdeal.Facts] : Prop :=
  ∀ (m : (ℓ : Loc Cert.OutwardIdeal.nD Cert.OutwardIdeal.τ Cert.OutwardIdeal.sig) → Buf (Elt Ideal) ℓ) (g : Dev Cert.OutwardIdeal.nD → PrngReg)
    (m' : (ℓ : Loc Cert.OutwardReferenceIdeal.nD Cert.OutwardReferenceIdeal.τ Cert.OutwardReferenceIdeal.sig) → Buf (Elt Ideal) ℓ) (g' : Dev Cert.OutwardReferenceIdeal.nD → PrngReg), Pre_OutwardIdeal m →
    (∀ c : Dev Cert.OutwardIdeal.nD,
      m' ((c.tc : Thread Cert.OutwardReferenceIdeal.nD Cert.OutwardReferenceIdeal.τ).loc Cert.OutwardReferenceIdeal.main_arg0) = m ((c.tc : Thread Cert.OutwardIdeal.nD Cert.OutwardIdeal.τ).loc Cert.OutwardIdeal.main_arg0)
      ∧ m' ((c.tc : Thread Cert.OutwardReferenceIdeal.nD Cert.OutwardReferenceIdeal.τ).loc Cert.OutwardReferenceIdeal.main_arg1) = m ((c.tc : Thread Cert.OutwardIdeal.nD Cert.OutwardIdeal.τ).loc Cert.OutwardIdeal.main_arg1)
      ∧ m' ((c.tc : Thread Cert.OutwardReferenceIdeal.nD Cert.OutwardReferenceIdeal.τ).loc Cert.OutwardReferenceIdeal.main_arg2) = m ((c.tc : Thread Cert.OutwardIdeal.nD Cert.OutwardIdeal.τ).loc Cert.OutwardIdeal.main_arg2)) →
    ∃ (v0 : (c : Dev Cert.OutwardIdeal.nD) → Buf (Elt Ideal) ((c.tc : Thread Cert.OutwardIdeal.nD Cert.OutwardIdeal.τ).loc Cert.OutwardIdeal.main_v0)),
      θ_run (Cert.OutwardIdeal.defs (F := Ideal)) (onTc (τ := Cert.OutwardIdeal.τ) (Cert.OutwardIdeal.main (F := Ideal))) ⟨m, fun _ => 0, g⟩ (fun r => ∀ c : Dev Cert.OutwardIdeal.nD,
          r.2.mem ((c.tc : Thread Cert.OutwardIdeal.nD Cert.OutwardIdeal.τ).loc Cert.OutwardIdeal.main_v0) = v0 c
          ∧ r.2.mem ((c.tc : Thread Cert.OutwardIdeal.nD Cert.OutwardIdeal.τ).loc Cert.OutwardIdeal.main_arg0) = m ((c.tc : Thread Cert.OutwardIdeal.nD Cert.OutwardIdeal.τ).loc Cert.OutwardIdeal.main_arg0)
          ∧ r.2.mem ((c.tc : Thread Cert.OutwardIdeal.nD Cert.OutwardIdeal.τ).loc Cert.OutwardIdeal.main_arg1) = m ((c.tc : Thread Cert.OutwardIdeal.nD Cert.OutwardIdeal.τ).loc Cert.OutwardIdeal.main_arg1)
          ∧ r.2.mem ((c.tc : Thread Cert.OutwardIdeal.nD Cert.OutwardIdeal.τ).loc Cert.OutwardIdeal.main_arg2) = m ((c.tc : Thread Cert.OutwardIdeal.nD Cert.OutwardIdeal.τ).loc Cert.OutwardIdeal.main_arg2))
      ∧ θ_run (Cert.OutwardReferenceIdeal.defs (F := Ideal)) (onTc (τ := Cert.OutwardReferenceIdeal.τ) (Cert.OutwardReferenceIdeal.main (F := Ideal))) ⟨m', fun _ => 0, g'⟩ (fun r => ∀ c : Dev Cert.OutwardReferenceIdeal.nD,
          r.2.mem ((c.tc : Thread Cert.OutwardReferenceIdeal.nD Cert.OutwardReferenceIdeal.τ).loc Cert.OutwardReferenceIdeal.main_v3) = v0 c
          ∧ r.2.mem ((c.tc : Thread Cert.OutwardReferenceIdeal.nD Cert.OutwardReferenceIdeal.τ).loc Cert.OutwardReferenceIdeal.main_arg0) = m' ((c.tc : Thread Cert.OutwardReferenceIdeal.nD Cert.OutwardReferenceIdeal.τ).loc Cert.OutwardReferenceIdeal.main_arg0)
          ∧ r.2.mem ((c.tc : Thread Cert.OutwardReferenceIdeal.nD Cert.OutwardReferenceIdeal.τ).loc Cert.OutwardReferenceIdeal.main_arg1) = m' ((c.tc : Thread Cert.OutwardReferenceIdeal.nD Cert.OutwardReferenceIdeal.τ).loc Cert.OutwardReferenceIdeal.main_arg1)
          ∧ r.2.mem ((c.tc : Thread Cert.OutwardReferenceIdeal.nD Cert.OutwardReferenceIdeal.τ).loc Cert.OutwardReferenceIdeal.main_arg2) = m' ((c.tc : Thread Cert.OutwardReferenceIdeal.nD Cert.OutwardReferenceIdeal.τ).loc Cert.OutwardReferenceIdeal.main_arg2))

def preserves_OutwardWeight_OutwardWeightIdeal : Prop :=
  True

def algebraic_OutwardWeightIdeal_OutwardWeightReferenceIdeal [hOutwardWeightIdeal : Cert.OutwardWeightIdeal.Facts] [hOutwardWeightReferenceIdeal : Cert.OutwardWeightReferenceIdeal.Facts] : Prop :=
  ∀ (m : (ℓ : Loc Cert.OutwardWeightIdeal.nD Cert.OutwardWeightIdeal.τ Cert.OutwardWeightIdeal.sig) → Buf (Elt Ideal) ℓ) (g : Dev Cert.OutwardWeightIdeal.nD → PrngReg)
    (m' : (ℓ : Loc Cert.OutwardWeightReferenceIdeal.nD Cert.OutwardWeightReferenceIdeal.τ Cert.OutwardWeightReferenceIdeal.sig) → Buf (Elt Ideal) ℓ) (g' : Dev Cert.OutwardWeightReferenceIdeal.nD → PrngReg), Pre_OutwardWeightIdeal m →
    (∀ c : Dev Cert.OutwardWeightIdeal.nD,
      m' ((c.tc : Thread Cert.OutwardWeightReferenceIdeal.nD Cert.OutwardWeightReferenceIdeal.τ).loc Cert.OutwardWeightReferenceIdeal.main_arg0) = m ((c.tc : Thread Cert.OutwardWeightIdeal.nD Cert.OutwardWeightIdeal.τ).loc Cert.OutwardWeightIdeal.main_arg0)
      ∧ m' ((c.tc : Thread Cert.OutwardWeightReferenceIdeal.nD Cert.OutwardWeightReferenceIdeal.τ).loc Cert.OutwardWeightReferenceIdeal.main_arg1) = m ((c.tc : Thread Cert.OutwardWeightIdeal.nD Cert.OutwardWeightIdeal.τ).loc Cert.OutwardWeightIdeal.main_arg1)) →
    ∃ (v0 : (c : Dev Cert.OutwardWeightIdeal.nD) → Buf (Elt Ideal) ((c.tc : Thread Cert.OutwardWeightIdeal.nD Cert.OutwardWeightIdeal.τ).loc Cert.OutwardWeightIdeal.main_v0)),
      θ_run (Cert.OutwardWeightIdeal.defs (F := Ideal)) (onTc (τ := Cert.OutwardWeightIdeal.τ) (Cert.OutwardWeightIdeal.main (F := Ideal))) ⟨m, fun _ => 0, g⟩ (fun r => ∀ c : Dev Cert.OutwardWeightIdeal.nD,
          r.2.mem ((c.tc : Thread Cert.OutwardWeightIdeal.nD Cert.OutwardWeightIdeal.τ).loc Cert.OutwardWeightIdeal.main_v0) = v0 c
          ∧ r.2.mem ((c.tc : Thread Cert.OutwardWeightIdeal.nD Cert.OutwardWeightIdeal.τ).loc Cert.OutwardWeightIdeal.main_arg0) = m ((c.tc : Thread Cert.OutwardWeightIdeal.nD Cert.OutwardWeightIdeal.τ).loc Cert.OutwardWeightIdeal.main_arg0)
          ∧ r.2.mem ((c.tc : Thread Cert.OutwardWeightIdeal.nD Cert.OutwardWeightIdeal.τ).loc Cert.OutwardWeightIdeal.main_arg1) = m ((c.tc : Thread Cert.OutwardWeightIdeal.nD Cert.OutwardWeightIdeal.τ).loc Cert.OutwardWeightIdeal.main_arg1))
      ∧ θ_run (Cert.OutwardWeightReferenceIdeal.defs (F := Ideal)) (onTc (τ := Cert.OutwardWeightReferenceIdeal.τ) (Cert.OutwardWeightReferenceIdeal.main (F := Ideal))) ⟨m', fun _ => 0, g'⟩ (fun r => ∀ c : Dev Cert.OutwardWeightReferenceIdeal.nD,
          r.2.mem ((c.tc : Thread Cert.OutwardWeightReferenceIdeal.nD Cert.OutwardWeightReferenceIdeal.τ).loc Cert.OutwardWeightReferenceIdeal.main_v6) = v0 c
          ∧ r.2.mem ((c.tc : Thread Cert.OutwardWeightReferenceIdeal.nD Cert.OutwardWeightReferenceIdeal.τ).loc Cert.OutwardWeightReferenceIdeal.main_arg0) = m' ((c.tc : Thread Cert.OutwardWeightReferenceIdeal.nD Cert.OutwardWeightReferenceIdeal.τ).loc Cert.OutwardWeightReferenceIdeal.main_arg0)
          ∧ r.2.mem ((c.tc : Thread Cert.OutwardWeightReferenceIdeal.nD Cert.OutwardWeightReferenceIdeal.τ).loc Cert.OutwardWeightReferenceIdeal.main_arg1) = m' ((c.tc : Thread Cert.OutwardWeightReferenceIdeal.nD Cert.OutwardWeightReferenceIdeal.τ).loc Cert.OutwardWeightReferenceIdeal.main_arg1))

def preserves_OutwardBack_OutwardBackIdeal : Prop :=
  True

def algebraic_OutwardBackIdeal_OutwardBackReferenceIdeal [hOutwardBackIdeal : Cert.OutwardBackIdeal.Facts] [hOutwardBackReferenceIdeal : Cert.OutwardBackReferenceIdeal.Facts] : Prop :=
  ∀ (m : (ℓ : Loc Cert.OutwardBackIdeal.nD Cert.OutwardBackIdeal.τ Cert.OutwardBackIdeal.sig) → Buf (Elt Ideal) ℓ) (g : Dev Cert.OutwardBackIdeal.nD → PrngReg)
    (m' : (ℓ : Loc Cert.OutwardBackReferenceIdeal.nD Cert.OutwardBackReferenceIdeal.τ Cert.OutwardBackReferenceIdeal.sig) → Buf (Elt Ideal) ℓ) (g' : Dev Cert.OutwardBackReferenceIdeal.nD → PrngReg), Pre_OutwardBackIdeal m →
    (∀ c : Dev Cert.OutwardBackIdeal.nD,
      m' ((c.tc : Thread Cert.OutwardBackReferenceIdeal.nD Cert.OutwardBackReferenceIdeal.τ).loc Cert.OutwardBackReferenceIdeal.main_arg0) = m ((c.tc : Thread Cert.OutwardBackIdeal.nD Cert.OutwardBackIdeal.τ).loc Cert.OutwardBackIdeal.main_arg0)
      ∧ m' ((c.tc : Thread Cert.OutwardBackReferenceIdeal.nD Cert.OutwardBackReferenceIdeal.τ).loc Cert.OutwardBackReferenceIdeal.main_arg1) = m ((c.tc : Thread Cert.OutwardBackIdeal.nD Cert.OutwardBackIdeal.τ).loc Cert.OutwardBackIdeal.main_arg1)) →
    ∃ (v0 : (c : Dev Cert.OutwardBackIdeal.nD) → Buf (Elt Ideal) ((c.tc : Thread Cert.OutwardBackIdeal.nD Cert.OutwardBackIdeal.τ).loc Cert.OutwardBackIdeal.main_v0)),
      θ_run (Cert.OutwardBackIdeal.defs (F := Ideal)) (onTc (τ := Cert.OutwardBackIdeal.τ) (Cert.OutwardBackIdeal.main (F := Ideal))) ⟨m, fun _ => 0, g⟩ (fun r => ∀ c : Dev Cert.OutwardBackIdeal.nD,
          r.2.mem ((c.tc : Thread Cert.OutwardBackIdeal.nD Cert.OutwardBackIdeal.τ).loc Cert.OutwardBackIdeal.main_v0) = v0 c
          ∧ r.2.mem ((c.tc : Thread Cert.OutwardBackIdeal.nD Cert.OutwardBackIdeal.τ).loc Cert.OutwardBackIdeal.main_arg0) = m ((c.tc : Thread Cert.OutwardBackIdeal.nD Cert.OutwardBackIdeal.τ).loc Cert.OutwardBackIdeal.main_arg0)
          ∧ r.2.mem ((c.tc : Thread Cert.OutwardBackIdeal.nD Cert.OutwardBackIdeal.τ).loc Cert.OutwardBackIdeal.main_arg1) = m ((c.tc : Thread Cert.OutwardBackIdeal.nD Cert.OutwardBackIdeal.τ).loc Cert.OutwardBackIdeal.main_arg1))
      ∧ θ_run (Cert.OutwardBackReferenceIdeal.defs (F := Ideal)) (onTc (τ := Cert.OutwardBackReferenceIdeal.τ) (Cert.OutwardBackReferenceIdeal.main (F := Ideal))) ⟨m', fun _ => 0, g'⟩ (fun r => ∀ c : Dev Cert.OutwardBackReferenceIdeal.nD,
          r.2.mem ((c.tc : Thread Cert.OutwardBackReferenceIdeal.nD Cert.OutwardBackReferenceIdeal.τ).loc Cert.OutwardBackReferenceIdeal.main_v4) = v0 c
          ∧ r.2.mem ((c.tc : Thread Cert.OutwardBackReferenceIdeal.nD Cert.OutwardBackReferenceIdeal.τ).loc Cert.OutwardBackReferenceIdeal.main_arg0) = m' ((c.tc : Thread Cert.OutwardBackReferenceIdeal.nD Cert.OutwardBackReferenceIdeal.τ).loc Cert.OutwardBackReferenceIdeal.main_arg0)
          ∧ r.2.mem ((c.tc : Thread Cert.OutwardBackReferenceIdeal.nD Cert.OutwardBackReferenceIdeal.τ).loc Cert.OutwardBackReferenceIdeal.main_arg1) = m' ((c.tc : Thread Cert.OutwardBackReferenceIdeal.nD Cert.OutwardBackReferenceIdeal.τ).loc Cert.OutwardBackReferenceIdeal.main_arg1))

def Claim : Prop :=
  ∃ (hKernel : Cert.Kernel.Facts) (hKernelIdeal : Cert.KernelIdeal.Facts) (hReferenceIdeal : Cert.ReferenceIdeal.Facts) (hProduct : Cert.Product.Facts) (hProductIdeal : Cert.ProductIdeal.Facts) (hProductReferenceIdeal : Cert.ProductReferenceIdeal.Facts) (hForward : Cert.Forward.Facts) (hForwardIdeal : Cert.ForwardIdeal.Facts) (hForwardReferenceIdeal : Cert.ForwardReferenceIdeal.Facts) (hWeight : Cert.Weight.Facts) (hWeightIdeal : Cert.WeightIdeal.Facts) (hWeightReferenceIdeal : Cert.WeightReferenceIdeal.Facts) (hBack : Cert.Back.Facts) (hBackIdeal : Cert.BackIdeal.Facts) (hBackReferenceIdeal : Cert.BackReferenceIdeal.Facts) (hInward : Cert.Inward.Facts) (hInwardIdeal : Cert.InwardIdeal.Facts) (hInwardReferenceIdeal : Cert.InwardReferenceIdeal.Facts) (hFirstBack : Cert.FirstBack.Facts) (hFirstBackIdeal : Cert.FirstBackIdeal.Facts) (hFirstBackReferenceIdeal : Cert.FirstBackReferenceIdeal.Facts) (hBranchInward : Cert.BranchInward.Facts) (hBranchInwardIdeal : Cert.BranchInwardIdeal.Facts) (hBranchInwardReferenceIdeal : Cert.BranchInwardReferenceIdeal.Facts) (hBranchWeight : Cert.BranchWeight.Facts) (hBranchWeightIdeal : Cert.BranchWeightIdeal.Facts) (hBranchWeightReferenceIdeal : Cert.BranchWeightReferenceIdeal.Facts) (hBranchBack : Cert.BranchBack.Facts) (hBranchBackIdeal : Cert.BranchBackIdeal.Facts) (hBranchBackReferenceIdeal : Cert.BranchBackReferenceIdeal.Facts) (hOutward : Cert.Outward.Facts) (hOutwardIdeal : Cert.OutwardIdeal.Facts) (hOutwardReferenceIdeal : Cert.OutwardReferenceIdeal.Facts) (hOutwardWeight : Cert.OutwardWeight.Facts) (hOutwardWeightIdeal : Cert.OutwardWeightIdeal.Facts) (hOutwardWeightReferenceIdeal : Cert.OutwardWeightReferenceIdeal.Facts) (hOutwardBack : Cert.OutwardBack.Facts) (hOutwardBackIdeal : Cert.OutwardBackIdeal.Facts) (hOutwardBackReferenceIdeal : Cert.OutwardBackReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Product (hProduct := hProduct)
    ∧ quiescent_ProductIdeal (hProductIdeal := hProductIdeal)
    ∧ quiescent_ProductReferenceIdeal (hProductReferenceIdeal := hProductReferenceIdeal)
    ∧ quiescent_Forward (hForward := hForward)
    ∧ quiescent_ForwardIdeal (hForwardIdeal := hForwardIdeal)
    ∧ quiescent_ForwardReferenceIdeal (hForwardReferenceIdeal := hForwardReferenceIdeal)
    ∧ quiescent_Weight (hWeight := hWeight)
    ∧ quiescent_WeightIdeal (hWeightIdeal := hWeightIdeal)
    ∧ quiescent_WeightReferenceIdeal (hWeightReferenceIdeal := hWeightReferenceIdeal)
    ∧ quiescent_Back (hBack := hBack)
    ∧ quiescent_BackIdeal (hBackIdeal := hBackIdeal)
    ∧ quiescent_BackReferenceIdeal (hBackReferenceIdeal := hBackReferenceIdeal)
    ∧ quiescent_Inward (hInward := hInward)
    ∧ quiescent_InwardIdeal (hInwardIdeal := hInwardIdeal)
    ∧ quiescent_InwardReferenceIdeal (hInwardReferenceIdeal := hInwardReferenceIdeal)
    ∧ quiescent_FirstBack (hFirstBack := hFirstBack)
    ∧ quiescent_FirstBackIdeal (hFirstBackIdeal := hFirstBackIdeal)
    ∧ quiescent_FirstBackReferenceIdeal (hFirstBackReferenceIdeal := hFirstBackReferenceIdeal)
    ∧ quiescent_BranchInward (hBranchInward := hBranchInward)
    ∧ quiescent_BranchInwardIdeal (hBranchInwardIdeal := hBranchInwardIdeal)
    ∧ quiescent_BranchInwardReferenceIdeal (hBranchInwardReferenceIdeal := hBranchInwardReferenceIdeal)
    ∧ quiescent_BranchWeight (hBranchWeight := hBranchWeight)
    ∧ quiescent_BranchWeightIdeal (hBranchWeightIdeal := hBranchWeightIdeal)
    ∧ quiescent_BranchWeightReferenceIdeal (hBranchWeightReferenceIdeal := hBranchWeightReferenceIdeal)
    ∧ quiescent_BranchBack (hBranchBack := hBranchBack)
    ∧ quiescent_BranchBackIdeal (hBranchBackIdeal := hBranchBackIdeal)
    ∧ quiescent_BranchBackReferenceIdeal (hBranchBackReferenceIdeal := hBranchBackReferenceIdeal)
    ∧ quiescent_Outward (hOutward := hOutward)
    ∧ quiescent_OutwardIdeal (hOutwardIdeal := hOutwardIdeal)
    ∧ quiescent_OutwardReferenceIdeal (hOutwardReferenceIdeal := hOutwardReferenceIdeal)
    ∧ quiescent_OutwardWeight (hOutwardWeight := hOutwardWeight)
    ∧ quiescent_OutwardWeightIdeal (hOutwardWeightIdeal := hOutwardWeightIdeal)
    ∧ quiescent_OutwardWeightReferenceIdeal (hOutwardWeightReferenceIdeal := hOutwardWeightReferenceIdeal)
    ∧ quiescent_OutwardBack (hOutwardBack := hOutwardBack)
    ∧ quiescent_OutwardBackIdeal (hOutwardBackIdeal := hOutwardBackIdeal)
    ∧ quiescent_OutwardBackReferenceIdeal (hOutwardBackReferenceIdeal := hOutwardBackReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Product_ProductIdeal
    ∧ algebraic_ProductIdeal_ProductReferenceIdeal (hProductIdeal := hProductIdeal) (hProductReferenceIdeal := hProductReferenceIdeal)
    ∧ preserves_Forward_ForwardIdeal
    ∧ algebraic_ForwardIdeal_ForwardReferenceIdeal (hForwardIdeal := hForwardIdeal) (hForwardReferenceIdeal := hForwardReferenceIdeal)
    ∧ preserves_Weight_WeightIdeal
    ∧ algebraic_WeightIdeal_WeightReferenceIdeal (hWeightIdeal := hWeightIdeal) (hWeightReferenceIdeal := hWeightReferenceIdeal)
    ∧ preserves_Back_BackIdeal
    ∧ algebraic_BackIdeal_BackReferenceIdeal (hBackIdeal := hBackIdeal) (hBackReferenceIdeal := hBackReferenceIdeal)
    ∧ preserves_Inward_InwardIdeal
    ∧ algebraic_InwardIdeal_InwardReferenceIdeal (hInwardIdeal := hInwardIdeal) (hInwardReferenceIdeal := hInwardReferenceIdeal)
    ∧ preserves_FirstBack_FirstBackIdeal
    ∧ algebraic_FirstBackIdeal_FirstBackReferenceIdeal (hFirstBackIdeal := hFirstBackIdeal) (hFirstBackReferenceIdeal := hFirstBackReferenceIdeal)
    ∧ preserves_BranchInward_BranchInwardIdeal
    ∧ algebraic_BranchInwardIdeal_BranchInwardReferenceIdeal (hBranchInwardIdeal := hBranchInwardIdeal) (hBranchInwardReferenceIdeal := hBranchInwardReferenceIdeal)
    ∧ preserves_BranchWeight_BranchWeightIdeal
    ∧ algebraic_BranchWeightIdeal_BranchWeightReferenceIdeal (hBranchWeightIdeal := hBranchWeightIdeal) (hBranchWeightReferenceIdeal := hBranchWeightReferenceIdeal)
    ∧ preserves_BranchBack_BranchBackIdeal
    ∧ algebraic_BranchBackIdeal_BranchBackReferenceIdeal (hBranchBackIdeal := hBranchBackIdeal) (hBranchBackReferenceIdeal := hBranchBackReferenceIdeal)
    ∧ preserves_Outward_OutwardIdeal
    ∧ algebraic_OutwardIdeal_OutwardReferenceIdeal (hOutwardIdeal := hOutwardIdeal) (hOutwardReferenceIdeal := hOutwardReferenceIdeal)
    ∧ preserves_OutwardWeight_OutwardWeightIdeal
    ∧ algebraic_OutwardWeightIdeal_OutwardWeightReferenceIdeal (hOutwardWeightIdeal := hOutwardWeightIdeal) (hOutwardWeightReferenceIdeal := hOutwardWeightReferenceIdeal)
    ∧ preserves_OutwardBack_OutwardBackIdeal
    ∧ algebraic_OutwardBackIdeal_OutwardBackReferenceIdeal (hOutwardBackIdeal := hOutwardBackIdeal) (hOutwardBackReferenceIdeal := hOutwardBackReferenceIdeal)
-- ==== Pre_finite.lean ====
abbrev S4160x1024 : Shape := ⟨2, ![4160, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩

class Facts : Prop where
  bcast_S_S4160x1024 : S_.BroadcastsInDim S4160x1024 (![] : Fin 0 → Fin S4160x1024.rank)
  bcast_S_S1024 : S_.BroadcastsInDim S1024 (![] : Fin 0 → Fin S1024.rank)
  bcast_S_S1024x5632 : S_.BroadcastsInDim S1024x5632 (![] : Fin 0 → Fin S1024x5632.rank)
  bcast_S_S2816x1024 : S_.BroadcastsInDim S2816x1024 (![] : Fin 0 → Fin S2816x1024.rank)

variable [Facts]

def fn {F : FTy → Type} [FloatOps F] (main_arg0 : FVec F S4160x1024 .f32) (main_arg1 : FVec F S1024 .f32) (main_arg2 : FVec F S4160x1024 .f32) (main_arg3 : FVec F S1024x5632 .f32) (main_arg4 : FVec F S2816x1024 .f32) : IVec S4160x1024 1 × IVec S1024 1 × IVec S4160x1024 1 × IVec S1024x5632 1 × IVec S2816x1024 1 :=
  let main_v0 : FVec F S4160x1024 .f32 := Host.absf main_arg0
  let main_cst : FVec F S_ .f32 := constant S_ .f32 0x7F800000#32
  let main_v1 : FVec F S4160x1024 .f32 := broadcastInDim S4160x1024 ![] bcast_S_S4160x1024 main_cst
  let main_v2 : IVec S4160x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S4160x1024 .f32 := Host.absf main_arg2
  let main_cst_1 : FVec F S_ .f32 := constant S_ .f32 0x7F800000#32
  let main_v7 : FVec F S4160x1024 .f32 := broadcastInDim S4160x1024 ![] bcast_S_S4160x1024 main_cst_1
  let main_v8 : IVec S4160x1024 1 := cmpf .olt main_v6 main_v7
  let main_v9 : FVec F S1024x5632 .f32 := Host.absf main_arg3
  let main_cst_2 : FVec F S_ .f32 := constant S_ .f32 0x7F800000#32
  let main_v10 : FVec F S1024x5632 .f32 := broadcastInDim S1024x5632 ![] bcast_S_S1024x5632 main_cst_2
  let main_v11 : IVec S1024x5632 1 := cmpf .olt main_v9 main_v10
  let main_v12 : FVec F S2816x1024 .f32 := Host.absf main_arg4
  let main_cst_3 : FVec F S_ .f32 := constant S_ .f32 0x7F800000#32
  let main_v13 : FVec F S2816x1024 .f32 := broadcastInDim S2816x1024 ![] bcast_S_S2816x1024 main_cst_3
  let main_v14 : IVec S2816x1024 1 := cmpf .olt main_v12 main_v13
  (main_v2, main_v5, main_v8, main_v11, main_v14)
-- ==== Kernel.lean ====
abbrev S4160x1024 : Shape := ⟨2, ![4160, 1024]⟩
abbrev S1024 : Shape := ⟨1, ![1024]⟩
abbrev S1024x5632 : Shape := ⟨2, ![1024, 5632]⟩
abbrev S2816x1024 : Shape := ⟨2, ![2816, 1024]⟩
abbrev S5632x1024 : Shape := ⟨2, ![5632, 1024]⟩
abbrev S8x704x1024 : Shape := ⟨3, ![8, 704, 1024]⟩
abbrev S1x1024 : Shape := ⟨2, ![1, 1024]⟩
abbrev S4x4160x704 : Shape := ⟨3, ![4, 4160, 704]⟩
abbrev S416x1024 : Shape := ⟨2, ![416, 1024]⟩
abbrev S1x704x1024 : Shape := ⟨3, ![1, 704, 1024]⟩
abbrev S704x1024 : Shape := ⟨2, ![704, 1024]⟩
abbrev S1x416x704 : Shape := ⟨3, ![1, 416, 704]⟩
abbrev S416 : Shape := ⟨1, ![416]⟩
abbrev S416x1 : Shape := ⟨2, ![416, 1]⟩
abbrev S208x1024 : Shape := ⟨2, ![208, 1024]⟩
abbrev S208x704 : Shape := ⟨2, ![208, 704]⟩
abbrev S1x208x704 : Shape := ⟨3, ![1, 208, 704]⟩

abbrev nBuf : Space → Nat
  | .hbm => 18
  | .vmem => 27
  | .smem => 0
  | _ => 0

abbrev bufTy : (tb : Table) → Fin (tcTables nBuf tb) → BufTy
  | .hbm, ⟨0, _⟩ => ⟨S4160x1024, .f32⟩
  | .hbm, ⟨1, _⟩ => ⟨S1024, .f32⟩
  | .hbm, ⟨2, _⟩ => ⟨S4160x1024, .f32⟩
  | .hbm, ⟨3, _⟩ => ⟨S1024x5632, .f32⟩
  | .hbm, ⟨4, _⟩ => ⟨S2816x1024, .f32⟩
  | .hbm, ⟨5, _⟩ => ⟨S5632x1024, .f32⟩
  | .hbm, ⟨6, _⟩ => ⟨S5632x1024, .bf16⟩
  | .hbm, ⟨7, _⟩ => ⟨S8x704x1024, .bf16⟩
  | .hbm, ⟨8, _⟩ => ⟨S1x1024, .f32⟩
  | .hbm, ⟨9, _⟩ => ⟨S2816x1024, .bf16⟩
  | .hbm, ⟨10, _⟩ => ⟨S4160x1024, .f32⟩
  | .hbm, ⟨11, _⟩ => ⟨S4160x1024, .bf16⟩
  | .hbm, ⟨12, _⟩ => ⟨S1x1024, .f32⟩
  | .hbm, ⟨13, _⟩ => ⟨S4160x1024, .bf16⟩
  | .hbm, ⟨14, _⟩ => ⟨S4x4160x704, .bf16⟩
  | .hbm, ⟨15, _⟩ => ⟨S4x4160x704, .bf16⟩
  | .hbm, ⟨16, _⟩ => ⟨S4x4160x704, .bf16⟩
  | .hbm, ⟨17, _⟩ => ⟨S4160x1024, .bf16⟩
  | .local _ .vmem, ⟨0, _⟩ => ⟨S416x1024, .f32⟩
  | .local _ .vmem, ⟨1, _⟩ => ⟨S416x1024, .f32⟩
  | .local _ .vmem, ⟨2, _⟩ => ⟨S1x1024, .f32⟩
  | .local _ .vmem, ⟨3, _⟩ => ⟨S416x1024, .f32⟩
  | .local _ .vmem, ⟨4, _⟩ => ⟨S416x1024, .f32⟩
  | .local _ .vmem, ⟨5, _⟩ => ⟨S1x704x1024, .bf16⟩
  | .local _ .vmem, ⟨6, _⟩ => ⟨S1x704x1024, .bf16⟩
  | .local _ .vmem, ⟨7, _⟩ => ⟨S1x704x1024, .bf16⟩
  | .local _ .vmem, ⟨8, _⟩ => ⟨S1x704x1024, .bf16⟩
  | .local _ .vmem, ⟨9, _⟩ => ⟨S704x1024, .bf16⟩
  | .local _ .vmem, ⟨10, _⟩ => ⟨S704x1024, .bf16⟩
  | .local _ .vmem, ⟨11, _⟩ => ⟨S416x1024, .f32⟩
  | .local _ .vmem, ⟨12, _⟩ => ⟨S416x1024, .f32⟩
  | .local _ .vmem, ⟨13, _⟩ => ⟨S416x1024, .bf16⟩
  | .local _ .vmem, ⟨14, _⟩ => ⟨S416x1024, .bf16⟩
  | .local _ .vmem, ⟨15, _⟩ => ⟨S1x1024, .f32⟩
  | .local _ .vmem, ⟨16, _⟩ => ⟨S416x1024, .bf16⟩
  | .local _ .vmem, ⟨17, _⟩ => ⟨S416x1024, .bf16⟩
  | .local _ .vmem, ⟨18, _⟩ => ⟨S1x416x704, .bf16⟩
  | .local _ .vmem, ⟨19, _⟩ => ⟨S1x416x704, .bf16⟩
  | .local _ .vmem, ⟨20, _⟩ => ⟨S1x416x704, .bf16⟩
  | .local _ .vmem, ⟨21, _⟩ => ⟨S1x416x704, .bf16⟩
  | .local _ .vmem, ⟨22, _⟩ => ⟨S1x416x704, .bf16⟩
  | .local _ .vmem, ⟨23, _⟩ => ⟨S1x416x704, .bf16⟩
  | .local _ .vmem, ⟨24, _⟩ => ⟨S416x1024, .bf16⟩
  | .local _ .vmem, ⟨25, _⟩ => ⟨S416x1024, .bf16⟩
  | .local _ .vmem, ⟨26, _⟩ => ⟨S416x1024, .f32⟩
  | _, _ => ⟨S4160x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev main_v5_4 : Ref sig .tc := ⟨.hbm, 14, rfl⟩
abbrev main_v5_5 : Ref sig .tc := ⟨.hbm, 15, rfl⟩
abbrev main_v5_6 : Ref sig .tc := ⟨.hbm, 16, rfl⟩
abbrev main_v5_7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25

abbrev nD : Nat := 1
abbrev τ : Topo := Topo.v7x

variable {F : FTy → Type} [FloatOps F]

abbrev grid0 : Pipeline.Grid := ⟨2, ![10, 4], ![false, false]⟩

def k0_cond3 (i : grid0.Coords) : BitVec 1 :=
  let arg1 : BitVec 32 := BitVec.ofNat 32 (i 1).val
  let c3_i32 : BitVec 32 := 3#32
  let v106 : BitVec 1 := Scalar.cmpi .eq arg1 c3_i32
  let v107 : BitVec 32 := Scalar.extui v106
  let c0_i32_63 : BitVec 32 := 0#32
  let v108 : BitVec 1 := Scalar.cmpi .ne v107 c0_i32_63
  v108

def k0_cond2 (i : grid0.Coords) : BitVec 1 :=
  let arg0 : BitVec 32 := BitVec.ofNat 32 (i 0).val
  let c0_i32_60 : BitVec 32 := 0#32
  let v101 : BitVec 1 := Scalar.cmpi .eq arg0 c0_i32_60
  let arg1 : BitVec 32 := BitVec.ofNat 32 (i 1).val
  let c0_i32_61 : BitVec 32 := 0#32
  let v102 : BitVec 1 := Scalar.cmpi .eq arg1 c0_i32_61
  let v103 : BitVec 1 := Scalar.andi v101 v102
  let v104 : BitVec 32 := Scalar.extui v103
  let c0_i32_62 : BitVec 32 := 0#32
  let v105 : BitVec 1 := Scalar.cmpi .ne v104 c0_i32_62
  v105

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  let c0_i32_1 : BitVec 32 := 0#32
  ![v0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S416x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S416x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x704x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S704x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S416x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S416x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S416x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x416x704 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x416x704 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x416x704 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S416x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== ReferenceIdeal.lean ====
abbrev S4160x1024 : Shape := ⟨2, ![4160, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S4160 : Shape := ⟨1, ![4160]⟩
abbrev S4160x1 : Shape := ⟨2, ![4160, 1]⟩
abbrev S1x1024 : Shape := ⟨2, ![1, 1024]⟩
abbrev S4160x5632 : Shape := ⟨2, ![4160, 5632]⟩
abbrev S4160x2816 : Shape := ⟨2, ![4160, 2816]⟩
abbrev S1024x2816 : Shape := ⟨2, ![1024, 2816]⟩
abbrev S4160x4x704 : Shape := ⟨3, ![4160, 4, 704]⟩
abbrev S4x4160x704 : Shape := ⟨3, ![4, 4160, 704]⟩

abbrev nBuf : Space → Nat
  | .hbm => 146
  | .vmem => 0
  | .smem => 0
  | _ => 0

abbrev hbmTy0_0 (i : Nat) : BufTy := match i % 128 with
  | 0 => ⟨S4160x1024, .f32⟩
  | 1 => ⟨S1024, .f32⟩
  | 2 => ⟨S4160x1024, .f32⟩
  | 3 => ⟨S1024x5632, .f32⟩
  | 4 => ⟨S2816x1024, .f32⟩
  | 5 => ⟨S4160x1024, .f32⟩
  | 6 => ⟨S_, .f32⟩
  | 7 => ⟨S4160, .f32⟩
  | 8 => ⟨S4160x1, .f32⟩
  | 9 => ⟨S_, .f32⟩
  | 10 => ⟨S4160x1, .f32⟩
  | 11 => ⟨S4160x1, .f32⟩
  | 12 => ⟨S_, .f32⟩
  | 13 => ⟨S4160x1, .f32⟩
  | 14 => ⟨S4160x1, .f32⟩
  | 15 => ⟨S4160x1, .f32⟩
  | 16 => ⟨S4160x1, .f32⟩
  | 17 => ⟨S_, .f32⟩
  | 18 => ⟨S4160x1, .f32⟩
  | 19 => ⟨S4160x1, .f32⟩
  | 20 => ⟨S4160x1024, .f32⟩
  | 21 => ⟨S4160x1024, .f32⟩
  | 22 => ⟨S1x1024, .f32⟩
  | 23 => ⟨S4160x1024, .f32⟩
  | 24 => ⟨S4160x1024, .f32⟩
  | 25 => ⟨S4160x5632, .f32⟩
  | 26 => ⟨S4160x2816, .f32⟩
  | 27 => ⟨S4160x2816, .f32⟩
  | 28 => ⟨S4160x2816, .f32⟩
  | 29 => ⟨S4160x2816, .f32⟩
  | 30 => ⟨S_, .f32⟩
  | 31 => ⟨S4160x2816, .f32⟩
  | 32 => ⟨S4160x2816, .f32⟩
  | 33 => ⟨S_, .f32⟩
  | 34 => ⟨S4160x2816, .f32⟩
  | 35 => ⟨S4160x2816, .f32⟩
  | 36 => ⟨S_, .f32⟩
  | 37 => ⟨S4160x2816, .f32⟩
  | 38 => ⟨S4160x2816, .f32⟩
  | 39 => ⟨S4160x2816, .f32⟩
  | 40 => ⟨S4160x2816, .f32⟩
  | 41 => ⟨S4160x2816, .f32⟩
  | 42 => ⟨S4160x1024, .f32⟩
  | 43 => ⟨S_, .f32⟩
  | 44 => ⟨S4160x1024, .f32⟩
  | 45 => ⟨S4160x1024, .f32⟩
  | 46 => ⟨S4160x1024, .f32⟩
  | 47 => ⟨S4160x1024, .f32⟩
  | 48 => ⟨S_, .f32⟩
  | 49 => ⟨S4160x1024, .f32⟩
  | 50 => ⟨S4160x1024, .f32⟩
  | 51 => ⟨S4160x2816, .f32⟩
  | 52 => ⟨S4160x2816, .f32⟩
  | 53 => ⟨S4160x2816, .f32⟩
  | 54 => ⟨S4160x2816, .f32⟩
  | 55 => ⟨S4160x2816, .f32⟩
  | 56 => ⟨S4160x2816, .f32⟩
  | 57 => ⟨S4160x2816, .f32⟩
  | 58 => ⟨S4160x5632, .f32⟩
  | 59 => ⟨S4160x1024, .f32⟩
  | 60 => ⟨S4160x1024, .f32⟩
  | 61 => ⟨S_, .f32⟩
  | 62 => ⟨S1024, .f32⟩
  | 63 => ⟨S1x1024, .f32⟩
  | 64 => ⟨S4160x1024, .f32⟩
  | 65 => ⟨S4160x1024, .f32⟩
  | 66 => ⟨S_, .f32⟩
  | 67 => ⟨S1024, .f32⟩
  | 68 => ⟨S4160x1024, .f32⟩
  | 69 => ⟨S_, .f32⟩
  | 70 => ⟨S4160, .f32⟩
  | 71 => ⟨S4160x1, .f32⟩
  | 72 => ⟨S4160x1024, .f32⟩
  | 73 => ⟨S4160x1024, .f32⟩
  | 74 => ⟨S4160x1024, .f32⟩
  | 75 => ⟨S4160x1, .f32⟩
  | 76 => ⟨S_, .f32⟩
  | 77 => ⟨S4160x1, .f32⟩
  | 78 => ⟨S4160x1, .f32⟩
  | 79 => ⟨S_, .f32⟩
  | 80 => ⟨S4160, .f32⟩
  | 81 => ⟨S4160x1024, .f32⟩
  | 82 => ⟨S4160x1024, .f32⟩
  | 83 => ⟨S4160x1024, .f32⟩
  | 84 => ⟨S4160x1024, .f32⟩
  | 85 => ⟨S4160x1024, .f32⟩
  | 86 => ⟨S4160x1024, .f32⟩
  | 87 => ⟨S_, .f32⟩
  | 88 => ⟨S4160, .f32⟩
  | 89 => ⟨S4160x1, .f32⟩
  | 90 => ⟨S_, .f32⟩
  | 91 => ⟨S4160x1, .f32⟩
  | 92 => ⟨S4160x1, .f32⟩
  | 93 => ⟨S_, .f32⟩
  | 94 => ⟨S4160x1, .f32⟩
  | 95 => ⟨S4160x1, .f32⟩
  | 96 => ⟨S4160x1, .f32⟩
  | 97 => ⟨S4160x1024, .f32⟩
  | 98 => ⟨S4160x1024, .f32⟩
  | 99 => ⟨S1x1024, .f32⟩
  | 100 => ⟨S4160x1024, .f32⟩
  | 101 => ⟨S4160x1024, .f32⟩
  | 102 => ⟨S4160x5632, .f32⟩
  | 103 => ⟨S4160x2816, .f32⟩
  | 104 => ⟨S4160x2816, .f32⟩
  | 105 => ⟨S4160x2816, .f32⟩
  | 106 => ⟨S4160x2816, .f32⟩
  | 107 => ⟨S_, .f32⟩
  | 108 => ⟨S4160x2816, .f32⟩
  | 109 => ⟨S4160x2816, .f32⟩
  | 110 => ⟨S_, .f32⟩
  | 111 => ⟨S4160x2816, .f32⟩
  | 112 => ⟨S4160x2816, .f32⟩
  | 113 => ⟨S_, .f32⟩
  | 114 => ⟨S4160x2816, .f32⟩
  | 115 => ⟨S4160x2816, .f32⟩
  | 116 => ⟨S4160x2816, .f32⟩
  | 117 => ⟨S4160x2816, .f32⟩
  | 118 => ⟨S4160x2816, .f32⟩
  | 119 => ⟨S_, .f32⟩
  | 120 => ⟨S4160x1024, .f32⟩
  | 121 => ⟨S4160x1024, .f32⟩
  | 122 => ⟨S1024x2816, .f32⟩
  | 123 => ⟨S4160x2816, .f32⟩
  | 124 => ⟨S4160x2816, .f32⟩
  | 125 => ⟨S4160x2816, .f32⟩
  | 126 => ⟨S4160x2816, .f32⟩
  | 127 => ⟨S4160x2816, .f32⟩
  | _ => ⟨S4160x1024, .f32⟩

abbrev hbmTy0_1 (i : Nat) : BufTy := match i % 128 with
  | 0 => ⟨S4160x2816, .f32⟩
  | 1 => ⟨S4160x2816, .f32⟩
  | 2 => ⟨S4160x1024, .bf16⟩
  | 3 => ⟨S1x1024, .f32⟩
  | 4 => ⟨S4160x1024, .bf16⟩
  | 5 => ⟨S4160x4x704, .f32⟩
  | 6 => ⟨S4x4160x704, .f32⟩
  | 7 => ⟨S4x4160x704, .bf16⟩
  | 8 => ⟨S4160x4x704, .f32⟩
  | 9 => ⟨S4x4160x704, .f32⟩
  | 10 => ⟨S4x4160x704, .bf16⟩
  | 11 => ⟨S4160x4x704, .f32⟩
  | 12 => ⟨S4x4160x704, .f32⟩
  | 13 => ⟨S4x4160x704, .bf16⟩
  | 14 => ⟨S_, .f32⟩
  | 15 => ⟨S4160x1024, .f32⟩
  | 16 => ⟨S4160x1024, .f32⟩
  | 17 => ⟨S4160x1024, .bf16⟩
  | _ => ⟨S4160x1024, .f32⟩

abbrev hbmTy (i : Nat) : BufTy := match i / 128 with
  | 0 => hbmTy0_0 i
  | 1 => hbmTy0_1 i
  | _ => ⟨S4160x1024, .f32⟩

abbrev bufTy : (tb : Table) → Fin (tcTables nBuf tb) → BufTy
  | .hbm, ⟨i, _⟩ => hbmTy i
  | _, _ => ⟨S4160x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_v19_2 : Ref sig .tc := ⟨.hbm, 35, rfl⟩
abbrev main_call0_cst_1 : Ref sig .tc := ⟨.hbm, 36, rfl⟩
abbrev main_call0_v6 : Ref sig .tc := ⟨.hbm, 37, rfl⟩
abbrev main_call0_v7 : Ref sig .tc := ⟨.hbm, 38, rfl⟩
abbrev main_v19_1 : Ref sig .tc := ⟨.hbm, 39, rfl⟩
abbrev main_v19_0 : Ref sig .tc := ⟨.hbm, 40, rfl⟩
abbrev main_v20 : Ref sig .tc := ⟨.hbm, 41, rfl⟩
abbrev main_v21 : Ref sig .tc := ⟨.hbm, 42, rfl⟩
abbrev main_cst_3 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_cst_4 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst_5 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_6 : Ref sig .tc := ⟨.hbm, 66, rfl⟩
abbrev main_v39 : Ref sig .tc := ⟨.hbm, 67, rfl⟩
abbrev main_v40 : Ref sig .tc := ⟨.hbm, 68, rfl⟩
abbrev main_cst_7 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_cst_8 : Ref sig .tc := ⟨.hbm, 76, rfl⟩
abbrev main_v47 : Ref sig .tc := ⟨.hbm, 77, rfl⟩
abbrev main_v48 : Ref sig .tc := ⟨.hbm, 78, rfl⟩
abbrev main_cst_9 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_cst_10 : Ref sig .tc := ⟨.hbm, 87, rfl⟩
abbrev main_v56 : Ref sig .tc := ⟨.hbm, 88, rfl⟩
abbrev main_v57 : Ref sig .tc := ⟨.hbm, 89, rfl⟩
abbrev main_cst_11 : Ref sig .tc := ⟨.hbm, 90, rfl⟩
abbrev main_v58 : Ref sig .tc := ⟨.hbm, 91, rfl⟩
abbrev main_v59 : Ref sig .tc := ⟨.hbm, 92, rfl⟩
abbrev main_cst_12 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_call2_v0 : Ref sig .tc := ⟨.hbm, 105, rfl⟩
abbrev main_call2_v1 : Ref sig .tc := ⟨.hbm, 106, rfl⟩
abbrev main_call2_cst : Ref sig .tc := ⟨.hbm, 107, rfl⟩
abbrev main_call2_v2 : Ref sig .tc := ⟨.hbm, 108, rfl⟩
abbrev main_call2_v3 : Ref sig .tc := ⟨.hbm, 109, rfl⟩
abbrev main_call2_cst_0 : Ref sig .tc := ⟨.hbm, 110, rfl⟩
abbrev main_call2_v4 : Ref sig .tc := ⟨.hbm, 111, rfl⟩
abbrev main_v71_2 : Ref sig .tc := ⟨.hbm, 112, rfl⟩
abbrev main_call2_cst_1 : Ref sig .tc := ⟨.hbm, 113, rfl⟩
abbrev main_call2_v6 : Ref sig .tc := ⟨.hbm, 114, rfl⟩
abbrev main_call2_v7 : Ref sig .tc := ⟨.hbm, 115, rfl⟩
abbrev main_v71_1 : Ref sig .tc := ⟨.hbm, 116, rfl⟩
abbrev main_v71_0 : Ref sig .tc := ⟨.hbm, 117, rfl⟩
abbrev main_v72 : Ref sig .tc := ⟨.hbm, 118, rfl⟩
abbrev main_cst_13 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_call3_v0 : Ref sig .tc := ⟨.hbm, 126, rfl⟩
abbrev main_call3_v1 : Ref sig .tc := ⟨.hbm, 127, rfl⟩
abbrev main_call3_v2 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_cst_14 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩

abbrev nD : Nat := 1
abbrev τ : Topo := Topo.v7x

variable {F : FTy → Type} [FloatOps F]
-- ==== Product.lean ====
abbrev S4x4160x704 : Shape := ⟨3, ![4, 4160, 704]⟩
abbrev S4160x1024 : Shape := ⟨2, ![4160, 1024]⟩
abbrev S2816x1024 : Shape := ⟨2, ![2816, 1024]⟩
abbrev S1x2080x704 : Shape := ⟨3, ![1, 2080, 704]⟩
abbrev S2080x1024 : Shape := ⟨2, ![2080, 1024]⟩
abbrev S704x1024 : Shape := ⟨2, ![704, 1024]⟩
abbrev S2080x704 : Shape := ⟨2, ![2080, 704]⟩

abbrev nBuf : Space → Nat
  | .hbm => 3
  | .vmem => 7
  | .smem => 0
  | _ => 0

abbrev bufTy : (tb : Table) → Fin (tcTables nBuf tb) → BufTy
  | .hbm, ⟨0, _⟩ => ⟨S4x4160x704, .bf16⟩
  | .hbm, ⟨1, _⟩ => ⟨S4160x1024, .bf16⟩
  | .hbm, ⟨2, _⟩ => ⟨S2816x1024, .bf16⟩
  | .local _ .vmem, ⟨0, _⟩ => ⟨S1x2080x704, .bf16⟩
  | .local _ .vmem, ⟨1, _⟩ => ⟨S1x2080x704, .bf16⟩
  | .local _ .vmem, ⟨2, _⟩ => ⟨S2080x1024, .bf16⟩
  | .local _ .vmem, ⟨3, _⟩ => ⟨S2080x1024, .bf16⟩
  | .local _ .vmem, ⟨4, _⟩ => ⟨S704x1024, .bf16⟩
  | .local _ .vmem, ⟨5, _⟩ => ⟨S704x1024, .bf16⟩
  | .local _ .vmem, ⟨6, _⟩ => ⟨S704x1024, .f32⟩
  | _, _ => ⟨S4x4160x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def k0_cond2 (i : grid0.Coords) : BitVec 1 :=
  let arg1 : BitVec 32 := BitVec.ofNat 32 (i 1).val
  let c1_i32 : BitVec 32 := 1#32
  let v12 : BitVec 1 := Scalar.cmpi .eq arg1 c1_i32
  let v13 : BitVec 32 := Scalar.extui v12
  let c0_i32_9 : BitVec 32 := 0#32
  let v14 : BitVec 1 := Scalar.cmpi .ne v13 c0_i32_9
  v14

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x2080x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2080x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== ProductReferenceIdeal.lean ====
abbrev S4x4160x704 : Shape := ⟨3, ![4, 4160, 704]⟩
abbrev S4160x1024 : Shape := ⟨2, ![4160, 1024]⟩
abbrev S4160x4x704 : Shape := ⟨3, ![4160, 4, 704]⟩
abbrev S4160x2816 : Shape := ⟨2, ![4160, 2816]⟩
abbrev S_ : Shape := ⟨0, ![]⟩
abbrev S2816x1024 : Shape := ⟨2, ![2816, 1024]⟩
abbrev S1024x2816 : Shape := ⟨2, ![1024, 2816]⟩

abbrev nBuf : Space → Nat
  | .hbm => 12
  | .vmem => 0
  | .smem => 0
  | _ => 0

abbrev bufTy : (tb : Table) → Fin (tcTables nBuf tb) → BufTy
  | .hbm, ⟨0, _⟩ => ⟨S4x4160x704, .bf16⟩
  | .hbm, ⟨1, _⟩ => ⟨S4160x1024, .bf16⟩
  | .hbm, ⟨2, _⟩ => ⟨S4x4160x704, .f32⟩
  | .hbm, ⟨3, _⟩ => ⟨S4160x4x704, .f32⟩
  | .hbm, ⟨4, _⟩ => ⟨S4160x2816, .f32⟩
  | .hbm, ⟨5, _⟩ => ⟨S_, .f32⟩
  | .hbm, ⟨6, _⟩ => ⟨S2816x1024, .f32⟩
  | .hbm, ⟨7, _⟩ => ⟨S4160x1024, .f32⟩
  | .hbm, ⟨8, _⟩ => ⟨S4160x1024, .f32⟩
  | .hbm, ⟨9, _⟩ => ⟨S1024x2816, .f32⟩
  | .hbm, ⟨10, _⟩ => ⟨S2816x1024, .f32⟩
  | .hbm, ⟨11, _⟩ => ⟨S2816x1024, .bf16⟩
  | _, _ => ⟨S4x4160x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Forward.lean ====
abbrev S4160x1024 : Shape := ⟨2, ![4160, 1024]⟩
abbrev S1024 : Shape := ⟨1, ![1024]⟩
abbrev S1024x5632 : Shape := ⟨2, ![1024, 5632]⟩
abbrev S2816x1024 : Shape := ⟨2, ![2816, 1024]⟩
abbrev S5632x1024 : Shape := ⟨2, ![5632, 1024]⟩
abbrev S8x704x1024 : Shape := ⟨3, ![8, 704, 1024]⟩
abbrev S1x1024 : Shape := ⟨2, ![1, 1024]⟩
abbrev S832x1024 : Shape := ⟨2, ![832, 1024]⟩
abbrev S1x704x1024 : Shape := ⟨3, ![1, 704, 1024]⟩
abbrev S704x1024 : Shape := ⟨2, ![704, 1024]⟩
abbrev S832 : Shape := ⟨1, ![832]⟩
abbrev S832x1 : Shape := ⟨2, ![832, 1]⟩
abbrev S416x1024 : Shape := ⟨2, ![416, 1024]⟩
abbrev S416x704 : Shape := ⟨2, ![416, 704]⟩

abbrev nBuf : Space → Nat
  | .hbm => 10
  | .vmem => 13
  | .smem => 0
  | _ => 0

abbrev bufTy : (tb : Table) → Fin (tcTables nBuf tb) → BufTy
  | .hbm, ⟨0, _⟩ => ⟨S4160x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S5632x1024, .f32⟩
  | .hbm, ⟨5, _⟩ => ⟨S5632x1024, .bf16⟩
  | .hbm, ⟨6, _⟩ => ⟨S8x704x1024, .bf16⟩
  | .hbm, ⟨7, _⟩ => ⟨S1x1024, .f32⟩
  | .hbm, ⟨8, _⟩ => ⟨S2816x1024, .bf16⟩
  | .hbm, ⟨9, _⟩ => ⟨S4160x1024, .f32⟩
  | .local _ .vmem, ⟨0, _⟩ => ⟨S832x1024, .f32⟩
  | .local _ .vmem, ⟨1, _⟩ => ⟨S832x1024, .f32⟩
  | .local _ .vmem, ⟨2, _⟩ => ⟨S1x1024, .f32⟩
  | .local _ .vmem, ⟨3, _⟩ => ⟨S1x704x1024, .bf16⟩
  | .local _ .vmem, ⟨4, _⟩ => ⟨S1x704x1024, .bf16⟩
  | .local _ .vmem, ⟨5, _⟩ => ⟨S1x704x1024, .bf16⟩
  | .local _ .vmem, ⟨6, _⟩ => ⟨S1x704x1024, .bf16⟩
  | .local _ .vmem, ⟨7, _⟩ => ⟨S704x1024, .bf16⟩
  | .local _ .vmem, ⟨8, _⟩ => ⟨S704x1024, .bf16⟩
  | .local _ .vmem, ⟨9, _⟩ => ⟨S832x1024, .f32⟩
  | .local _ .vmem, ⟨10, _⟩ => ⟨S832x1024, .f32⟩
  | .local _ .vmem, ⟨11, _⟩ => ⟨S832x1024, .bf16⟩
  | .local _ .vmem, ⟨12, _⟩ => ⟨S832x1024, .f32⟩
  | _, _ => ⟨S4160x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![5, 4], ![false, false]⟩

def k0_cond2 (i : grid0.Coords) : BitVec 1 :=
  let arg1 : BitVec 32 := BitVec.ofNat 32 (i 1).val
  let c3_i32 : BitVec 32 := 3#32
  let v47 : BitVec 1 := Scalar.cmpi .eq arg1 c3_i32
  let v48 : BitVec 32 := Scalar.extui v47
  let c0_i32_30 : BitVec 32 := 0#32
  let v49 : BitVec 1 := Scalar.cmpi .ne v48 c0_i32_30
  v49

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  let c0_i32_1 : BitVec 32 := 0#32
  ![v0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S832x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S704x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S832x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ForwardReferenceIdeal.lean ====
abbrev S4160x1024 : Shape := ⟨2, ![4160, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S4160 : Shape := ⟨1, ![4160]⟩
abbrev S4160x1 : Shape := ⟨2, ![4160, 1]⟩
abbrev S1x1024 : Shape := ⟨2, ![1, 1024]⟩
abbrev S4160x5632 : Shape := ⟨2, ![4160, 5632]⟩
abbrev S4160x2816 : Shape := ⟨2, ![4160, 2816]⟩

abbrev nBuf : Space → Nat
  | .hbm => 38
  | .vmem => 0
  | .smem => 0
  | _ => 0

abbrev bufTy : (tb : Table) → Fin (tcTables nBuf tb) → BufTy
  | .hbm, ⟨0, _⟩ => ⟨S4160x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S4160x1024, .f32⟩
  | .hbm, ⟨5, _⟩ => ⟨S_, .f32⟩
  | .hbm, ⟨6, _⟩ => ⟨S4160, .f32⟩
  | .hbm, ⟨7, _⟩ => ⟨S4160x1, .f32⟩
  | .hbm, ⟨8, _⟩ => ⟨S_, .f32⟩
  | .hbm, ⟨9, _⟩ => ⟨S4160x1, .f32⟩
  | .hbm, ⟨10, _⟩ => ⟨S4160x1, .f32⟩
  | .hbm, ⟨11, _⟩ => ⟨S_, .f32⟩
  | .hbm, ⟨12, _⟩ => ⟨S4160x1, .f32⟩
  | .hbm, ⟨13, _⟩ => ⟨S4160x1, .f32⟩
  | .hbm, ⟨14, _⟩ => ⟨S4160x1, .f32⟩
  | .hbm, ⟨15, _⟩ => ⟨S4160x1024, .f32⟩
  | .hbm, ⟨16, _⟩ => ⟨S4160x1024, .f32⟩
  | .hbm, ⟨17, _⟩ => ⟨S1x1024, .f32⟩
  | .hbm, ⟨18, _⟩ => ⟨S4160x1024, .f32⟩
  | .hbm, ⟨19, _⟩ => ⟨S4160x1024, .f32⟩
  | .hbm, ⟨20, _⟩ => ⟨S4160x5632, .f32⟩
  | .hbm, ⟨21, _⟩ => ⟨S4160x2816, .f32⟩
  | .hbm, ⟨22, _⟩ => ⟨S4160x2816, .f32⟩
  | .hbm, ⟨23, _⟩ => ⟨S4160x2816, .f32⟩
  | .hbm, ⟨24, _⟩ => ⟨S4160x2816, .f32⟩
  | .hbm, ⟨25, _⟩ => ⟨S_, .f32⟩
  | .hbm, ⟨26, _⟩ => ⟨S4160x2816, .f32⟩
  | .hbm, ⟨27, _⟩ => ⟨S4160x2816, .f32⟩
  | .hbm, ⟨28, _⟩ => ⟨S_, .f32⟩
  | .hbm, ⟨29, _⟩ => ⟨S4160x2816, .f32⟩
  | .hbm, ⟨30, _⟩ => ⟨S4160x2816, .f32⟩
  | .hbm, ⟨31, _⟩ => ⟨S4160x2816, .f32⟩
  | .hbm, ⟨32, _⟩ => ⟨S4160x2816, .f32⟩
  | .hbm, ⟨33, _⟩ => ⟨S4160x1024, .f32⟩
  | .hbm, ⟨34, _⟩ => ⟨S_, .f32⟩
  | .hbm, ⟨35, _⟩ => ⟨S4160x1024, .f32⟩
  | .hbm, ⟨36, _⟩ => ⟨S4160x1024, .f32⟩
  | .hbm, ⟨37, _⟩ => ⟨S4160x1024, .f32⟩
  | _, _ => ⟨S4160x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩

abbrev nD : Nat := 1
abbrev τ : Topo := Topo.v7x

variable {F : FTy → Type} [FloatOps F]
-- ==== Weight.lean ====
abbrev S4160x3072 : Shape := ⟨2, ![4160, 3072]⟩
abbrev S4160x1024 : Shape := ⟨2, ![4160, 1024]⟩
abbrev S3072x1024 : Shape := ⟨2, ![3072, 1024]⟩
abbrev S2080x1536 : Shape := ⟨2, ![2080, 1536]⟩
abbrev S2080x1024 : Shape := ⟨2, ![2080, 1024]⟩
abbrev S1536x1024 : Shape := ⟨2, ![1536, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4160x3072, .bf16⟩
  | .hbm, ⟨1, _⟩ => ⟨S4160x1024, .bf16⟩
  | .hbm, ⟨2, _⟩ => ⟨S3072x1024, .bf16⟩
  | .local _ .vmem, ⟨0, _⟩ => ⟨S2080x1536, .bf16⟩
  | .local _ .vmem, ⟨1, _⟩ => ⟨S2080x1536, .bf16⟩
  | .local _ .vmem, ⟨2, _⟩ => ⟨S2080x1024, .bf16⟩
  | .local _ .vmem, ⟨3, _⟩ => ⟨S2080x1024, .bf16⟩
  | .local _ .vmem, ⟨4, _⟩ => ⟨S1536x1024, .bf16⟩
  | .local _ .vmem, ⟨5, _⟩ => ⟨S1536x1024, .bf16⟩
  | .local _ .vmem, ⟨6, _⟩ => ⟨S1536x1024, .f32⟩
  | _, _ => ⟨S4160x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2080x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2080x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1536x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WeightReferenceIdeal.lean ====
abbrev S4160x3072 : Shape := ⟨2, ![4160, 3072]⟩
abbrev S4160x1024 : Shape := ⟨2, ![4160, 1024]⟩
abbrev S_ : Shape := ⟨0, ![]⟩
abbrev S3072x1024 : Shape := ⟨2, ![3072, 1024]⟩
abbrev S1024x3072 : Shape := ⟨2, ![1024, 3072]⟩

abbrev nBuf : Space → Nat
  | .hbm => 12
  | .vmem => 0
  | .smem => 0
  | _ => 0

abbrev bufTy : (tb : Table) → Fin (tcTables nBuf tb) → BufTy
  | .hbm, ⟨0, _⟩ => ⟨S4160x3072, .bf16⟩
  | .hbm, ⟨1, _⟩ => ⟨S4160x1024, .bf16⟩
  | .hbm, ⟨2, _⟩ => ⟨S_, .f32⟩
  | .hbm, ⟨3, _⟩ => ⟨S3072x1024, .f32⟩
  | .hbm, ⟨4, _⟩ => ⟨S4160x1024, .f32⟩
  | .hbm, ⟨5, _⟩ => ⟨S1024x3072, .f32⟩
  | .hbm, ⟨6, _⟩ => ⟨S4160x3072, .f32⟩
  | .hbm, ⟨7, _⟩ => ⟨S4160x3072, .f32⟩
  | .hbm, ⟨8, _⟩ => ⟨S3072x1024, .f32⟩
  | .hbm, ⟨9, _⟩ => ⟨S1024x3072, .f32⟩
  | .hbm, ⟨10, _⟩ => ⟨S3072x1024, .f32⟩
  | .hbm, ⟨11, _⟩ => ⟨S3072x1024, .bf16⟩
  | _, _ => ⟨S4160x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Back.lean ====
abbrev S4160x3072 : Shape := ⟨2, ![4160, 3072]⟩
abbrev S3072x1024 : Shape := ⟨2, ![3072, 1024]⟩
abbrev S4160x1024 : Shape := ⟨2, ![4160, 1024]⟩
abbrev S832x3072 : Shape := ⟨2, ![832, 3072]⟩
abbrev S832x1024 : Shape := ⟨2, ![832, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4160x3072, .bf16⟩
  | .hbm, ⟨1, _⟩ => ⟨S3072x1024, .bf16⟩
  | .hbm, ⟨2, _⟩ => ⟨S4160x1024, .f32⟩
  | .hbm, ⟨3, _⟩ => ⟨S4160x1024, .f32⟩
  | .local _ .vmem, ⟨0, _⟩ => ⟨S832x3072, .bf16⟩
  | .local _ .vmem, ⟨1, _⟩ => ⟨S832x3072, .bf16⟩
  | .local _ .vmem, ⟨2, _⟩ => ⟨S3072x1024, .bf16⟩
  | .local _ .vmem, ⟨3, _⟩ => ⟨S832x1024, .f32⟩
  | .local _ .vmem, ⟨4, _⟩ => ⟨S832x1024, .f32⟩
  | .local _ .vmem, ⟨5, _⟩ => ⟨S832x1024, .f32⟩
  | .local _ .vmem, ⟨6, _⟩ => ⟨S832x1024, .f32⟩
  | _, _ => ⟨S4160x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![5, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S832x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S832x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S832x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== BackReferenceIdeal.lean ====
abbrev S4160x3072 : Shape := ⟨2, ![4160, 3072]⟩
abbrev S3072x1024 : Shape := ⟨2, ![3072, 1024]⟩
abbrev S4160x1024 : Shape := ⟨2, ![4160, 1024]⟩
abbrev S_ : Shape := ⟨0, ![]⟩
abbrev S1024x3072 : Shape := ⟨2, ![1024, 3072]⟩

abbrev nBuf : Space → Nat
  | .hbm => 11
  | .vmem => 0
  | .smem => 0
  | _ => 0

abbrev bufTy : (tb : Table) → Fin (tcTables nBuf tb) → BufTy
  | .hbm, ⟨0, _⟩ => ⟨S4160x3072, .bf16⟩
  | .hbm, ⟨1, _⟩ => ⟨S3072x1024, .bf16⟩
  | .hbm, ⟨2, _⟩ => ⟨S4160x1024, .f32⟩
  | .hbm, ⟨3, _⟩ => ⟨S_, .f32⟩
  | .hbm, ⟨4, _⟩ => ⟨S4160x1024, .f32⟩
  | .hbm, ⟨5, _⟩ => ⟨S3072x1024, .f32⟩
  | .hbm, ⟨6, _⟩ => ⟨S1024x3072, .f32⟩
  | .hbm, ⟨7, _⟩ => ⟨S4160x3072, .f32⟩
  | .hbm, ⟨8, _⟩ => ⟨S4160x3072, .f32⟩
  | .hbm, ⟨9, _⟩ => ⟨S4160x1024, .f32⟩
  | .hbm, ⟨10, _⟩ => ⟨S4160x1024, .f32⟩
  | _, _ => ⟨S4160x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Inward.lean ====
abbrev S4160x1024 : Shape := ⟨2, ![4160, 1024]⟩
abbrev S3072x1024 : Shape := ⟨2, ![3072, 1024]⟩
abbrev S4160x3072 : Shape := ⟨2, ![4160, 3072]⟩
abbrev S832x1024 : Shape := ⟨2, ![832, 1024]⟩
abbrev S832x3072 : Shape := ⟨2, ![832, 3072]⟩

abbrev nBuf : Space → Nat
  | .hbm => 3
  | .vmem => 5
  | .smem => 0
  | _ => 0

abbrev bufTy : (tb : Table) → Fin (tcTables nBuf tb) → BufTy
  | .hbm, ⟨0, _⟩ => ⟨S4160x1024, .bf16⟩
  | .hbm, ⟨1, _⟩ => ⟨S3072x1024, .bf16⟩
  | .hbm, ⟨2, _⟩ => ⟨S4160x3072, .f32⟩
  | .local _ .vmem, ⟨0, _⟩ => ⟨S832x1024, .bf16⟩
  | .local _ .vmem, ⟨1, _⟩ => ⟨S832x1024, .bf16⟩
  | .local _ .vmem, ⟨2, _⟩ => ⟨S3072x1024, .bf16⟩
  | .local _ .vmem, ⟨3, _⟩ => ⟨S832x3072, .f32⟩
  | .local _ .vmem, ⟨4, _⟩ => ⟨S832x3072, .f32⟩
  | _, _ => ⟨S4160x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![5, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S832x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S832x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InwardReferenceIdeal.lean ====
abbrev S4160x1024 : Shape := ⟨2, ![4160, 1024]⟩
abbrev S3072x1024 : Shape := ⟨2, ![3072, 1024]⟩
abbrev S1024x3072 : Shape := ⟨2, ![1024, 3072]⟩
abbrev S4160x3072 : Shape := ⟨2, ![4160, 3072]⟩

abbrev nBuf : Space → Nat
  | .hbm => 6
  | .vmem => 0
  | .smem => 0
  | _ => 0

abbrev bufTy : (tb : Table) → Fin (tcTables nBuf tb) → BufTy
  | .hbm, ⟨0, _⟩ => ⟨S4160x1024, .bf16⟩
  | .hbm, ⟨1, _⟩ => ⟨S3072x1024, .bf16⟩
  | .hbm, ⟨2, _⟩ => ⟨S4160x1024, .f32⟩
  | .hbm, ⟨3, _⟩ => ⟨S3072x1024, .f32⟩
  | .hbm, ⟨4, _⟩ => ⟨S1024x3072, .f32⟩
  | .hbm, ⟨5, _⟩ => ⟨S4160x3072, .f32⟩
  | _, _ => ⟨S4160x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== FirstBack.lean ====
abbrev S4160x3072 : Shape := ⟨2, ![4160, 3072]⟩
abbrev S3072x1024 : Shape := ⟨2, ![3072, 1024]⟩
abbrev S4160x1024 : Shape := ⟨2, ![4160, 1024]⟩
abbrev S832x3072 : Shape := ⟨2, ![832, 3072]⟩
abbrev S832x1024 : Shape := ⟨2, ![832, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4160x3072, .bf16⟩
  | .hbm, ⟨1, _⟩ => ⟨S3072x1024, .bf16⟩
  | .hbm, ⟨2, _⟩ => ⟨S4160x1024, .f32⟩
  | .local _ .vmem, ⟨0, _⟩ => ⟨S832x3072, .bf16⟩
  | .local _ .vmem, ⟨1, _⟩ => ⟨S832x3072, .bf16⟩
  | .local _ .vmem, ⟨2, _⟩ => ⟨S3072x1024, .bf16⟩
  | .local _ .vmem, ⟨3, _⟩ => ⟨S832x1024, .f32⟩
  | .local _ .vmem, ⟨4, _⟩ => ⟨S832x1024, .f32⟩
  | _, _ => ⟨S4160x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![5, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S832x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S832x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== FirstBackReferenceIdeal.lean ====
abbrev S4160x3072 : Shape := ⟨2, ![4160, 3072]⟩
abbrev S3072x1024 : Shape := ⟨2, ![3072, 1024]⟩
abbrev S_ : Shape := ⟨0, ![]⟩
abbrev S4160x1024 : Shape := ⟨2, ![4160, 1024]⟩
abbrev S1024x3072 : Shape := ⟨2, ![1024, 3072]⟩

abbrev nBuf : Space → Nat
  | .hbm => 9
  | .vmem => 0
  | .smem => 0
  | _ => 0

abbrev bufTy : (tb : Table) → Fin (tcTables nBuf tb) → BufTy
  | .hbm, ⟨0, _⟩ => ⟨S4160x3072, .bf16⟩
  | .hbm, ⟨1, _⟩ => ⟨S3072x1024, .bf16⟩
  | .hbm, ⟨2, _⟩ => ⟨S_, .f32⟩
  | .hbm, ⟨3, _⟩ => ⟨S4160x1024, .f32⟩
  | .hbm, ⟨4, _⟩ => ⟨S3072x1024, .f32⟩
  | .hbm, ⟨5, _⟩ => ⟨S1024x3072, .f32⟩
  | .hbm, ⟨6, _⟩ => ⟨S4160x3072, .f32⟩
  | .hbm, ⟨7, _⟩ => ⟨S4160x3072, .f32⟩
  | .hbm, ⟨8, _⟩ => ⟨S4160x1024, .f32⟩
  | _, _ => ⟨S4160x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== BranchInward.lean ====
abbrev S4160x1024 : Shape := ⟨2, ![4160, 1024]⟩
abbrev S3456x1024 : Shape := ⟨2, ![3456, 1024]⟩
abbrev S4160x3456 : Shape := ⟨2, ![4160, 3456]⟩
abbrev S832x1024 : Shape := ⟨2, ![832, 1024]⟩
abbrev S1152x1024 : Shape := ⟨2, ![1152, 1024]⟩
abbrev S832x1152 : Shape := ⟨2, ![832, 1152]⟩

abbrev nBuf : Space → Nat
  | .hbm => 3
  | .vmem => 6
  | .smem => 0
  | _ => 0

abbrev bufTy : (tb : Table) → Fin (tcTables nBuf tb) → BufTy
  | .hbm, ⟨0, _⟩ => ⟨S4160x1024, .bf16⟩
  | .hbm, ⟨1, _⟩ => ⟨S3456x1024, .bf16⟩
  | .hbm, ⟨2, _⟩ => ⟨S4160x3456, .f32⟩
  | .local _ .vmem, ⟨0, _⟩ => ⟨S832x1024, .bf16⟩
  | .local _ .vmem, ⟨1, _⟩ => ⟨S832x1024, .bf16⟩
  | .local _ .vmem, ⟨2, _⟩ => ⟨S1152x1024, .bf16⟩
  | .local _ .vmem, ⟨3, _⟩ => ⟨S1152x1024, .bf16⟩
  | .local _ .vmem, ⟨4, _⟩ => ⟨S832x1152, .f32⟩
  | .local _ .vmem, ⟨5, _⟩ => ⟨S832x1152, .f32⟩
  | _, _ => ⟨S4160x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![5, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S832x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1152x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S832x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== BranchInwardReferenceIdeal.lean ====
abbrev S4160x1024 : Shape := ⟨2, ![4160, 1024]⟩
abbrev S3456x1024 : Shape := ⟨2, ![3456, 1024]⟩
abbrev S1024x3456 : Shape := ⟨2, ![1024, 3456]⟩
abbrev S4160x3456 : Shape := ⟨2, ![4160, 3456]⟩

abbrev nBuf : Space → Nat
  | .hbm => 6
  | .vmem => 0
  | .smem => 0
  | _ => 0

abbrev bufTy : (tb : Table) → Fin (tcTables nBuf tb) → BufTy
  | .hbm, ⟨0, _⟩ => ⟨S4160x1024, .bf16⟩
  | .hbm, ⟨1, _⟩ => ⟨S3456x1024, .bf16⟩
  | .hbm, ⟨2, _⟩ => ⟨S4160x1024, .f32⟩
  | .hbm, ⟨3, _⟩ => ⟨S3456x1024, .f32⟩
  | .hbm, ⟨4, _⟩ => ⟨S1024x3456, .f32⟩
  | .hbm, ⟨5, _⟩ => ⟨S4160x3456, .f32⟩
  | _, _ => ⟨S4160x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== BranchWeight.lean ====
abbrev S4160x3456 : Shape := ⟨2, ![4160, 3456]⟩
abbrev S4160x1024 : Shape := ⟨2, ![4160, 1024]⟩
abbrev S3456x1024 : Shape := ⟨2, ![3456, 1024]⟩
abbrev S2080x1152 : Shape := ⟨2, ![2080, 1152]⟩
abbrev S2080x1024 : Shape := ⟨2, ![2080, 1024]⟩
abbrev S1152x1024 : Shape := ⟨2, ![1152, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4160x3456, .bf16⟩
  | .hbm, ⟨1, _⟩ => ⟨S4160x1024, .bf16⟩
  | .hbm, ⟨2, _⟩ => ⟨S3456x1024, .bf16⟩
  | .local _ .vmem, ⟨0, _⟩ => ⟨S2080x1152, .bf16⟩
  | .local _ .vmem, ⟨1, _⟩ => ⟨S2080x1152, .bf16⟩
  | .local _ .vmem, ⟨2, _⟩ => ⟨S2080x1024, .bf16⟩
  | .local _ .vmem, ⟨3, _⟩ => ⟨S2080x1024, .bf16⟩
  | .local _ .vmem, ⟨4, _⟩ => ⟨S1152x1024, .bf16⟩
  | .local _ .vmem, ⟨5, _⟩ => ⟨S1152x1024, .bf16⟩
  | .local _ .vmem, ⟨6, _⟩ => ⟨S1152x1024, .f32⟩
  | _, _ => ⟨S4160x3456, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2080x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2080x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1152x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchWeightReferenceIdeal.lean ====
abbrev S4160x3456 : Shape := ⟨2, ![4160, 3456]⟩
abbrev S4160x1024 : Shape := ⟨2, ![4160, 1024]⟩
abbrev S_ : Shape := ⟨0, ![]⟩
abbrev S3456x1024 : Shape := ⟨2, ![3456, 1024]⟩
abbrev S1024x3456 : Shape := ⟨2, ![1024, 3456]⟩

abbrev nBuf : Space → Nat
  | .hbm => 12
  | .vmem => 0
  | .smem => 0
  | _ => 0

abbrev bufTy : (tb : Table) → Fin (tcTables nBuf tb) → BufTy
  | .hbm, ⟨0, _⟩ => ⟨S4160x3456, .bf16⟩
  | .hbm, ⟨1, _⟩ => ⟨S4160x1024, .bf16⟩
  | .hbm, ⟨2, _⟩ => ⟨S_, .f32⟩
  | .hbm, ⟨3, _⟩ => ⟨S3456x1024, .f32⟩
  | .hbm, ⟨4, _⟩ => ⟨S4160x1024, .f32⟩
  | .hbm, ⟨5, _⟩ => ⟨S1024x3456, .f32⟩
  | .hbm, ⟨6, _⟩ => ⟨S4160x3456, .f32⟩
  | .hbm, ⟨7, _⟩ => ⟨S4160x3456, .f32⟩
  | .hbm, ⟨8, _⟩ => ⟨S3456x1024, .f32⟩
  | .hbm, ⟨9, _⟩ => ⟨S1024x3456, .f32⟩
  | .hbm, ⟨10, _⟩ => ⟨S3456x1024, .f32⟩
  | .hbm, ⟨11, _⟩ => ⟨S3456x1024, .bf16⟩
  | _, _ => ⟨S4160x3456, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== BranchBack.lean ====
abbrev S4160x3456 : Shape := ⟨2, ![4160, 3456]⟩
abbrev S3456x1024 : Shape := ⟨2, ![3456, 1024]⟩
abbrev S4160x1024 : Shape := ⟨2, ![4160, 1024]⟩
abbrev S832x3456 : Shape := ⟨2, ![832, 3456]⟩
abbrev S832x1024 : Shape := ⟨2, ![832, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4160x3456, .bf16⟩
  | .hbm, ⟨1, _⟩ => ⟨S3456x1024, .bf16⟩
  | .hbm, ⟨2, _⟩ => ⟨S4160x1024, .f32⟩
  | .hbm, ⟨3, _⟩ => ⟨S4160x1024, .f32⟩
  | .local _ .vmem, ⟨0, _⟩ => ⟨S832x3456, .bf16⟩
  | .local _ .vmem, ⟨1, _⟩ => ⟨S832x3456, .bf16⟩
  | .local _ .vmem, ⟨2, _⟩ => ⟨S3456x1024, .bf16⟩
  | .local _ .vmem, ⟨3, _⟩ => ⟨S832x1024, .f32⟩
  | .local _ .vmem, ⟨4, _⟩ => ⟨S832x1024, .f32⟩
  | .local _ .vmem, ⟨5, _⟩ => ⟨S832x1024, .f32⟩
  | .local _ .vmem, ⟨6, _⟩ => ⟨S832x1024, .f32⟩
  | _, _ => ⟨S4160x3456, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![5, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S832x3456 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S3456x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S832x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S832x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== BranchBackReferenceIdeal.lean ====
abbrev S4160x3456 : Shape := ⟨2, ![4160, 3456]⟩
abbrev S3456x1024 : Shape := ⟨2, ![3456, 1024]⟩
abbrev S4160x1024 : Shape := ⟨2, ![4160, 1024]⟩
abbrev S_ : Shape := ⟨0, ![]⟩
abbrev S1024x3456 : Shape := ⟨2, ![1024, 3456]⟩

abbrev nBuf : Space → Nat
  | .hbm => 11
  | .vmem => 0
  | .smem => 0
  | _ => 0

abbrev bufTy : (tb : Table) → Fin (tcTables nBuf tb) → BufTy
  | .hbm, ⟨0, _⟩ => ⟨S4160x3456, .bf16⟩
  | .hbm, ⟨1, _⟩ => ⟨S3456x1024, .bf16⟩
  | .hbm, ⟨2, _⟩ => ⟨S4160x1024, .f32⟩
  | .hbm, ⟨3, _⟩ => ⟨S_, .f32⟩
  | .hbm, ⟨4, _⟩ => ⟨S4160x1024, .f32⟩
  | .hbm, ⟨5, _⟩ => ⟨S3456x1024, .f32⟩
  | .hbm, ⟨6, _⟩ => ⟨S1024x3456, .f32⟩
  | .hbm, ⟨7, _⟩ => ⟨S4160x3456, .f32⟩
  | .hbm, ⟨8, _⟩ => ⟨S4160x3456, .f32⟩
  | .hbm, ⟨9, _⟩ => ⟨S4160x1024, .f32⟩
  | .hbm, ⟨10, _⟩ => ⟨S4160x1024, .f32⟩
  | _, _ => ⟨S4160x3456, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Outward.lean ====
abbrev S4160x1024 : Shape := ⟨2, ![4160, 1024]⟩
abbrev S1024x1024 : Shape := ⟨2, ![1024, 1024]⟩
abbrev S832x1024 : Shape := ⟨2, ![832, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4160x1024, .bf16⟩
  | .hbm, ⟨1, _⟩ => ⟨S1024x1024, .bf16⟩
  | .hbm, ⟨2, _⟩ => ⟨S4160x1024, .f32⟩
  | .hbm, ⟨3, _⟩ => ⟨S4160x1024, .f32⟩
  | .local _ .vmem, ⟨0, _⟩ => ⟨S832x1024, .bf16⟩
  | .local _ .vmem, ⟨1, _⟩ => ⟨S832x1024, .bf16⟩
  | .local _ .vmem, ⟨2, _⟩ => ⟨S1024x1024, .bf16⟩
  | .local _ .vmem, ⟨3, _⟩ => ⟨S832x1024, .f32⟩
  | .local _ .vmem, ⟨4, _⟩ => ⟨S832x1024, .f32⟩
  | .local _ .vmem, ⟨5, _⟩ => ⟨S832x1024, .f32⟩
  | .local _ .vmem, ⟨6, _⟩ => ⟨S832x1024, .f32⟩
  | _, _ => ⟨S4160x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![5, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S832x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S832x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S832x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutwardReferenceIdeal.lean ====
abbrev S4160x1024 : Shape := ⟨2, ![4160, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4160x1024, .bf16⟩
  | .hbm, ⟨1, _⟩ => ⟨S1024x1024, .bf16⟩
  | .hbm, ⟨2, _⟩ => ⟨S4160x1024, .f32⟩
  | .hbm, ⟨3, _⟩ => ⟨S4160x1024, .f32⟩
  | .hbm, ⟨4, _⟩ => ⟨S1024x1024, .f32⟩
  | .hbm, ⟨5, _⟩ => ⟨S4160x1024, .f32⟩
  | .hbm, ⟨6, _⟩ => ⟨S4160x1024, .f32⟩
  | _, _ => ⟨S4160x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OutwardWeight.lean ====
abbrev S4160x1024 : Shape := ⟨2, ![4160, 1024]⟩
abbrev S1024x1024 : Shape := ⟨2, ![1024, 1024]⟩
abbrev S2080x1024 : Shape := ⟨2, ![2080, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4160x1024, .bf16⟩
  | .hbm, ⟨1, _⟩ => ⟨S4160x1024, .bf16⟩
  | .hbm, ⟨2, _⟩ => ⟨S1024x1024, .bf16⟩
  | .local _ .vmem, ⟨0, _⟩ => ⟨S2080x1024, .bf16⟩
  | .local _ .vmem, ⟨1, _⟩ => ⟨S2080x1024, .bf16⟩
  | .local _ .vmem, ⟨2, _⟩ => ⟨S2080x1024, .bf16⟩
  | .local _ .vmem, ⟨3, _⟩ => ⟨S2080x1024, .bf16⟩
  | .local _ .vmem, ⟨4, _⟩ => ⟨S1024x1024, .bf16⟩
  | .local _ .vmem, ⟨5, _⟩ => ⟨S1024x1024, .f32⟩
  | _, _ => ⟨S4160x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2080x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2080x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutwardWeightReferenceIdeal.lean ====
abbrev S4160x1024 : Shape := ⟨2, ![4160, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4160x1024, .bf16⟩
  | .hbm, ⟨1, _⟩ => ⟨S4160x1024, .bf16⟩
  | .hbm, ⟨2, _⟩ => ⟨S_, .f32⟩
  | .hbm, ⟨3, _⟩ => ⟨S1024x1024, .f32⟩
  | .hbm, ⟨4, _⟩ => ⟨S4160x1024, .f32⟩
  | .hbm, ⟨5, _⟩ => ⟨S4160x1024, .f32⟩
  | .hbm, ⟨6, _⟩ => ⟨S4160x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4160x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== OutwardBack.lean ====
abbrev S4160x1024 : Shape := ⟨2, ![4160, 1024]⟩
abbrev S1024x1024 : Shape := ⟨2, ![1024, 1024]⟩
abbrev S832x1024 : Shape := ⟨2, ![832, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4160x1024, .bf16⟩
  | .hbm, ⟨1, _⟩ => ⟨S1024x1024, .bf16⟩
  | .hbm, ⟨2, _⟩ => ⟨S4160x1024, .f32⟩
  | .local _ .vmem, ⟨0, _⟩ => ⟨S832x1024, .bf16⟩
  | .local _ .vmem, ⟨1, _⟩ => ⟨S832x1024, .bf16⟩
  | .local _ .vmem, ⟨2, _⟩ => ⟨S1024x1024, .bf16⟩
  | .local _ .vmem, ⟨3, _⟩ => ⟨S832x1024, .f32⟩
  | .local _ .vmem, ⟨4, _⟩ => ⟨S832x1024, .f32⟩
  | _, _ => ⟨S4160x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![5, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S832x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S832x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutwardBackReferenceIdeal.lean ====
abbrev S4160x1024 : Shape := ⟨2, ![4160, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4160x1024, .bf16⟩
  | .hbm, ⟨1, _⟩ => ⟨S1024x1024, .bf16⟩
  | .hbm, ⟨2, _⟩ => ⟨S_, .f32⟩
  | .hbm, ⟨3, _⟩ => ⟨S4160x1024, .f32⟩
  | .hbm, ⟨4, _⟩ => ⟨S1024x1024, .f32⟩
  | .hbm, ⟨5, _⟩ => ⟨S4160x1024, .f32⟩
  | .hbm, ⟨6, _⟩ => ⟨S4160x1024, .f32⟩
  | .hbm, ⟨7, _⟩ => ⟨S4160x1024, .f32⟩
  | _, _ => ⟨S4160x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proof.Ffn.Step.lean ====
/-
What one grid point of the feed-forward backward call leaves in its buffers: the definitions, and the
theorem that the printed body leaves exactly that.
-/
module

public import proofs.«01_k».proof.Proof.Gen.KernelIdeal.Frame
public import proofs.«01_k».proof.Proof.Gen.KernelIdeal.Skeleton
public import proofs.«01_k».proof.Proof.Gen.KernelIdeal.Skeleton
public import Idealize.ShloMosaic.Lib.Exec
public import Idealize.ShloMosaic.Lib.Pipeline.ValueKit
public import Idealize.ShloMosaic.Lib.VecWindow

@[expose] public section

set_option maxRecDepth 16384

noncomputable section

namespace Cert.KernelIdeal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## The two halves of a block of 416 rows -/

/-- Rows 0 to 207 of a block of 416 rows. -/
abbrev loR : Rect S416x1024 := Rect.unit (s := S416x1024) ![0, 0] S208x1024.size inb_S416x1024_S208x1024_0_0
/-- Rows 208 to 415 of a block of 416 rows. -/
abbrev hiR : Rect S416x1024 := Rect.unit (s := S416x1024) ![208, 0] S208x1024.size inb_S416x1024_S208x1024_208_0
/-- Rows 0 to 207 of a block of 416 rows of one slab of hidden channels. -/
abbrev loS : Rect S1x416x704 := Rect.unit (s := S1x416x704) ![0, 0, 0] S1x208x704.size inb_S1x416x704_S1x208x704_0_0_0
/-- Rows 208 to 415 of a block of 416 rows of one slab of hidden channels. -/
abbrev hiS : Rect S1x416x704 := Rect.unit (s := S1x416x704) ![0, 208, 0] S1x208x704.size inb_S1x416x704_S1x208x704_0_208_0

/-- The whole block of 416 rows. -/
abbrev fullR : Rect S416x1024 := Rect.unit (s := S416x1024) ![0, 0] S416x1024.size inb_S416x1024_S416x1024_0_0

/-- One store of the whole block leaves what was stored. -/
theorem canon_whole {e : EltTy} (w : S416x1024.Idx → Elt F e) : View.canon [(⟨fullR, w⟩ : View.Piece (Elt F) S416x1024 e)] = w :=
  View.canon_cons_unit_lit' inb_S416x1024_S416x1024_0_0 w [] (by decide)

theorem cover_rows {e : EltTy} (a : hiR.shape.Idx → Elt F e) (b : loR.shape.Idx → Elt F e) (y : S416x1024.Idx) :
    ∃ p ∈ ([⟨hiR, a⟩, ⟨loR, b⟩] : List (View.Piece (Elt F) S416x1024 e)), y ∈ p.1.set := by
  have h0 : (y 0).val < 416 := (y 0).isLt
  have h1 : (y 1).val < 1024 := (y 1).isLt
  by_cases hy : (y 0).val < 208
  · refine ⟨⟨loR, b⟩, by simp, (Rect.mem_set_unit (inb := inb_S416x1024_S208x1024_0_0)).mpr (Fin.forall_fin_two.mpr ⟨⟨Nat.zero_le _, ?_⟩, Nat.zero_le _, ?_⟩)⟩
    · exact hy
    · exact h1
  · refine ⟨⟨hiR, a⟩, by simp, (Rect.mem_set_unit (inb := inb_S416x1024_S208x1024_208_0)).mpr (Fin.forall_fin_two.mpr ⟨⟨Nat.le_of_not_lt hy, ?_⟩, Nat.zero_le _, ?_⟩)⟩
    · exact h0
    · exact h1

theorem cover_slab {e : EltTy} (a : hiS.shape.Idx → Elt F e) (b : loS.shape.Idx → Elt F e) (y : S1x416x704.Idx) :
    ∃ p ∈ ([⟨hiS, a⟩, ⟨loS, b⟩] : List (View.Piece (Elt F) S1x416x704 e)), y ∈ p.1.set := by
  have h0 : (y 0).val < 1 := (y 0).isLt
  have h1 : (y 1).val < 416 := (y 1).isLt
  have h2 : (y 2).val < 704 := (y 2).isLt
  by_cases hy : (y 1).val < 208
  · refine ⟨⟨loS, b⟩, by simp, (Rect.mem_set_unit (inb := inb_S1x416x704_S1x208x704_0_0_0)).mpr (Fin.forall_fin_succ.mpr ⟨⟨Nat.zero_le _, ?_⟩,
      Fin.forall_fin_two.mpr ⟨⟨Nat.zero_le _, ?_⟩, Nat.zero_le _, ?_⟩⟩)⟩
    · exact h0
    · exact hy
    · exact h2
  · refine ⟨⟨hiS, a⟩, by simp, (Rect.mem_set_unit (inb := inb_S1x416x704_S1x208x704_0_208_0)).mpr (Fin.forall_fin_succ.mpr ⟨⟨Nat.zero_le _, ?_⟩,
      Fin.forall_fin_two.mpr ⟨⟨Nat.le_of_not_lt hy, ?_⟩, Nat.zero_le _, ?_⟩⟩)⟩
    · exact h0
    · exact h1
    · exact h2

/-- Two newest stores that fill a buffer leave their canonical contents, whatever lay there before. -/
theorem read_two {sp : Space} {S : Shape} {e : EltTy} (v : View sig .tc sp S e) (f : v.ty.Contents (Elt F))
    (p q : View.Piece (Elt F) S e) (L : List (View.Piece (Elt F) S e)) (hc : ∀ y, ∃ r ∈ [p, q], y ∈ r.1.set) :
    v.read (Elt F) (v.writes (Elt F) f (p :: q :: L)) = View.canon [p, q] :=
  View.read_writes_eq_canon v (v.writes (Elt F) f L) [p, q] hc

/-- A load after a store of the whole block reads what was stored. -/
theorem load_whole {e : EltTy} {sp : Space} (v : View sig .tc sp S416x1024 e) (w : S416x1024.Idx → Elt F e) (R : Rect S416x1024) :
    v.readCov [⟨Rect.unit ![0, 0] ![416, 1024] inb_S416x1024_S416x1024_0_0, w⟩] R.toLoadRect = View.ld w R :=
  (View.readCov_eq_canon' v [⟨fullR, w⟩] R.toLoadRect).trans (congrArg (View.ld · R) (canon_whole w))

/-- A load of the lower half after a store of the whole block and one of the upper half reads the first store. -/
theorem load_other {e : EltTy} {sp : Space} (v : View sig .tc sp S416x1024 e) (w : S416x1024.Idx → Elt F e)
    (a : loR.shape.Idx → Elt F e) :
    v.readCov [⟨Rect.unit ![0, 0] ![208, 1024] inb_S416x1024_S208x1024_0_0, a⟩,
      ⟨Rect.unit ![0, 0] ![416, 1024] inb_S416x1024_S416x1024_0_0, w⟩]
      (Rect.unit ![208, 0] ![208, 1024] inb_S416x1024_S208x1024_208_0).toLoadRect = View.ld w hiR := by
  refine (View.readCov_eq_canon' v [⟨loR, a⟩, ⟨fullR, w⟩] hiR.toLoadRect).trans (funext fun x => ?_)
  refine (View.canon_cons_of_not_mem ⟨loR, a⟩ [⟨fullR, w⟩] fun hm => ?_).trans (congrFun (canon_whole w) _)
  have h : 208 + 1 * (x 0).val < 0 + 208 := ((Rect.mem_set_unit (inb := inb_S416x1024_S208x1024_0_0)).mp hm 0).2
  omega

/-- A load of the whole block after its two halves were stored reads their canonical contents. -/
theorem load_halves {e : EltTy} {sp : Space} (v : View sig .tc sp S416x1024 e) (a : hiR.shape.Idx → Elt F e) (b : loR.shape.Idx → Elt F e)
    (L : List (View.Piece (Elt F) S416x1024 e)) :
    v.readCov (⟨Rect.unit ![208, 0] ![208, 1024] inb_S416x1024_S208x1024_208_0, a⟩ ::
      ⟨Rect.unit ![0, 0] ![208, 1024] inb_S416x1024_S208x1024_0_0, b⟩ :: L)
      (Rect.unit ![0, 0] ![416, 1024] inb_S416x1024_S416x1024_0_0).toLoadRect = View.canon [⟨hiR, a⟩, ⟨loR, b⟩] :=
  (View.readAt_full v _ inb_S416x1024_S416x1024_0_0).trans (read_two v _ _ _ L (cover_rows a b))

/-! ## What the body computes -/

section
variable (wg wu : Vec F S1x704x1024 .bf16) (wd : Vec F S704x1024 .bf16) (x d : Vec F S208x1024 .bf16)

/-- The hidden activations of the upper 208 rows. -/
abbrev actLo : FVec F S1x208x704 .bf16 := k0_pay19 wg wu x
/-- The hidden activations of the lower 208 rows. -/
abbrev actHi : FVec F S1x208x704 .bf16 := k0_pay32 (k0_pay28 (k0_pay11 wg) x) (k0_pay29 (k0_pay12 wu) x) (k0_pay30 (k0_pay11 wg) x)
/-- The gradient of the gate for the upper 208 rows. -/
abbrev dgateLo : FVec F S1x208x704 .bf16 :=
  k0_pay24 (k0_pay15 wg x) (k0_pay17 wg x) (k0_pay20 wu wd x d) (k0_pay21 wg x)
/-- The gradient of the gate for the lower 208 rows. -/
abbrev dgateHi : FVec F S1x208x704 .bf16 := k0_pay35 (k0_pay13 wd) (k0_pay28 (k0_pay11 wg) x) (k0_pay29 (k0_pay12 wu) x) (k0_pay30 (k0_pay11 wg) x) d
/-- The gradient of the up projection for the upper 208 rows. -/
abbrev dupLo : FVec F S1x208x704 .bf16 := k0_pay25 (k0_pay15 wg x) (k0_pay17 wg x) (k0_pay18 wd d)
/-- The gradient of the up projection for the lower 208 rows. -/
abbrev dupHi : FVec F S1x208x704 .bf16 :=
  k0_pay36 (k0_pay13 wd) (k0_pay28 (k0_pay11 wg) x) (k0_pay30 (k0_pay11 wg) x) d
/-- What the upper 208 rows of the input's gradient become when one slab of hidden channels is added. -/
abbrev sumLo (s : Vec F S208x1024 .f32) : FVec F S208x1024 .f32 :=
  k0_pay26 (k0_pay11 wg) (k0_pay12 wu) (k0_pay15 wg x) (k0_pay17 wg x) (k0_pay18 wd d) (k0_pay20 wu wd x d) (k0_pay21 wg x) s
/-- What the lower 208 rows of the input's gradient become when one slab of hidden channels is added. -/
abbrev sumHi (s : Vec F S208x1024 .f32) : FVec F S208x1024 .f32 :=
  k0_pay37 (k0_pay11 wg) (k0_pay12 wu) (k0_pay13 wd) (k0_pay28 (k0_pay11 wg) x) (k0_pay29 (k0_pay12 wu) x) (k0_pay30 (k0_pay11 wg) x) d s
end

section
variable (wg wu : Vec F S1x704x1024 .bf16) (wd : Vec F S704x1024 .bf16) (xn dhalf : Vec F S416x1024 .bf16)

/-- The hidden activations of a block of rows and one slab of channels. -/
def actOf : Vec F S1x416x704 .bf16 :=
  View.canon [⟨hiS, actHi wg wu (View.ld xn hiR)⟩, ⟨loS, actLo wg wu (View.ld xn loR)⟩]
/-- The gradient of the gate of a block of rows and one slab of channels. -/
def dgateOf : Vec F S1x416x704 .bf16 :=
  View.canon [⟨hiS, dgateHi wg wu wd (View.ld xn hiR) (View.ld dhalf hiR)⟩,
    ⟨loS, dgateLo wg wu wd (View.ld xn loR) (View.ld dhalf loR)⟩]
/-- The gradient of the up projection of a block of rows and one slab of channels. -/
def dupOf : Vec F S1x416x704 .bf16 :=
  View.canon [⟨hiS, dupHi wg wd (View.ld xn hiR) (View.ld dhalf hiR)⟩,
    ⟨loS, dupLo wg wd (View.ld xn loR) (View.ld dhalf loR)⟩]
/-- The gradient of the normalised input of a block of rows, `s` before one slab of channels is added. -/
def sumOf (s : Vec F S416x1024 .f32) : Vec F S416x1024 .f32 :=
  View.canon [⟨hiR, sumHi wg wu wd (View.ld xn hiR) (View.ld dhalf hiR) (View.ld s hiR)⟩,
    ⟨loR, sumLo wg wu wd (View.ld xn loR) (View.ld dhalf loR) (View.ld s loR)⟩]
end

section
variable (p q : Prop) [Decidable p] [Decidable q]
/-- The normalised rows: computed at a row block's first point (`p`), kept afterwards. -/
def xnAt (h : Vec F S416x1024 .f32) (g : Vec F S1x1024 .f32) (xn : Vec F S416x1024 .bf16) : Vec F S416x1024 .bf16 :=
  if p then k0_pay8 h g else xn
/-- Half of the incoming gradient: computed at a row block's first point (`p`), kept afterwards. -/
def dhalfAt (dout : Vec F S416x1024 .f32) (dhalf : Vec F S416x1024 .bf16) : Vec F S416x1024 .bf16 :=
  if p then k0_pay9 dout else dhalf
/-- The running sum over the slabs: from zero at a row block's first point (`p`). -/
def sumAt (wg wu : Vec F S1x704x1024 .bf16) (wd : Vec F S704x1024 .bf16) (xn dhalf : Vec F S416x1024 .bf16)
    (s : Vec F S416x1024 .f32) : Vec F S416x1024 .f32 :=
  sumOf wg wu wd xn dhalf (if p then k0_pay10 else s)
/-- The gradient of the block's rows: written at a row block's last point (`p`). -/
def dhAt (h : Vec F S416x1024 .f32) (g : Vec F S1x1024 .f32) (dout s dh : Vec F S416x1024 .f32) : Vec F S416x1024 .f32 :=
  if p then k0_pay4 h s g dout else dh
/-- The same gradient rounded. -/
def dhbAt (h : Vec F S416x1024 .f32) (g : Vec F S1x1024 .f32) (dout s : Vec F S416x1024 .f32) (dhb : Vec F S416x1024 .bf16) :
    Vec F S416x1024 .bf16 :=
  if p then k0_pay5 h s g dout else dhb
/-- The gain's gradient: from zero at the first point of all (`p`), a row block's share added at its last point (`q`). -/
def dgAt (h s : Vec F S416x1024 .f32) (dg : Vec F S1x1024 .f32) : Vec F S1x1024 .f32 :=
  if q then k0_pay2 (k0_pay6 (if p then k0_pay1 else dg)) (k0_pay7 h s) else if p then k0_pay1 else dg
end

/-! ## The body leaves it -/

set_option maxHeartbeats 4000000 in
/-- From the buffers at any contents, the body leaves the inputs as they were and every other buffer at what the
    definitions above say. -/
theorem step (c : Dev nD) (i : grid0.Coords)
  (arg2 : Memref sig .tc .vmem S416x1024 .f32) (harg2 : arg2.IsWhole)
  (arg3 : Memref sig .tc .vmem S1x1024 .f32) (harg3 : arg3.IsWhole)
  (arg4 : Memref sig .tc .vmem S416x1024 .f32) (harg4 : arg4.IsWhole)
  (arg5 : Memref sig .tc .vmem S1x704x1024 .bf16) (harg5 : arg5.IsWhole)
  (arg6 : Memref sig .tc .vmem S1x704x1024 .bf16) (harg6 : arg6.IsWhole)
  (arg7 : Memref sig .tc .vmem S704x1024 .bf16) (harg7 : arg7.IsWhole)
  (arg8 : Memref sig .tc .vmem S416x1024 .f32) (harg8 : arg8.IsWhole)
  (arg9 : Memref sig .tc .vmem S416x1024 .bf16) (harg9 : arg9.IsWhole)
  (arg10 : Memref sig .tc .vmem S1x1024 .f32) (harg10 : arg10.IsWhole)
  (arg11 : Memref sig .tc .vmem S416x1024 .bf16) (harg11 : arg11.IsWhole)
  (arg12 : Memref sig .tc .vmem S1x416x704 .bf16) (harg12 : arg12.IsWhole)
  (arg13 : Memref sig .tc .vmem S1x416x704 .bf16) (harg13 : arg13.IsWhole)
  (arg14 : Memref sig .tc .vmem S1x416x704 .bf16) (harg14 : arg14.IsWhole)
  (arg15 : Memref sig .tc .vmem S416x1024 .bf16) (harg15 : arg15.IsWhole)
  (arg16 : Memref sig .tc .vmem S416x1024 .f32) (harg16 : arg16.IsWhole)
  (h : Vec F S416x1024 .f32)
  (g : Vec F S1x1024 .f32)
  (dout : Vec F S416x1024 .f32)
  (wg : Vec F S1x704x1024 .bf16)
  (wu : Vec F S1x704x1024 .bf16)
  (wd : Vec F S704x1024 .bf16)
  (dh : Vec F S416x1024 .f32)
  (dhb : Vec F S416x1024 .bf16)
  (dg : Vec F S1x1024 .f32)
  (xn : Vec F S416x1024 .bf16)
  (act : Vec F S1x416x704 .bf16)
  (dgate : Vec F S1x416x704 .bf16)
  (dup : Vec F S1x416x704 .bf16)
  (dhalf : Vec F S416x1024 .bf16)
  (s : Vec F S416x1024 .f32)
  (dh' : Vec F S416x1024 .f32) (dhb' : Vec F S416x1024 .bf16) (dg' : Vec F S1x1024 .f32) (xn' : Vec F S416x1024 .bf16)
  (act' dgate' dup' : Vec F S1x416x704 .bf16) (dhalf' : Vec F S416x1024 .bf16) (s' : Vec F S416x1024 .f32)
  (ex : xn' = xnAt (k0_cond1 i = 1#1) h g xn) (ed : dhalf' = dhalfAt (k0_cond1 i = 1#1) dout dhalf)
  (es : s' = sumAt (k0_cond1 i = 1#1) wg wu wd xn' dhalf' s) (ea : act' = actOf wg wu xn')
  (eg : dgate' = dgateOf wg wu wd xn' dhalf') (eu : dup' = dupOf wg wd xn' dhalf')
  (eh : dh' = dhAt (k0_cond3 i = 1#1) h g dout s' dh) (eb : dhb' = dhbAt (k0_cond3 i = 1#1) h g dout s' dhb)
  (en : dg' = dgAt (k0_cond2 i = 1#1) (k0_cond3 i = 1#1) h s' dg) (hc : (k0_cond1 i = 1#1 ∧ k0_cond2 i = 1#1 ∧ ¬ k0_cond3 i = 1#1) ∨ (k0_cond1 i = 1#1 ∧ ¬ k0_cond2 i = 1#1 ∧ ¬ k0_cond3 i = 1#1)
    ∨ (¬ k0_cond1 i = 1#1 ∧ ¬ k0_cond2 i = 1#1 ∧ ¬ k0_cond3 i = 1#1) ∨ (¬ k0_cond1 i = 1#1 ∧ ¬ k0_cond2 i = 1#1 ∧ k0_cond3 i = 1#1))
  (E : Set ℕ) (K : PUnit → sProp 𝕄) :
    iprop((arg2.view.loc (c : Thread nD τ) ↦[arg2.view.set]{fullShare} (harg2.unread h)) ∗
      (arg3.view.loc (c : Thread nD τ) ↦[arg3.view.set]{fullShare} (harg3.unread g)) ∗
      (arg4.view.loc (c : Thread nD τ) ↦[arg4.view.set]{fullShare} (harg4.unread dout)) ∗
      (arg5.view.loc (c : Thread nD τ) ↦[arg5.view.set]{fullShare} (harg5.unread wg)) ∗
      (arg6.view.loc (c : Thread nD τ) ↦[arg6.view.set]{fullShare} (harg6.unread wu)) ∗
      (arg7.view.loc (c : Thread nD τ) ↦[arg7.view.set]{fullShare} (harg7.unread wd)) ∗
      (arg8.view.loc (c : Thread nD τ) ↦[arg8.view.set]{fullShare} (harg8.unread dh)) ∗
      (arg9.view.loc (c : Thread nD τ) ↦[arg9.view.set]{fullShare} (harg9.unread dhb)) ∗
      (arg10.view.loc (c : Thread nD τ) ↦[arg10.view.set]{fullShare} (harg10.unread dg)) ∗
      (arg11.view.loc (c : Thread nD τ) ↦[arg11.view.set]{fullShare} (harg11.unread xn)) ∗
      (arg12.view.loc (c : Thread nD τ) ↦[arg12.view.set]{fullShare} (harg12.unread act)) ∗
      (arg13.view.loc (c : Thread nD τ) ↦[arg13.view.set]{fullShare} (harg13.unread dgate)) ∗
      (arg14.view.loc (c : Thread nD τ) ↦[arg14.view.set]{fullShare} (harg14.unread dup)) ∗
      (arg15.view.loc (c : Thread nD τ) ↦[arg15.view.set]{fullShare} (harg15.unread dhalf)) ∗
      (arg16.view.loc (c : Thread nD τ) ↦[arg16.view.set]{fullShare} (harg16.unread s))
      ∗ (iprop(owns (c : Thread nD τ) arg2 fullShare h ∗
      owns (c : Thread nD τ) arg3 fullShare g ∗
      owns (c : Thread nD τ) arg4 fullShare dout ∗
      owns (c : Thread nD τ) arg5 fullShare wg ∗
      owns (c : Thread nD τ) arg6 fullShare wu ∗
      owns (c : Thread nD τ) arg7 fullShare wd ∗
      owns (c : Thread nD τ) arg8 fullShare dh' ∗
      owns (c : Thread nD τ) arg9 fullShare dhb' ∗
      owns (c : Thread nD τ) arg10 fullShare dg' ∗
      owns (c : Thread nD τ) arg11 fullShare xn' ∗
      owns (c : Thread nD τ) arg12 fullShare act' ∗
      owns (c : Thread nD τ) arg13 fullShare dgate' ∗
      owns (c : Thread nD τ) arg14 fullShare dup' ∗
      owns (c : Thread nD τ) arg15 fullShare dhalf' ∗
      owns (c : Thread nD τ) arg16 fullShare s') -∗ K ⟨⟩))
      ⊢ wp frame (wpE (defs₀ (F := F)) Variants.none c none) E (cc0_ffn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  iintro ⟨H0, H1, H2, H3, H4, H5, H6, H7, H8, H9, H10, H11, H12, H13, H14, Hk⟩
  unfold owns
  simp only [cc0_ffn_bwd_eq_skeleton]; unfold cc0_ffn_bwd_skel
  rcases hc with ⟨h1, h2, h3⟩ | ⟨h1, h2, h3⟩ | ⟨h1, h2, h3⟩ | ⟨h1, h2, h3⟩
  all_goals (
  simp only [xnAt, dhalfAt, sumAt, dhAt, dhbAt, dgAt, h1, h2, h3, if_true, if_false] at ex ed es eh eb en
  sl_exec (disch := first | sl_exact h1 | sl_exact h2 | sl_exact h3)
  sl_step
  iapply Hk
  isplitl [H0]
  · iexists _; isplitr [H0]; rotate_left
    · iexact H0
    · ipureintro; exact harg2.read_unread _
  isplitl [H1]
  · iexists _; isplitr [H1]; rotate_left
    · iexact H1
    · ipureintro; exact harg3.read_unread _
  isplitl [H2]
  · iexists _; isplitr [H2]; rotate_left
    · iexact H2
    · ipureintro; exact harg4.read_unread _
  isplitl [H3]
  · iexists _; isplitr [H3]; rotate_left
    · iexact H3
    · ipureintro; exact harg5.read_unread _
  isplitl [H4]
  · iexists _; isplitr [H4]; rotate_left
    · iexact H4
    · ipureintro; exact harg6.read_unread _
  isplitl [H5]
  · iexists _; isplitr [H5]; rotate_left
    · iexact H5
    · ipureintro; exact harg7.read_unread _
  isplitl [H6]
  · iexists _; isplitr [H6]; rotate_left
    · iexact H6
    · ipureintro; first | (with_reducible rw [eh, harg8.read_unread]) | (refine (View.read_writes_full _ _ inb_S416x1024_S416x1024_0_0 _ _).trans ?_; (sl_unfold_run_names; (try simp (disch := decide) only [View.ld_unit_lit', View.readCov_unit_lit', View.readCov_cons_unit_lit', View.readAt_eq_ld, Memref.IsWhole.read_unread, View.read_writes_full, View.readAt_writes_full, View.readCov_full, load_whole, load_other, load_halves]); subst en eb eh eu eg ea es ed ex; rfl))
  isplitl [H7]
  · iexists _; isplitr [H7]; rotate_left
    · iexact H7
    · ipureintro; first | (with_reducible rw [eb, harg9.read_unread]) | (refine (View.read_writes_full _ _ inb_S416x1024_S416x1024_0_0 _ _).trans ?_; (sl_unfold_run_names; (try simp (disch := decide) only [View.ld_unit_lit', View.readCov_unit_lit', View.readCov_cons_unit_lit', View.readAt_eq_ld, Memref.IsWhole.read_unread, View.read_writes_full, View.readAt_writes_full, View.readCov_full, load_whole, load_other, load_halves]); subst en eb eh eu eg ea es ed ex; rfl))
  isplitl [H8]
  · iexists _; isplitr [H8]; rotate_left
    · iexact H8
    · ipureintro; first | (with_reducible rw [en, harg10.read_unread]) | (refine (View.read_writes_full _ _ inb_S1x1024_S1x1024_0_0 _ _).trans ?_; (sl_unfold_run_names; (try simp (disch := decide) only [View.ld_unit_lit', View.readCov_unit_lit', View.readCov_cons_unit_lit', View.readAt_eq_ld, Memref.IsWhole.read_unread, View.read_writes_full, View.readAt_writes_full, View.readCov_full, load_whole, load_other, load_halves]); subst en eb eh eu eg ea es ed ex; rfl))
  isplitl [H9]
  · iexists _; isplitr [H9]; rotate_left
    · iexact H9
    · ipureintro; first | (with_reducible rw [ex, harg11.read_unread]) | (refine (View.read_writes_full _ _ inb_S416x1024_S416x1024_0_0 _ _).trans ?_; (sl_unfold_run_names; (try simp (disch := decide) only [View.ld_unit_lit', View.readCov_unit_lit', View.readCov_cons_unit_lit', View.readAt_eq_ld, Memref.IsWhole.read_unread, View.read_writes_full, View.readAt_writes_full, View.readCov_full, load_whole, load_other, load_halves]); subst en eb eh eu eg ea es ed ex; rfl))
  isplitl [H10]
  · iexists _; isplitr [H10]; rotate_left
    · iexact H10
    · ipureintro; refine (read_two _ _ _ _ _ (cover_slab _ _)).trans ?_; (sl_unfold_run_names; (try simp (disch := decide) only [View.ld_unit_lit', View.readCov_unit_lit', View.readCov_cons_unit_lit', View.readAt_eq_ld, Memref.IsWhole.read_unread, View.read_writes_full, View.readAt_writes_full, View.readCov_full, load_whole, load_other, load_halves]); subst en eb eh eu eg ea es ed ex; rfl)
  isplitl [H11]
  · iexists _; isplitr [H11]; rotate_left
    · iexact H11
    · ipureintro; refine (read_two _ _ _ _ _ (cover_slab _ _)).trans ?_; (sl_unfold_run_names; (try simp (disch := decide) only [View.ld_unit_lit', View.readCov_unit_lit', View.readCov_cons_unit_lit', View.readAt_eq_ld, Memref.IsWhole.read_unread, View.read_writes_full, View.readAt_writes_full, View.readCov_full, load_whole, load_other, load_halves]); subst en eb eh eu eg ea es ed ex; rfl)
  isplitl [H12]
  · iexists _; isplitr [H12]; rotate_left
    · iexact H12
    · ipureintro; refine (read_two _ _ _ _ _ (cover_slab _ _)).trans ?_; (sl_unfold_run_names; (try simp (disch := decide) only [View.ld_unit_lit', View.readCov_unit_lit', View.readCov_cons_unit_lit', View.readAt_eq_ld, Memref.IsWhole.read_unread, View.read_writes_full, View.readAt_writes_full, View.readCov_full, load_whole, load_other, load_halves]); subst en eb eh eu eg ea es ed ex; rfl)
  isplitl [H13]
  · iexists _; isplitr [H13]; rotate_left
    · iexact H13
    · ipureintro; first | (with_reducible rw [ed, harg15.read_unread]) | (refine (View.read_writes_full _ _ inb_S416x1024_S416x1024_0_0 _ _).trans ?_; (sl_unfold_run_names; (try simp (disch := decide) only [View.ld_unit_lit', View.readCov_unit_lit', View.readCov_cons_unit_lit', View.readAt_eq_ld, Memref.IsWhole.read_unread, View.read_writes_full, View.readAt_writes_full, View.readCov_full, load_whole, load_other, load_halves]); subst en eb eh eu eg ea es ed ex; rfl))
  iexists _; isplitr [H14]; rotate_left
  · iexact H14
  · ipureintro; refine (read_two _ _ _ _ _ (cover_rows _ _)).trans ?_; (sl_unfold_run_names; (try simp (disch := decide) only [View.ld_unit_lit', View.readCov_unit_lit', View.readCov_cons_unit_lit', View.readAt_eq_ld, Memref.IsWhole.read_unread, View.read_writes_full, View.readAt_writes_full, View.readCov_full, load_whole, load_other, load_halves]); subst en eb eh eu eg ea es ed ex; rfl))

/-- A whole buffer owned with contents `x` is its cells at the representative of `x`. -/
theorem owns_unread (c : Dev nD) {sp : Space} {S : Shape} {e : EltTy} (arg : Memref sig .tc sp S e) (h : arg.IsWhole) (x : S.Idx → Elt F e) :
    (owns (c : Thread nD τ) arg fullShare x : sProp 𝕄) ⊢ iprop(arg.view.loc (c : Thread nD τ) ↦[arg.view.set]{fullShare} (h.unread x)) := by
  unfold owns
  iintro ⟨%f, %hf, H⟩
  obtain rfl := h.eq_unread hf
  iexact H

/-- The same with each buffer owned whole: one grid point's triple. -/
theorem step_owns (c : Dev nD) (i : grid0.Coords)
  (arg2 : Memref sig .tc .vmem S416x1024 .f32) (harg2 : arg2.IsWhole)
  (arg3 : Memref sig .tc .vmem S1x1024 .f32) (harg3 : arg3.IsWhole)
  (arg4 : Memref sig .tc .vmem S416x1024 .f32) (harg4 : arg4.IsWhole)
  (arg5 : Memref sig .tc .vmem S1x704x1024 .bf16) (harg5 : arg5.IsWhole)
  (arg6 : Memref sig .tc .vmem S1x704x1024 .bf16) (harg6 : arg6.IsWhole)
  (arg7 : Memref sig .tc .vmem S704x1024 .bf16) (harg7 : arg7.IsWhole)
  (arg8 : Memref sig .tc .vmem S416x1024 .f32) (harg8 : arg8.IsWhole)
  (arg9 : Memref sig .tc .vmem S416x1024 .bf16) (harg9 : arg9.IsWhole)
  (arg10 : Memref sig .tc .vmem S1x1024 .f32) (harg10 : arg10.IsWhole)
  (arg11 : Memref sig .tc .vmem S416x1024 .bf16) (harg11 : arg11.IsWhole)
  (arg12 : Memref sig .tc .vmem S1x416x704 .bf16) (harg12 : arg12.IsWhole)
  (arg13 : Memref sig .tc .vmem S1x416x704 .bf16) (harg13 : arg13.IsWhole)
  (arg14 : Memref sig .tc .vmem S1x416x704 .bf16) (harg14 : arg14.IsWhole)
  (arg15 : Memref sig .tc .vmem S416x1024 .bf16) (harg15 : arg15.IsWhole)
  (arg16 : Memref sig .tc .vmem S416x1024 .f32) (harg16 : arg16.IsWhole)
  (h : Vec F S416x1024 .f32)
  (g : Vec F S1x1024 .f32)
  (dout : Vec F S416x1024 .f32)
  (wg : Vec F S1x704x1024 .bf16)
  (wu : Vec F S1x704x1024 .bf16)
  (wd : Vec F S704x1024 .bf16)
  (dh : Vec F S416x1024 .f32)
  (dhb : Vec F S416x1024 .bf16)
  (dg : Vec F S1x1024 .f32)
  (xn : Vec F S416x1024 .bf16)
  (act : Vec F S1x416x704 .bf16)
  (dgate : Vec F S1x416x704 .bf16)
  (dup : Vec F S1x416x704 .bf16)
  (dhalf : Vec F S416x1024 .bf16)
  (s : Vec F S416x1024 .f32)
  (dh' : Vec F S416x1024 .f32) (dhb' : Vec F S416x1024 .bf16) (dg' : Vec F S1x1024 .f32) (xn' : Vec F S416x1024 .bf16)
  (act' dgate' dup' : Vec F S1x416x704 .bf16) (dhalf' : Vec F S416x1024 .bf16) (s' : Vec F S416x1024 .f32)
  (ex : xn' = xnAt (k0_cond1 i = 1#1) h g xn) (ed : dhalf' = dhalfAt (k0_cond1 i = 1#1) dout dhalf)
  (es : s' = sumAt (k0_cond1 i = 1#1) wg wu wd xn' dhalf' s) (ea : act' = actOf wg wu xn')
  (eg : dgate' = dgateOf wg wu wd xn' dhalf') (eu : dup' = dupOf wg wd xn' dhalf')
  (eh : dh' = dhAt (k0_cond3 i = 1#1) h g dout s' dh) (eb : dhb' = dhbAt (k0_cond3 i = 1#1) h g dout s' dhb)
  (en : dg' = dgAt (k0_cond2 i = 1#1) (k0_cond3 i = 1#1) h s' dg) (hc : (k0_cond1 i = 1#1 ∧ k0_cond2 i = 1#1 ∧ ¬ k0_cond3 i = 1#1) ∨ (k0_cond1 i = 1#1 ∧ ¬ k0_cond2 i = 1#1 ∧ ¬ k0_cond3 i = 1#1)
    ∨ (¬ k0_cond1 i = 1#1 ∧ ¬ k0_cond2 i = 1#1 ∧ ¬ k0_cond3 i = 1#1) ∨ (¬ k0_cond1 i = 1#1 ∧ ¬ k0_cond2 i = 1#1 ∧ k0_cond3 i = 1#1))
  (E : Set ℕ) (K : PUnit → sProp 𝕄) :
    iprop(owns (c : Thread nD τ) arg2 fullShare h ∗
      owns (c : Thread nD τ) arg3 fullShare g ∗
      owns (c : Thread nD τ) arg4 fullShare dout ∗
      owns (c : Thread nD τ) arg5 fullShare wg ∗
      owns (c : Thread nD τ) arg6 fullShare wu ∗
      owns (c : Thread nD τ) arg7 fullShare wd ∗
      owns (c : Thread nD τ) arg8 fullShare dh ∗
      owns (c : Thread nD τ) arg9 fullShare dhb ∗
      owns (c : Thread nD τ) arg10 fullShare dg ∗
      owns (c : Thread nD τ) arg11 fullShare xn ∗
      owns (c : Thread nD τ) arg12 fullShare act ∗
      owns (c : Thread nD τ) arg13 fullShare dgate ∗
      owns (c : Thread nD τ) arg14 fullShare dup ∗
      owns (c : Thread nD τ) arg15 fullShare dhalf ∗
      owns (c : Thread nD τ) arg16 fullShare s
      ∗ (iprop(owns (c : Thread nD τ) arg2 fullShare h ∗
      owns (c : Thread nD τ) arg3 fullShare g ∗
      owns (c : Thread nD τ) arg4 fullShare dout ∗
      owns (c : Thread nD τ) arg5 fullShare wg ∗
      owns (c : Thread nD τ) arg6 fullShare wu ∗
      owns (c : Thread nD τ) arg7 fullShare wd ∗
      owns (c : Thread nD τ) arg8 fullShare dh' ∗
      owns (c : Thread nD τ) arg9 fullShare dhb' ∗
      owns (c : Thread nD τ) arg10 fullShare dg' ∗
      owns (c : Thread nD τ) arg11 fullShare xn' ∗
      owns (c : Thread nD τ) arg12 fullShare act' ∗
      owns (c : Thread nD τ) arg13 fullShare dgate' ∗
      owns (c : Thread nD τ) arg14 fullShare dup' ∗
      owns (c : Thread nD τ) arg15 fullShare dhalf' ∗
      owns (c : Thread nD τ) arg16 fullShare s') -∗ K ⟨⟩))
      ⊢ wp frame (wpE (defs₀ (F := F)) Variants.none c none) E (cc0_ffn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16) K :=
  (BI.sep_mono (owns_unread c arg2 harg2 h) <|
    BI.sep_mono (owns_unread c arg3 harg3 g) <|
    BI.sep_mono (owns_unread c arg4 harg4 dout) <|
    BI.sep_mono (owns_unread c arg5 harg5 wg) <|
    BI.sep_mono (owns_unread c arg6 harg6 wu) <|
    BI.sep_mono (owns_unread c arg7 harg7 wd) <|
    BI.sep_mono (owns_unread c arg8 harg8 dh) <|
    BI.sep_mono (owns_unread c arg9 harg9 dhb) <|
    BI.sep_mono (owns_unread c arg10 harg10 dg) <|
    BI.sep_mono (owns_unread c arg11 harg11 xn) <|
    BI.sep_mono (owns_unread c arg12 harg12 act) <|
    BI.sep_mono (owns_unread c arg13 harg13 dgate) <|
    BI.sep_mono (owns_unread c arg14 harg14 dup) <|
    BI.sep_mono (owns_unread c arg15 harg15 dhalf) <|
    sep_mono_left (owns_unread c arg16 harg16 s)).trans <|
    step c i arg2 harg2 arg3 harg3 arg4 harg4 arg5 harg5 arg6 harg6 arg7 harg7 arg8 harg8 arg9 harg9 arg10 harg10 arg11 harg11 arg12 harg12 arg13 harg13 arg14 harg14 arg15 harg15 arg16 harg16
      h g dout wg wu wd dh dhb dg xn act dgate dup dhalf s
      dh' dhb' dg' xn' act' dgate' dup' dhalf' s' ex ed es ea eg eu eh eb en hc E K

end Cert.KernelIdeal.Ffn
-- ==== Proof.Ffn.Data.lean ====
/-
The feed-forward backward call as a run: what every buffer holds after each grid point, that the body meets it at
every point, and the run of the whole program with its frame.
-/
module

public import proofs.«01_k».proof.Proof.Gen.KernelIdeal.Frame
public import proofs.«01_k».proof.Proof.Gen.KernelIdeal.Skeleton
public import proofs.«01_k».proof.Proof.Gen.KernelIdeal.Frame
public import proofs.«01_k».proof.Proof.Ffn.Step

@[expose] public section

set_option maxRecDepth 16384

noncomputable section

namespace Cert.KernelIdeal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid -/

theorem first_iff : ∀ t : Fin cfg0.N, k0_cond1 (grid0.coords t) = 1#1 ↔ t.val % 4 = 0 := by decide +kernel
theorem start_iff : ∀ t : Fin cfg0.N, k0_cond2 (grid0.coords t) = 1#1 ↔ t.val = 0 := by decide +kernel
theorem last_iff : ∀ t : Fin cfg0.N, k0_cond3 (grid0.coords t) = 1#1 ↔ t.val % 4 = 3 := by decide +kernel

/-- A grid point is the first of all, the first of a later row block, in the middle, or the last of its row block. -/
theorem point_cases (t : Fin cfg0.N) :
    (k0_cond1 (grid0.coords t) = 1#1 ∧ k0_cond2 (grid0.coords t) = 1#1 ∧ ¬ k0_cond3 (grid0.coords t) = 1#1)
    ∨ (k0_cond1 (grid0.coords t) = 1#1 ∧ ¬ k0_cond2 (grid0.coords t) = 1#1 ∧ ¬ k0_cond3 (grid0.coords t) = 1#1)
    ∨ (¬ k0_cond1 (grid0.coords t) = 1#1 ∧ ¬ k0_cond2 (grid0.coords t) = 1#1 ∧ ¬ k0_cond3 (grid0.coords t) = 1#1)
    ∨ (¬ k0_cond1 (grid0.coords t) = 1#1 ∧ ¬ k0_cond2 (grid0.coords t) = 1#1 ∧ k0_cond3 (grid0.coords t) = 1#1) := by
  rw [first_iff, start_iff, last_iff]; omega

/-! ## What the buffers hold after each point -/

/-- What the body carries from point to point: the normalised rows, half the incoming gradient, the running gradient of
    the normalised rows, and the running gradient of the gain. -/
structure Held (F : FTy → Type) where
  xn : Vec F S416x1024 .bf16
  dhalf : Vec F S416x1024 .bf16
  sum : Vec F S416x1024 .f32
  dg : Vec F S1x1024 .f32

/-- What one point makes of what the point before left. -/
def advance (c : Dev nD) (t : Fin cfg0.N) (p : Held F) : Held F :=
  let xn := xnAt (k0_cond1 (grid0.coords t) = 1#1) (iblk m c 0 t) (iblk m c 1 t) p.xn
  let dhalf := dhalfAt (k0_cond1 (grid0.coords t) = 1#1) (iblk m c 2 t) p.dhalf
  let sum := sumAt (k0_cond1 (grid0.coords t) = 1#1) (iblk m c 3 t) (iblk m c 4 t) (iblk m c 5 t) xn dhalf p.sum
  ⟨xn, dhalf, sum, dgAt (k0_cond2 (grid0.coords t) = 1#1) (k0_cond3 (grid0.coords t) = 1#1) (iblk m c 0 t) sum p.dg⟩

theorem advance_xn (c : Dev nD) (t : Fin cfg0.N) (p : Held F) :
    (advance m c t p).xn = xnAt (k0_cond1 (grid0.coords t) = 1#1) (iblk m c 0 t) (iblk m c 1 t) p.xn := by dsimp only [advance]
theorem advance_dhalf (c : Dev nD) (t : Fin cfg0.N) (p : Held F) :
    (advance m c t p).dhalf = dhalfAt (k0_cond1 (grid0.coords t) = 1#1) (iblk m c 2 t) p.dhalf := by dsimp only [advance]
theorem advance_sum (c : Dev nD) (t : Fin cfg0.N) (p : Held F) :
    (advance m c t p).sum = sumAt (k0_cond1 (grid0.coords t) = 1#1) (iblk m c 3 t) (iblk m c 4 t) (iblk m c 5 t)
      (advance m c t p).xn (advance m c t p).dhalf p.sum := by dsimp only [advance]
theorem advance_dg (c : Dev nD) (t : Fin cfg0.N) (p : Held F) :
    (advance m c t p).dg = dgAt (k0_cond2 (grid0.coords t) = 1#1) (k0_cond3 (grid0.coords t) = 1#1) (iblk m c 0 t)
      (advance m c t p).sum p.dg := by dsimp only [advance]

/-- What is held after point `n`. -/
def heldAt (c : Dev nD) : (n : ℕ) → n < cfg0.N → Held F
  | 0, hn => advance m c ⟨0, hn⟩ ⟨k0_pay8 (iblk m c 0 ⟨0, hn⟩) (iblk m c 1 ⟨0, hn⟩), k0_pay9 (iblk m c 2 ⟨0, hn⟩), k0_pay10, k0_pay1⟩
  | n + 1, hn => advance m c ⟨n + 1, hn⟩ (heldAt c n (by omega))

/-- The point before. -/
abbrev prev (t : Fin cfg0.N) : Fin cfg0.N := ⟨t.val - 1, Nat.lt_of_le_of_lt (Nat.sub_le _ _) t.isLt⟩

/-- A point uses of what was held before it only what it does not start anew. -/
theorem advance_congr (c : Dev nD) (t : Fin cfg0.N) (p p' : Held F) (h1 : t.val % 4 ≠ 0 → p.xn = p'.xn ∧ p.dhalf = p'.dhalf ∧ p.sum = p'.sum)
    (h2 : t.val ≠ 0 → p.dg = p'.dg) : advance m c t p = advance m c t p' := by
  unfold advance xnAt dhalfAt sumAt dgAt
  simp only [first_iff, start_iff, last_iff]
  by_cases e1 : t.val % 4 = 0
  · by_cases e2 : t.val = 0
    · simp only [e1, e2, if_true]
    · simp only [e1, if_true, h2 e2]
  · obtain ⟨hx, hd, hs⟩ := h1 e1
    have e2 : t.val ≠ 0 := fun e => e1 (by rw [e])
    simp only [hx, hd, hs, h2 e2]

/-- What is held after a point, from what the buffers the point goes on with hold before it. -/
theorem heldAt_eq (c : Dev nD) (t : Fin cfg0.N) (p : Held F)
    (h1 : t.val % 4 ≠ 0 → p.xn = (heldAt m c (prev t).val (prev t).isLt).xn ∧ p.dhalf = (heldAt m c (prev t).val (prev t).isLt).dhalf
      ∧ p.sum = (heldAt m c (prev t).val (prev t).isLt).sum)
    (h2 : t.val ≠ 0 → p.dg = (heldAt m c (prev t).val (prev t).isLt).dg) :
    heldAt m c t.val t.isLt = advance m c t p := by
  obtain ⟨n, hn⟩ := t
  cases n with
  | zero => exact advance_congr m c _ _ p (fun h => absurd rfl h) (fun h => absurd rfl h)
  | succ n => exact (advance_congr m c _ _ _ h1 h2).symm

/-- After the first point of a row block the rows are not normalised anew. -/
theorem heldAt_stays (c : Dev nD) (t : Fin cfg0.N) (h : t.val % 4 ≠ 0) :
    (heldAt m c t.val t.isLt).xn = (heldAt m c (prev t).val (prev t).isLt).xn
    ∧ (heldAt m c t.val t.isLt).dhalf = (heldAt m c (prev t).val (prev t).isLt).dhalf := by
  rw [heldAt_eq m c t _ (fun _ => ⟨rfl, rfl, rfl⟩) (fun _ => rfl)]
  unfold advance xnAt dhalfAt
  simp only [first_iff, if_neg h, and_self]

/-- Only the last point of a row block adds to the gain's gradient. -/
theorem heldAt_dg_stays (c : Dev nD) (t : Fin cfg0.N) (h : t.val % 4 ≠ 3) (h0 : t.val ≠ 0) :
    (heldAt m c t.val t.isLt).dg = (heldAt m c (prev t).val (prev t).isLt).dg := by
  rw [heldAt_eq m c t _ (fun _ => ⟨rfl, rfl, rfl⟩) (fun _ => rfl)]
  unfold advance dgAt
  simp only [start_iff, last_iff, if_neg h, if_neg h0]

/-- What the sum holds beside the generator before each point. -/
def phi (c : Dev nD) : (n : ℕ) → n ≤ cfg0.N → sProp 𝕄
  | 0, _ => Pipeline.ΦA spec0 c
  | n + 1, hn => iprop(owns (c : Thread nD τ) (Memref.whole cc0_scratch0) fullShare (heldAt m c n hn).sum ∗ (∃ r, prngReg c r))

/-- Before the first point the sum may hold anything. -/
theorem phiA_eq (c : Dev nD) : (Pipeline.ΦA spec0 c : sProp 𝕄)
    = iprop((∃ d, owns (c : Thread nD τ) (Memref.whole cc0_scratch0) fullShare d) ∗ (∃ r, prngReg c r)) := by
  unfold Pipeline.ΦA; rw [scopedRest0_eq]; simp only [owns_whole]; try rfl

/-- The proof data of the call on device `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => k0_pay4 (iblk m c 0 t) (heldAt m c t.val t.isLt).sum (iblk m c 1 t) (iblk m c 2 t)
    | ⟨7, _⟩ => k0_pay5 (iblk m c 0 t) (heldAt m c t.val t.isLt).sum (iblk m c 1 t) (iblk m c 2 t)
    | ⟨8, _⟩ => (heldAt m c t.val t.isLt).dg
    | ⟨9, _⟩ => (heldAt m c t.val t.isLt).xn
    | ⟨10, _⟩ => actOf (iblk m c 3 t) (iblk m c 4 t) (heldAt m c t.val t.isLt).xn
    | ⟨11, _⟩ => dgateOf (iblk m c 3 t) (iblk m c 4 t) (iblk m c 5 t) (heldAt m c t.val t.isLt).xn (heldAt m c t.val t.isLt).dhalf
    | ⟨12, _⟩ => dupOf (iblk m c 3 t) (iblk m c 5 t) (heldAt m c t.val t.isLt).xn (heldAt m c t.val t.isLt).dhalf
    | ⟨13, _⟩ => (heldAt m c t.val t.isLt).dhalf
  Φ t := phi m c t.val (Nat.le_of_lt_succ t.isLt)
  q w := Pipeline.shareOf spec0 w
  owed _ := 0

theorem arrays_eq (c : Dev nD) (w : Fin cfg0.W) : (dats m 0 c).A w = V m c (Pipeline.arrRef spec0 w) := by dsimp only [dats]

theorem after_6 (c : Dev nD) (t : Fin cfg0.N) : (dats m 0 c).after 6 t =
    k0_pay4 (iblk m c 0 t) (heldAt m c t.val t.isLt).sum (iblk m c 1 t) (iblk m c 2 t) := by dsimp only [dats]
theorem after_7 (c : Dev nD) (t : Fin cfg0.N) : (dats m 0 c).after 7 t =
    k0_pay5 (iblk m c 0 t) (heldAt m c t.val t.isLt).sum (iblk m c 1 t) (iblk m c 2 t) := by dsimp only [dats]
theorem after_8 (c : Dev nD) (t : Fin cfg0.N) : (dats m 0 c).after 8 t = (heldAt m c t.val t.isLt).dg := by dsimp only [dats]
theorem after_9 (c : Dev nD) (t : Fin cfg0.N) : (dats m 0 c).after 9 t = (heldAt m c t.val t.isLt).xn := by dsimp only [dats]
theorem after_10 (c : Dev nD) (t : Fin cfg0.N) : (dats m 0 c).after 10 t =
    actOf (iblk m c 3 t) (iblk m c 4 t) (heldAt m c t.val t.isLt).xn := by dsimp only [dats]
theorem after_11 (c : Dev nD) (t : Fin cfg0.N) : (dats m 0 c).after 11 t =
    dgateOf (iblk m c 3 t) (iblk m c 4 t) (iblk m c 5 t) (heldAt m c t.val t.isLt).xn (heldAt m c t.val t.isLt).dhalf := by dsimp only [dats]
theorem after_12 (c : Dev nD) (t : Fin cfg0.N) : (dats m 0 c).after 12 t =
    dupOf (iblk m c 3 t) (iblk m c 5 t) (heldAt m c t.val t.isLt).xn (heldAt m c t.val t.isLt).dhalf := by dsimp only [dats]
theorem after_13 (c : Dev nD) (t : Fin cfg0.N) : (dats m 0 c).after 13 t = (heldAt m c t.val t.isLt).dhalf := by dsimp only [dats]

theorem before_0 (c : Dev nD) (t : Fin cfg0.N) (d) : (dats m 0 c).before 0 t d = iblk m c 0 t :=
  before0_0_of m (dats m 0 c) (arrays_eq m c 0) (fun t => by dsimp only [dats]) t d
theorem before_1 (c : Dev nD) (t : Fin cfg0.N) (d) : (dats m 0 c).before 1 t d = iblk m c 1 t :=
  before0_1_of m (dats m 0 c) (arrays_eq m c 1) (fun t => by dsimp only [dats]) t d
theorem before_2 (c : Dev nD) (t : Fin cfg0.N) (d) : (dats m 0 c).before 2 t d = iblk m c 2 t :=
  before0_2_of m (dats m 0 c) (arrays_eq m c 2) (fun t => by dsimp only [dats]) t d
theorem before_3 (c : Dev nD) (t : Fin cfg0.N) (d) : (dats m 0 c).before 3 t d = iblk m c 3 t :=
  before0_3_of m (dats m 0 c) (arrays_eq m c 3) (fun t => by dsimp only [dats]) t d
theorem before_4 (c : Dev nD) (t : Fin cfg0.N) (d) : (dats m 0 c).before 4 t d = iblk m c 4 t :=
  before0_4_of m (dats m 0 c) (arrays_eq m c 4) (fun t => by dsimp only [dats]) t d
theorem before_5 (c : Dev nD) (t : Fin cfg0.N) (d) : (dats m 0 c).before 5 t d = iblk m c 5 t :=
  before0_5_of m (dats m 0 c) (arrays_eq m c 5) (fun t => by dsimp only [dats]) t d

/-! ## What a buffer holds that some points leave alone -/

section
variable {m} {c : Dev nD} (w : Fin cfg0.W) (hout : (cfg0.win w).isOut = true) (hclip : ∀ (i : cfg0.grid.Coords) a, (cfg0.win w).clip i a = none)

/-- A point leaves a buffer alone only while its contents stay in place. -/
abbrev Stays (m : (ℓ : Loc nD τ sig) → Buf (Elt F) ℓ) (c : Dev nD) (w : Fin cfg0.W) : Prop :=
  ∀ t : Fin cfg0.N, cfg0.idle w (cfg0.grid.coords t) = true →
    t.val ≠ 0 ∧ (cfg0.win w).flush (prev t) = false ∧ (dats m 0 c).after w t = (dats m 0 c).after w (prev t)

include hout hclip in
/-- So after a point that does not write it back, the next finds in it what that point left. -/
theorem before_next (H : Stays m c w) (d) : ∀ (n : ℕ) (hn : n < cfg0.N) (hn' : n + 1 < cfg0.N), (cfg0.win w).flush ⟨n, hn⟩ = false →
    (dats m 0 c).before w ⟨n + 1, hn'⟩ d = (dats m 0 c).after w ⟨n, hn⟩ := by
  intro n
  induction n with
  | zero =>
    intro hn hn' hf
    rw [(dats m 0 c).before_of_pos w ⟨0 + 1, hn'⟩ (Nat.succ_ne_zero _) ((cfg0.win w).fetch_out hout _)]
    rw [show (cfg0.win w).flush ⟨(⟨0 + 1, hn'⟩ : Fin cfg0.N).val - 1, Nat.lt_of_le_of_lt (Nat.sub_le _ _) hn'⟩ = false from hf, if_neg Bool.false_ne_true]
    unfold Dat.left
    cases hi : cfg0.idle w (cfg0.grid.coords ⟨(⟨0 + 1, hn'⟩ : Fin cfg0.N).val - 1, Nat.lt_of_le_of_lt (Nat.sub_le _ _) hn'⟩) with
    | true => exact absurd rfl (H ⟨0, hn⟩ hi).1
    | false =>
      show (dats m 0 c).kept w ⟨0, hn⟩ d = _
      unfold Dat.kept
      rw [Pipeline.fill_of_clip_none w _ (hclip _) d ((dats m 0 c).after w _), Window.fill_cut]
  | succ n ih =>
    intro hn hn' hf
    rw [(dats m 0 c).before_of_pos w ⟨n + 1 + 1, hn'⟩ (Nat.succ_ne_zero _) ((cfg0.win w).fetch_out hout _)]
    rw [show (cfg0.win w).flush ⟨(⟨n + 1 + 1, hn'⟩ : Fin cfg0.N).val - 1, Nat.lt_of_le_of_lt (Nat.sub_le _ _) hn'⟩ = false from hf, if_neg Bool.false_ne_true]
    unfold Dat.left
    cases hi : cfg0.idle w (cfg0.grid.coords ⟨(⟨n + 1 + 1, hn'⟩ : Fin cfg0.N).val - 1, Nat.lt_of_le_of_lt (Nat.sub_le _ _) hn'⟩) with
    | true =>
      obtain ⟨-, h2, h3⟩ := H ⟨n + 1, hn⟩ hi
      exact (ih (by omega) hn h2).trans h3.symm
    | false =>
      show (dats m 0 c).kept w ⟨n + 1, hn⟩ d = _
      unfold Dat.kept
      rw [Pipeline.fill_of_clip_none w _ (hclip _) d ((dats m 0 c).after w _), Window.fill_cut]

include hout hclip in
theorem before_prev (H : Stays m c w) (t : Fin cfg0.N) (ht : t.val ≠ 0) (hf : (cfg0.win w).flush (prev t) = false) (d) :
    (dats m 0 c).before w t d = (dats m 0 c).after w (prev t) := by
  obtain ⟨n, hn⟩ := t
  cases n with
  | zero => exact absurd rfl ht
  | succ n => exact before_next w hout hclip H d n (by omega) hn hf

include hout hclip in
/-- A buffer left at its contents after the point meets the obligation, whether the point stored into it or not. -/
theorem leaves_after (H : Stays m c w) (t : Fin cfg0.N) :
    (owns (c : Thread nD τ) ((cfg0.win w).stage (cfg0.slots t w)) fullShare ((dats m 0 c).after w t) : sProp 𝕄) ⊢ (dats m 0 c).leavesExact w t := by
  unfold Dat.leavesExact
  cases hi : cfg0.idle w (cfg0.grid.coords t) with
  | false => exact .rfl
  | true =>
    cases hf : (cfg0.win w).flush t with
    | true => exact .rfl
    | false =>
      obtain ⟨h1, h2, h3⟩ := H t hi
      iintro H
      iexists (dats m 0 c).after w t
      rw [before_prev w hout hclip H t h1 h2, h3]
      iexact H

/-- A buffer stored into or left as found meets the obligation where no point that leaves it alone writes it back. -/
theorem leaves_found (t : Fin cfg0.N) (p : Prop) [Decidable p] (hp : p ↔ cfg0.idle w (cfg0.grid.coords t) = false)
    (hf : ¬ p → (cfg0.win w).flush t = false) (d) :
    (owns (c : Thread nD τ) ((cfg0.win w).stage (cfg0.slots t w)) fullShare
      (if p then (dats m 0 c).after w t else (dats m 0 c).before w t d) : sProp 𝕄) ⊢ (dats m 0 c).leavesExact w t := by
  by_cases h : p
  · rw [if_pos h]; unfold Dat.leavesExact; rw [hp.mp h]
  · rw [if_neg h, Dat.leavesExact_idle _ w t ((Bool.not_eq_false _).mp fun e => h (hp.mpr e)) (hf h)]
    iintro H; iexists d; iexact H
end

/-! ## The three buffers the body keeps between points -/

theorem idle_8 : ∀ t : Fin cfg0.N, cfg0.idle 8 (cfg0.grid.coords t) = true → t.val ≠ 0 ∧ t.val % 4 ≠ 3 := by decide +kernel
theorem idle_9 : ∀ t : Fin cfg0.N, cfg0.idle 9 (cfg0.grid.coords t) = true → t.val % 4 ≠ 0 := by decide +kernel
theorem idle_13 : ∀ t : Fin cfg0.N, cfg0.idle 13 (cfg0.grid.coords t) = true → t.val % 4 ≠ 0 := by decide +kernel

theorem flush_prev_8 (t : Fin cfg0.N) (h : t.val ≠ 0) : (cfg0.win 8).flush (prev t) = false :=
  Bool.eq_false_iff.mpr fun e => by
    have := (flush0_8 (prev t)).mp e
    have hN : t.val < 40 := lt_of_lt_of_eq t.isLt N_0
    dsimp only at this; omega
theorem flush_prev_9 (t : Fin cfg0.N) (h : t.val % 4 ≠ 0) : (cfg0.win 9).flush (prev t) = false :=
  Bool.eq_false_iff.mpr fun e => by have := (flush0_9 (prev t)).mp e; dsimp only at this; omega
theorem flush_prev_13 (t : Fin cfg0.N) (h : t.val % 4 ≠ 0) : (cfg0.win 13).flush (prev t) = false :=
  Bool.eq_false_iff.mpr fun e => by have := (flush0_13 (prev t)).mp e; dsimp only at this; omega

theorem stays_8 (c : Dev nD) : Stays m c 8 := fun t ht =>
  ⟨(idle_8 t ht).1, flush_prev_8 t (idle_8 t ht).1, heldAt_dg_stays m c t (idle_8 t ht).2 (idle_8 t ht).1⟩
theorem stays_9 (c : Dev nD) : Stays m c 9 := fun t ht =>
  ⟨fun e => idle_9 t ht (by rw [e]), flush_prev_9 t (idle_9 t ht), (heldAt_stays m c t (idle_9 t ht)).1⟩
theorem stays_13 (c : Dev nD) : Stays m c 13 := fun t ht =>
  ⟨fun e => idle_13 t ht (by rw [e]), flush_prev_13 t (idle_13 t ht), (heldAt_stays m c t (idle_13 t ht)).2⟩

theorem before_8 (c : Dev nD) (t : Fin cfg0.N) (h : t.val ≠ 0) (d) :
    (dats m 0 c).before 8 t d = (heldAt m c (prev t).val (prev t).isLt).dg :=
  before_prev 8 rfl (fun _ _ => rfl) (stays_8 m c) t h (flush_prev_8 t h) d
theorem before_9 (c : Dev nD) (t : Fin cfg0.N) (h : t.val % 4 ≠ 0) (d) :
    (dats m 0 c).before 9 t d = (heldAt m c (prev t).val (prev t).isLt).xn :=
  before_prev 9 rfl (fun _ _ => rfl) (stays_9 m c) t (fun e => h (by rw [e])) (flush_prev_9 t h) d
theorem before_13 (c : Dev nD) (t : Fin cfg0.N) (h : t.val % 4 ≠ 0) (d) :
    (dats m 0 c).before 13 t d = (heldAt m c (prev t).val (prev t).isLt).dhalf :=
  before_prev 13 rfl (fun _ _ => rfl) (stays_13 m c) t (fun e => h (by rw [e])) (flush_prev_13 t h) d

end Cert.KernelIdeal.Ffn
-- ==== Proof.Ffn.Run.lean ====
/-
The body meets the buffers' contents at every grid point, and the run of the whole program follows, with its frame.
-/
module

public import proofs.«01_k».proof.Proof.Gen.KernelIdeal.Frame
public import proofs.«01_k».proof.Proof.Gen.KernelIdeal.Skeleton
public import proofs.«01_k».proof.Proof.Ffn.Data
public import Idealize.ShloMosaic.Lib.Claim

@[expose] public section

set_option maxRecDepth 16384

noncomputable section

namespace Cert.KernelIdeal.Ffn

attribute [local irreducible] actOf dgateOf dupOf sumOf heldAt

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Before a point the sum's buffer is held at some contents: past the first point those the point before left. -/
theorem phi_open (c : Dev nD) (t : Fin cfg0.N) : (dats m 0 c).Φ t.castSucc ⊢
    iprop(∃ s, ⌜t.val ≠ 0 → s = (heldAt m c (prev t).val (prev t).isLt).sum⌝
      ∗ owns (c : Thread nD τ) (Memref.whole cc0_scratch0) fullShare s ∗ (∃ r, prngReg c r)) := by
  obtain ⟨n, hn⟩ := t
  cases n with
  | zero =>
    rw [show (dats m 0 c).Φ (Fin.castSucc ⟨0, hn⟩) = Pipeline.ΦA spec0 c from rfl, phiA_eq]
    iintro ⟨⟨%s, Hs⟩, Hg⟩
    iexists s
    isplitr
    · ipureintro; exact fun h => absurd rfl h
    isplitl [Hs]
    · iexact Hs
    iexact Hg
  | succ n =>
    rw [show (dats m 0 c).Φ (Fin.castSucc ⟨n + 1, hn⟩) = iprop(owns (c : Thread nD τ) (Memref.whole cc0_scratch0) fullShare
      (heldAt m c n (by omega)).sum ∗ (∃ r, prngReg c r)) from rfl]
    iintro ⟨Hs, Hg⟩
    iexists (heldAt m c n (by omega)).sum
    isplitr
    · ipureintro; exact fun _ => rfl
    isplitl [Hs]
    · iexact Hs
    iexact Hg

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d))
    ∗ (∃ d, owns (c : Thread nD τ) (win0_12.stage (cfg0.slots t 12)) fullShare ((dats m 0 c).before 12 t d))
    ∗ (∃ d, owns (c : Thread nD τ) (win0_13.stage (cfg0.slots t 13)) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t)

theorem live_6 : ∀ t : Fin cfg0.N, k0_cond3 (grid0.coords t) = 1#1 ↔ cfg0.idle 6 (cfg0.grid.coords t) = false := by decide +kernel
theorem live_7 : ∀ t : Fin cfg0.N, k0_cond3 (grid0.coords t) = 1#1 ↔ cfg0.idle 7 (cfg0.grid.coords t) = false := by decide +kernel

/-- The input gradient's buffer: stored at a row block's last point, where it is written back, and as found elsewhere. -/
theorem leaves_6 (c : Dev nD) (t : Fin cfg0.N) (d6) :
    (owns (c : Thread nD τ) (win0_6.stage (cfg0.slots t 6)) fullShare
      (dhAt (k0_cond3 (grid0.coords t) = 1#1) (iblk m c 0 t) (iblk m c 1 t) (iblk m c 2 t) (heldAt m c t.val t.isLt).sum ((dats m 0 c).before 6 t d6)) : sProp 𝕄) ⊢ (dats m 0 c).leavesExact 6 t :=
  leaves_found 6 t _ (live_6 t) (fun h => Bool.eq_false_iff.mpr fun e => h ((last_iff t).mpr ((flush0_6 t).mp e))) d6
/-- The same for its rounded copy. -/
theorem leaves_7 (c : Dev nD) (t : Fin cfg0.N) (d7) :
    (owns (c : Thread nD τ) (win0_7.stage (cfg0.slots t 7)) fullShare
      (dhbAt (k0_cond3 (grid0.coords t) = 1#1) (iblk m c 0 t) (iblk m c 1 t) (iblk m c 2 t) (heldAt m c t.val t.isLt).sum ((dats m 0 c).before 7 t d7)) : sProp 𝕄) ⊢ (dats m 0 c).leavesExact 7 t :=
  leaves_found 7 t _ (live_7 t) (fun h => Bool.eq_false_iff.mpr fun e => h ((last_iff t).mpr ((flush0_7 t).mp e))) d7

/-- A buffer every point stores into, or an input's, meets the obligation at its contents after the point. -/
theorem leaves_live {c : Dev nD} (w : Fin cfg0.W) (t : Fin cfg0.N) (hi : cfg0.idle w (cfg0.grid.coords t) = false) :
    (owns (c : Thread nD τ) ((cfg0.win w).stage (cfg0.slots t w)) fullShare ((dats m 0 c).after w t) : sProp 𝕄) ⊢ (dats m 0 c).leavesExact w t := by
  unfold Dat.leavesExact; rw [hi]

theorem leaves_0 (c : Dev nD) (t : Fin cfg0.N) :
    (owns (c : Thread nD τ) (win0_0.stage (cfg0.slots t 0)) fullShare (iblk m c 0 t) : sProp 𝕄) ⊢ (dats m 0 c).leavesExact 0 t :=
  leaves_live m 0 t rfl
theorem leaves_1 (c : Dev nD) (t : Fin cfg0.N) :
    (owns (c : Thread nD τ) (win0_1.stage (cfg0.slots t 1)) fullShare (iblk m c 1 t) : sProp 𝕄) ⊢ (dats m 0 c).leavesExact 1 t :=
  leaves_live m 1 t rfl
theorem leaves_2 (c : Dev nD) (t : Fin cfg0.N) :
    (owns (c : Thread nD τ) (win0_2.stage (cfg0.slots t 2)) fullShare (iblk m c 2 t) : sProp 𝕄) ⊢ (dats m 0 c).leavesExact 2 t :=
  leaves_live m 2 t rfl
theorem leaves_3 (c : Dev nD) (t : Fin cfg0.N) :
    (owns (c : Thread nD τ) (win0_3.stage (cfg0.slots t 3)) fullShare (iblk m c 3 t) : sProp 𝕄) ⊢ (dats m 0 c).leavesExact 3 t :=
  leaves_live m 3 t rfl
theorem leaves_4 (c : Dev nD) (t : Fin cfg0.N) :
    (owns (c : Thread nD τ) (win0_4.stage (cfg0.slots t 4)) fullShare (iblk m c 4 t) : sProp 𝕄) ⊢ (dats m 0 c).leavesExact 4 t :=
  leaves_live m 4 t rfl
theorem leaves_5 (c : Dev nD) (t : Fin cfg0.N) :
    (owns (c : Thread nD τ) (win0_5.stage (cfg0.slots t 5)) fullShare (iblk m c 5 t) : sProp 𝕄) ⊢ (dats m 0 c).leavesExact 5 t :=
  leaves_live m 5 t rfl
theorem leaves_8 (c : Dev nD) (t : Fin cfg0.N) :
    (owns (c : Thread nD τ) (win0_8.stage (cfg0.slots t 8)) fullShare (heldAt m c t.val t.isLt).dg : sProp 𝕄) ⊢ (dats m 0 c).leavesExact 8 t :=
  leaves_after 8 rfl (fun _ _ => rfl) (stays_8 m c) t
theorem leaves_9 (c : Dev nD) (t : Fin cfg0.N) :
    (owns (c : Thread nD τ) (win0_9.stage (cfg0.slots t 9)) fullShare (heldAt m c t.val t.isLt).xn : sProp 𝕄) ⊢ (dats m 0 c).leavesExact 9 t :=
  leaves_after 9 rfl (fun _ _ => rfl) (stays_9 m c) t
theorem leaves_10 (c : Dev nD) (t : Fin cfg0.N) :
    (owns (c : Thread nD τ) (win0_10.stage (cfg0.slots t 10)) fullShare (actOf (iblk m c 3 t) (iblk m c 4 t) (heldAt m c t.val t.isLt).xn) : sProp 𝕄) ⊢ (dats m 0 c).leavesExact 10 t :=
  (after_10 m c t) ▸ leaves_live m 10 t rfl
theorem leaves_11 (c : Dev nD) (t : Fin cfg0.N) :
    (owns (c : Thread nD τ) (win0_11.stage (cfg0.slots t 11)) fullShare (dgateOf (iblk m c 3 t) (iblk m c 4 t) (iblk m c 5 t) (heldAt m c t.val t.isLt).xn (heldAt m c t.val t.isLt).dhalf) : sProp 𝕄) ⊢ (dats m 0 c).leavesExact 11 t :=
  (after_11 m c t) ▸ leaves_live m 11 t rfl
theorem leaves_12 (c : Dev nD) (t : Fin cfg0.N) :
    (owns (c : Thread nD τ) (win0_12.stage (cfg0.slots t 12)) fullShare (dupOf (iblk m c 3 t) (iblk m c 5 t) (heldAt m c t.val t.isLt).xn (heldAt m c t.val t.isLt).dhalf) : sProp 𝕄) ⊢ (dats m 0 c).leavesExact 12 t :=
  (after_12 m c t) ▸ leaves_live m 12 t rfl
theorem leaves_13 (c : Dev nD) (t : Fin cfg0.N) :
    (owns (c : Thread nD τ) (win0_13.stage (cfg0.slots t 13)) fullShare (heldAt m c t.val t.isLt).dhalf : sProp 𝕄) ⊢ (dats m 0 c).leavesExact 13 t :=
  leaves_after 13 rfl (fun _ _ => rfl) (stays_13 m c) t

set_option maxHeartbeats 1000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  refine (sep_mono_left (phi_open m c t)).trans ?_
  simp only [before_0, before_1, before_2, before_3, before_4, before_5]
  rw [show (dats m 0 c).owesAt () t.succ = (dats m 0 c).owesAt () t.castSucc from rfl]
  rw [show (dats m 0 c).Φ t.succ = iprop(owns (c : Thread nD τ) (Memref.whole cc0_scratch0) fullShare
    (heldAt m c t.val t.isLt).sum ∗ (∃ r, prngReg c r)) from rfl]
  iintro ⟨⟨%s, %hs, HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  have he := heldAt_eq m c t ⟨(dats m 0 c).before 9 t d9, (dats m 0 c).before 13 t d13, s, (dats m 0 c).before 8 t d8⟩
    (fun h => ⟨before_9 m c t h d9, before_13 m c t h d13, hs fun e => h (by rw [e])⟩) (fun h => before_8 m c t h d8)
  have ex : (heldAt m c t.val t.isLt).xn = xnAt (k0_cond1 (grid0.coords t) = 1#1) (iblk m c 0 t) (iblk m c 1 t) ((dats m 0 c).before 9 t d9) := by rw [he]; exact advance_xn m c t _
  have ed : (heldAt m c t.val t.isLt).dhalf = dhalfAt (k0_cond1 (grid0.coords t) = 1#1) (iblk m c 2 t) ((dats m 0 c).before 13 t d13) := by rw [he]; exact advance_dhalf m c t _
  have es : (heldAt m c t.val t.isLt).sum = sumAt (k0_cond1 (grid0.coords t) = 1#1) (iblk m c 3 t) (iblk m c 4 t) (iblk m c 5 t) (heldAt m c t.val t.isLt).xn (heldAt m c t.val t.isLt).dhalf s := by
    rw [he]; exact advance_sum m c t _
  have en : (heldAt m c t.val t.isLt).dg = dgAt (k0_cond2 (grid0.coords t) = 1#1) (k0_cond3 (grid0.coords t) = 1#1) (iblk m c 0 t) (heldAt m c t.val t.isLt).sum
      ((dats m 0 c).before 8 t d8) := by
    rw [he]; exact advance_dg m c t _
  iapply (step_owns c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (Memref.whole cc0_scratch0) (Memref.isWhole_whole _)
      (iblk m c 0 t) (iblk m c 1 t) (iblk m c 2 t) (iblk m c 3 t) (iblk m c 4 t) (iblk m c 5 t) ((dats m 0 c).before 6 t d6) ((dats m 0 c).before 7 t d7) ((dats m 0 c).before 8 t d8) ((dats m 0 c).before 9 t d9) ((dats m 0 c).before 10 t d10) ((dats m 0 c).before 11 t d11) ((dats m 0 c).before 12 t d12) ((dats m 0 c).before 13 t d13) s
      (dhAt (k0_cond3 (grid0.coords t) = 1#1) (iblk m c 0 t) (iblk m c 1 t) (iblk m c 2 t) (heldAt m c t.val t.isLt).sum ((dats m 0 c).before 6 t d6))
      (dhbAt (k0_cond3 (grid0.coords t) = 1#1) (iblk m c 0 t) (iblk m c 1 t) (iblk m c 2 t) (heldAt m c t.val t.isLt).sum ((dats m 0 c).before 7 t d7))
      (heldAt m c t.val t.isLt).dg
      (heldAt m c t.val t.isLt).xn
      (actOf (iblk m c 3 t) (iblk m c 4 t) (heldAt m c t.val t.isLt).xn)
      (dgateOf (iblk m c 3 t) (iblk m c 4 t) (iblk m c 5 t) (heldAt m c t.val t.isLt).xn (heldAt m c t.val t.isLt).dhalf)
      (dupOf (iblk m c 3 t) (iblk m c 5 t) (heldAt m c t.val t.isLt).xn (heldAt m c t.val t.isLt).dhalf)
      (heldAt m c t.val t.isLt).dhalf
      (heldAt m c t.val t.isLt).sum
      ex ed es rfl rfl rfl rfl rfl en (point_cases t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [HS]; · iexact HS
  iintro ⟨H0, H1, H2, H3, H4, H5, H6, H7, H8, H9, H10, H11, H12, H13, HS⟩
  isplitl [HS Hg]
  · isplitl [HS]
    · iexact HS
    iexact Hg
  isplitl [Ho]; · iexact Ho
  isplitl [H0]; · iapply (leaves_0 m c t); iexact H0
  isplitl [H1]; · iapply (leaves_1 m c t); iexact H1
  isplitl [H2]; · iapply (leaves_2 m c t); iexact H2
  isplitl [H3]; · iapply (leaves_3 m c t); iexact H3
  isplitl [H4]; · iapply (leaves_4 m c t); iexact H4
  isplitl [H5]; · iapply (leaves_5 m c t); iexact H5
  isplitl [H6]; · iapply (leaves_6 m c t d6); iexact H6
  isplitl [H7]; · iapply (leaves_7 m c t d7); iexact H7
  isplitl [H8]; · iapply (leaves_8 m c t); iexact H8
  isplitl [H9]; · iapply (leaves_9 m c t); iexact H9
  isplitl [H10]; · iapply (leaves_10 m c t); iexact H10
  isplitl [H11]; · iapply (leaves_11 m c t); iexact H11
  isplitl [H12]; · iapply (leaves_12 m c t); iexact H12
  iapply (leaves_13 m c t); iexact H13

/-- The body table's row at a point is the body there. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := .rfl

theorem hout (c : Dev nD) : (dats m 0 c).Φ (Fin.last cfg0.N) ⊢ Pipeline.ΦA spec0 c := by
  rw [phiA_eq]
  show iprop(owns (c : Thread nD τ) (Memref.whole cc0_scratch0) fullShare (heldAt m c 39 (by rw [show cfg0.N = 40 from N_0]; decide)).sum
    ∗ (∃ r, prngReg c r)) ⊢ _
  iintro ⟨Hs, Hg⟩
  isplitl [Hs]
  · iexists _; iexact Hs
  iexact Hg

set_option backward.isDefEq.respectTransparency.types false in
/-- The run: every array of the call ends at what the blocks written back make of it, and no semaphore is left raised. -/
theorem run_main : θ_run defs (onTc (τ := τ) (main (F := F))) (s₀ m ρ)
    (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := arrays_eq m) (hin := hin m) (hout := hout m)

/-- The frame: the arguments end as they were, and no semaphore is left raised. -/
theorem framed : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (arrays_eq m) ((θ_run defs _ _).mono (fun _ h => h.1) (run_main m ρ)))
    ((θ_run defs _ _).mono (fun _ h => h.2) (run_main m ρ))

end Cert.KernelIdeal.Ffn
-- ==== Proof.Ffn.Same.lean ====
/- The two programs of the fused backward pass have the same text, so a run of one is a run of the other. -/
module

public import proofs.«01_k».proof.Defs
public import proofs.«01_k».proof.Proof.Gen.Kernel
public import proofs.«01_k».proof.Proof.Ffn.Run

@[expose] public section

namespace Cert.KernelIdeal.Ffn

open Idealize Idealize.ShloMosaic

/-- The body of the two programs is one function. -/
theorem body_same : @Cert.Kernel.cc0_ffn_bwd Bits _ _ = @Cert.KernelIdeal.cc0_ffn_bwd Bits _ _ := rfl

set_option maxHeartbeats 1000000 in
/-- So the tables in which their launches find it agree. -/
theorem bodies_same : @Cert.Kernel.defs₀ Bits _ _ = @Cert.KernelIdeal.defs₀ Bits _ _ := by
  unfold Cert.Kernel.defs₀ Cert.KernelIdeal.defs₀
  refine congrArg Defs.onTc ?_
  funext l a
  match l, a with
  | 0, (t, s) =>
    dsimp only
    rw [body_same]
    rfl

set_option maxHeartbeats 1000000 in
/-- The fused backward pass over machine words keeps its arguments and returns every semaphore to zero. -/
theorem framed_words (m : (ℓ : Loc Cert.Kernel.nD Cert.Kernel.τ Cert.Kernel.sig) → Buf (Elt Bits) ℓ)
    (ρ : Dev Cert.Kernel.nD → PrngReg) :
    θ_run (Cert.Kernel.defs (F := Bits)) (onTc (τ := Cert.Kernel.τ) (Cert.Kernel.main (F := Bits)))
      ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0) := by
  have h := framed (F := Bits) m ρ
  unfold Cert.KernelIdeal.defs at h
  unfold Cert.Kernel.defs
  rw [← bodies_same] at h
  exact h

end Cert.KernelIdeal.Ffn

end
-- ==== Proof.Ffn.Reals.lean ====
/-
The derivative of the half-step as formulas of real numbers, row by row, and arrays of finite values: an array which holds
the real number `a i d` at `(i, d)` is written `lift2 a`.
-/
module

public import Idealize.ShloMosaic.Lib.Pipeline.ValueKit
public import Idealize.ShloMosaic.Lib.Pointwise

@[expose] public section

noncomputable section

namespace Cert.Half

open Idealize.ShloMosaic

/-- An array of two axes with the real number `a i d` at `(i, d)`. -/
def lift2 {n k : ℕ} (φ : FTy) (a : Fin n → Fin k → ℝ) : FVec Ideal ⟨2, ![n, k]⟩ φ := fun x => ((a (x 0) (x 1) : ℝ) : EReal)

/-- An array of three axes with the real number `a i j d` at `(i, j, d)`. -/
def lift3 {n p k : ℕ} (φ : FTy) (a : Fin n → Fin p → Fin k → ℝ) : FVec Ideal ⟨3, ![n, p, k]⟩ φ :=
  fun x => ((a (x 0) (x 1) (x 2) : ℝ) : EReal)

/-- An array of one axis with the real number `a d` at `d`. -/
def lift1 {k : ℕ} (φ : FTy) (a : Fin k → ℝ) : FVec Ideal ⟨1, ![k]⟩ φ := fun x => ((a (x 0) : ℝ) : EReal)

theorem lift2_apply {n k : ℕ} (φ : FTy) (a : Fin n → Fin k → ℝ) (i : Fin n) (d : Fin k) :
    lift2 φ a (ix2 i d) = ((a i d : ℝ) : EReal) := rfl

theorem lift3_apply {n p k : ℕ} (φ : FTy) (a : Fin n → Fin p → Fin k → ℝ) (i : Fin n) (j : Fin p) (d : Fin k) :
    lift3 φ a (ix3 i j d) = ((a i j d : ℝ) : EReal) := rfl

theorem lift1_apply {k : ℕ} (φ : FTy) (a : Fin k → ℝ) (d : Fin k) : lift1 φ a (ix1 d) = ((a d : ℝ) : EReal) := rfl

/-- An array of two axes is the lift of `a` when it holds `a i d` at every place. -/
theorem eq_lift2 {n k : ℕ} {φ : FTy} {v : FVec Ideal ⟨2, ![n, k]⟩ φ} {a : Fin n → Fin k → ℝ}
    (h : ∀ i d, v (ix2 i d) = ((a i d : ℝ) : EReal)) : v = lift2 φ a := by
  funext x
  rw [eq_ix2 (n0 := n) (n1 := k) x]
  exact h _ _

theorem eq_lift3 {n p k : ℕ} {φ : FTy} {v : FVec Ideal ⟨3, ![n, p, k]⟩ φ} {a : Fin n → Fin p → Fin k → ℝ}
    (h : ∀ i j d, v (ix3 i j d) = ((a i j d : ℝ) : EReal)) : v = lift3 φ a := by
  funext x
  rw [eq_ix3 (n0 := n) (n1 := p) (n2 := k) x]
  exact h _ _ _

/-- The sum of finite values is the sum of the real numbers. -/
theorem sum_coe {n : ℕ} (f : Fin n → ℝ) : ∑ k, ((f k : ℝ) : EReal) = ((∑ k, f k : ℝ) : EReal) := by
  have h : ∀ s : Finset (Fin n), ∑ k ∈ s, ((f k : ℝ) : EReal) = ((∑ k ∈ s, f k : ℝ) : EReal) := by
    intro s
    induction s using Finset.induction_on with
    | empty => simp
    | insert a s ha ih => rw [Finset.sum_insert ha, Finset.sum_insert ha, ih, EReal.coe_add]
  exact h _

/-- The constant under the root of the norm. -/
def eps : ℝ := 8796093 / 2 ^ 43

theorem eps_pos : 0 < eps := by unfold eps; positivity

theorem word_eps : Ideal.ofBits .f32 0x358637BD#32 = ((eps : ℝ) : EReal) := by
  simp [Ideal.ofBits, Ideal.ieee, eps]
  exact_mod_cast (by norm_num : (8796093 : ℝ) * (2 ^ 43)⁻¹ = 8796093 / 2 ^ 43)
theorem word_half : Ideal.ofBits .f32 0x3F000000#32 = ((1 / 2 : ℝ) : EReal) := by
  simp [Ideal.ofBits, Ideal.ieee]
  exact_mod_cast (by norm_num : (8388608 : ℝ) * (2 ^ 24)⁻¹ = 2⁻¹)
theorem word_minus_half : Ideal.ofBits .f32 0xBF000000#32 = ((-(1 / 2) : ℝ) : EReal) := by
  simp [Ideal.ofBits, Ideal.ieee]
  exact_mod_cast (by norm_num : (8388608 : ℝ) * (2 ^ 24)⁻¹ = 2⁻¹)
theorem word_one : Ideal.ofBits .f32 0x3F800000#32 = ((1 : ℝ) : EReal) := by
  simp [Ideal.ofBits, Ideal.ieee]
  exact_mod_cast (by norm_num : (8388608 : ℝ) * (2 ^ 23)⁻¹ = 1)
theorem word_width : Ideal.ofBits .f32 0x44800000#32 = ((1024 : ℝ) : EReal) := by
  simp [Ideal.ofBits, Ideal.ieee]
  exact_mod_cast (by norm_num : (8388608 : ℝ) * (2 ^ 13)⁻¹ = 1024)
theorem word_zero : Ideal.ofBits .f32 0x00000000#32 = ((0 : ℝ) : EReal) := by
  simp [Ideal.ofBits, Ideal.ieee]

/-- Division of finite values by a number other than zero. -/
theorem div_real {y : ℝ} (h : y ≠ 0) (x : ℝ) : Ideal.div (x : EReal) (y : EReal) = ((x / y : ℝ) : EReal) := by
  rw [Ideal.div_coe h, ← EReal.coe_mul, mul_one_div]

/-- The reciprocal root of a positive number. -/
theorem rsqrt_real {x : ℝ} (h : 0 < x) : Ideal.rsqrt (x : EReal) = (((Real.sqrt x)⁻¹ : ℝ) : EReal) := by
  rw [Ideal.rsqrt_coe, if_neg (not_lt.mpr h.le), if_neg h.ne']

/-! ## One row -/

/-- The mean square of a row, and the norm's constant. -/
def var (x : Fin 1024 → ℝ) : ℝ := (∑ d, x d * x d) / 1024 + eps

theorem var_pos (x : Fin 1024 → ℝ) : 0 < var x := by
  have : 0 ≤ ∑ d, x d * x d := Finset.sum_nonneg fun d _ => mul_self_nonneg _
  have := eps_pos
  unfold var; positivity

/-- The norm's factor for a row. -/
def root (x : Fin 1024 → ℝ) : ℝ := (Real.sqrt (var x))⁻¹

/-- Its square is the reciprocal of the mean square. -/
theorem root_sq (x : Fin 1024 → ℝ) : root x * root x = 1 / var x := by
  unfold root
  rw [← mul_inv, Real.mul_self_sqrt (var_pos x).le, one_div]

/-- The logistic function. -/
def sg (z : ℝ) : ℝ := 1 / (1 + Real.exp (-z))

theorem den_ne (z : ℝ) : 1 + Real.exp (-z) ≠ 0 := by positivity

/-! ## The arrays of the half-step's derivative

`h` is the input, `g` the gain, `o` the cotangent of the result, `w` the stacked gate and up weights, `u` the down weight. -/

section Arrays

variable (h : Fin 4160 → Fin 1024 → ℝ) (g : Fin 1024 → ℝ) (o : Fin 4160 → Fin 1024 → ℝ)
  (w : Fin 1024 → Fin 5632 → ℝ) (u : Fin 2816 → Fin 1024 → ℝ)

/-- The normed input. -/
def xn (i : Fin 4160) (d : Fin 1024) : ℝ := h i d * root (h i) * g d

/-- The product with the stacked weights: column `k < 2816` is the gate, column `2816 + k` the up projection. -/
def z (i : Fin 4160) (k : Fin 5632) : ℝ := ∑ d, xn h g i d * w d k

/-- Column `k` of the gate weights. -/
def lo (k : Fin 2816) : Fin 5632 := ⟨k.val, by omega⟩
/-- Column `k` of the up weights. -/
def hi (k : Fin 2816) : Fin 5632 := ⟨2816 + k.val, by omega⟩

/-- The gated activation. -/
def act (i : Fin 4160) (k : Fin 2816) : ℝ := z h g w i (lo k) * sg (z h g w i (lo k)) * z h g w i (hi k)

/-- Half the cotangent. -/
def half (i : Fin 4160) (d : Fin 1024) : ℝ := 1 / 2 * o i d

/-- The cotangent of the activation. -/
def dact (i : Fin 4160) (k : Fin 2816) : ℝ := ∑ d, half o i d * u k d

/-- The cotangent of the up projection. -/
def dup (i : Fin 4160) (k : Fin 2816) : ℝ := z h g w i (lo k) * sg (z h g w i (lo k)) * dact o u i k

/-- The cotangent of the gate. -/
def dgate (i : Fin 4160) (k : Fin 2816) : ℝ :=
  dact o u i k * z h g w i (hi k)
    * (sg (z h g w i (lo k)) * (1 + z h g w i (lo k) * (1 - sg (z h g w i (lo k)))))

/-- The cotangent of the normed input. -/
def dxn (i : Fin 4160) (d : Fin 1024) : ℝ :=
  (∑ k, dgate h g o w u i k * w d (lo k)) + ∑ k, dup h g o w u i k * w d (hi k)

/-- The gradient of the gain. -/
def dgain (d : Fin 1024) : ℝ := ∑ i, dxn h g o w u i d * h i d * root (h i)

/-- The gradient of the input. -/
def dh (i : Fin 4160) (d : Fin 1024) : ℝ :=
  o i d + root (h i) * (dxn h g o w u i d * g d)
    - h i d * (root (h i) * root (h i) * root (h i)) * ((∑ e, dxn h g o w u i e * g e * h i e) / 1024)

end Arrays

end Cert.Half
-- ==== Proof.Ffn.Blocks.lean ====
/-
What one grid point of the feed-forward backward call computes of finite blocks, as formulas of real numbers.
-/
module

public import proofs.«01_k».proof.Proof.Ffn.Step
public import proofs.«01_k».proof.Proof.Ffn.Reals

@[expose] public section

set_option maxRecDepth 16384

noncomputable section

namespace Cert.KernelIdeal.Ffn

open Idealize.ShloMosaic Idealize.ShloMosaic.TcCoe Idealize.SL.Sem
open Idealize.ShloMosaic.Pipeline
open Cert.KernelIdeal Cert.KernelIdeal.Gen
open Cert.Half

/-! ## One row and one hidden channel

`x` is a normed row, `y` half a row of the cotangent, `p` and `q` a channel's gate and up weights, `r` its down weights. -/

/-- The product of two rows. -/
def dotR (x p : Fin 1024 → ℝ) : ℝ := ∑ d, x d * p d
/-- The gated activation. -/
def actR (x p q : Fin 1024 → ℝ) : ℝ := dotR x p * sg (dotR x p) * dotR x q
/-- The cotangent of the gate. -/
def dgateR (x y p q r : Fin 1024 → ℝ) : ℝ :=
  dotR y r * dotR x q * (sg (dotR x p) * (1 + dotR x p * (1 - sg (dotR x p))))
/-- The cotangent of the up projection. -/
def dupR (x y p r : Fin 1024 → ℝ) : ℝ := dotR x p * sg (dotR x p) * dotR y r
/-- What 704 channels add to a row of the cotangent of the normed input. -/
def addR (x y : Fin 1024 → ℝ) (p q r : Fin 704 → Fin 1024 → ℝ) (d : Fin 1024) : ℝ :=
  (∑ f, dgateR x y (p f) (q f) (r f) * p f d) + ∑ f, dupR x y (p f) (r f) * q f d

/-! ## Half a block of rows -/

section
variable (a b : Fin 208 → Fin 1024 → ℝ) (p q r : Fin 704 → Fin 1024 → ℝ) (s : Fin 208 → Fin 1024 → ℝ)

theorem pay11_lift : k0_pay11 (F := Ideal) (lift3 .bf16 (fun _ => p)) = lift2 .bf16 p := by
  refine eq_lift2 fun i d => ?_
  pointwise [k0_pay11]
  simp only [lift3_apply]
theorem pay12_lift : k0_pay12 (F := Ideal) (lift3 .bf16 (fun _ => p)) = lift2 .bf16 p := by
  refine eq_lift2 fun i d => ?_
  pointwise [k0_pay12]
  simp only [lift3_apply]
theorem pay13_lift : k0_pay13 (F := Ideal) (lift2 .bf16 r) = lift2 .bf16 r := by
  unfold k0_pay13
  exact shapeCast_self _ _

theorem pay15_lift : k0_pay15 (F := Ideal) (lift3 .bf16 (fun _ => p)) (lift2 .bf16 a) = lift2 .f32 (fun i f => dotR (a i) (p f)) := by
  refine eq_lift2 fun i d => ?_
  unfold k0_pay15 k0_pay14
  rw [pay11_lift]
  pointwise
  simp only [lift2_apply, ← EReal.coe_mul, sum_coe, dotR]
theorem pay16_lift : k0_pay16 (F := Ideal) (lift3 .bf16 (fun _ => p)) (lift2 .bf16 a) = lift2 .f32 (fun i f => dotR (a i) (p f)) := by
  refine eq_lift2 fun i d => ?_
  unfold k0_pay16 k0_pay14
  rw [pay12_lift]
  pointwise
  simp only [lift2_apply, ← EReal.coe_mul, sum_coe, dotR]
theorem pay18_lift : k0_pay18 (F := Ideal) (lift2 .bf16 p) (lift2 .bf16 a) = lift2 .f32 (fun i f => dotR (a i) (p f)) := by
  refine eq_lift2 fun i d => ?_
  unfold k0_pay18
  rw [pay13_lift]
  pointwise
  simp only [lift2_apply, ← EReal.coe_mul, sum_coe, dotR]
theorem pay28_lift : k0_pay28 (F := Ideal) (lift2 .bf16 p) (lift2 .bf16 a) = lift2 .f32 (fun i f => dotR (a i) (p f)) := by
  refine eq_lift2 fun i d => ?_
  unfold k0_pay28 k0_pay27
  pointwise
  simp only [lift2_apply, ← EReal.coe_mul, sum_coe, dotR]
theorem pay29_lift : k0_pay29 (F := Ideal) (lift2 .bf16 p) (lift2 .bf16 a) = lift2 .f32 (fun i f => dotR (a i) (p f)) := by
  refine eq_lift2 fun i d => ?_
  unfold k0_pay29 k0_pay27
  pointwise
  simp only [lift2_apply, ← EReal.coe_mul, sum_coe, dotR]
theorem pay31_lift : k0_pay31 (F := Ideal) (lift2 .bf16 p) (lift2 .bf16 a) = lift2 .f32 (fun i f => dotR (a i) (p f)) := by
  refine eq_lift2 fun i d => ?_
  unfold k0_pay31
  pointwise
  simp only [lift2_apply, ← EReal.coe_mul, sum_coe, dotR]

theorem logistic (x : ℝ) : Ideal.div (1 : EReal) (1 + Ideal.exp (0 - (x : EReal))) = ((sg x : ℝ) : EReal) := by
  rw [← EReal.coe_zero, ← EReal.coe_sub, zero_sub, Ideal.exp_coe, ← EReal.coe_one, ← EReal.coe_add, div_real (den_ne _), sg]

theorem pay17_lift : k0_pay17 (F := Ideal) (lift3 .bf16 (fun _ => p)) (lift2 .bf16 a) = lift2 .f32 (fun i f => sg (dotR (a i) (p f))) := by
  refine eq_lift2 fun i d => ?_
  unfold k0_pay17
  rw [pay15_lift]
  pointwise
  rw [lift2_apply, logistic]
theorem pay30_lift : k0_pay30 (F := Ideal) (lift2 .bf16 p) (lift2 .bf16 a) = lift2 .f32 (fun i f => sg (dotR (a i) (p f))) := by
  refine eq_lift2 fun i d => ?_
  unfold k0_pay30
  rw [pay28_lift]
  pointwise
  rw [lift2_apply, logistic]
theorem pay21_lift : k0_pay21 (F := Ideal) (lift3 .bf16 (fun _ => p)) (lift2 .bf16 a) = lift2 .f32 (fun i f => 1 - sg (dotR (a i) (p f))) := by
  refine eq_lift2 fun i d => ?_
  unfold k0_pay21
  rw [pay17_lift]
  pointwise
  rw [lift2_apply, ← EReal.coe_one, ← EReal.coe_sub]
theorem pay20_lift : k0_pay20 (F := Ideal) (lift3 .bf16 (fun _ => q)) (lift2 .bf16 r) (lift2 .bf16 a) (lift2 .bf16 b)
    = lift2 .f32 (fun i f => dotR (b i) (r f) * dotR (a i) (q f)) := by
  refine eq_lift2 fun i d => ?_
  unfold k0_pay20
  rw [pay18_lift, pay16_lift]
  pointwise
  simp only [lift2_apply, ← EReal.coe_mul]

theorem pay22_lift (e g t v : Fin 208 → Fin 704 → ℝ) : k0_pay22 (F := Ideal) (lift2 .f32 e) (lift2 .f32 g) (lift2 .f32 t) (lift2 .f32 v)
    = lift2 .bf16 (fun i f => t i f * (g i f * (1 + e i f * v i f))) := by
  refine eq_lift2 fun i d => ?_
  pointwise [k0_pay22]
  simp only [lift2_apply, ← EReal.coe_one, ← EReal.coe_mul, ← EReal.coe_add]
theorem pay23_lift (e g t : Fin 208 → Fin 704 → ℝ) : k0_pay23 (F := Ideal) (lift2 .f32 e) (lift2 .f32 g) (lift2 .f32 t)
    = lift2 .bf16 (fun i f => e i f * g i f * t i f) := by
  refine eq_lift2 fun i d => ?_
  pointwise [k0_pay23]
  simp only [lift2_apply, ← EReal.coe_mul]
  congr 1
  ring
theorem pay33_lift (e t g : Fin 208 → Fin 704 → ℝ) : k0_pay33 (F := Ideal) (lift2 .bf16 r) (lift2 .f32 e) (lift2 .f32 t) (lift2 .f32 g) (lift2 .bf16 b)
    = lift2 .bf16 (fun i f => dotR (b i) (r f) * t i f * (g i f * (1 + e i f * (1 - g i f)))) := by
  refine eq_lift2 fun i d => ?_
  unfold k0_pay33
  rw [pay31_lift]
  pointwise
  simp only [lift2_apply, ← EReal.coe_one, ← EReal.coe_mul, ← EReal.coe_add, ← EReal.coe_sub]
theorem pay34_lift (e g : Fin 208 → Fin 704 → ℝ) : k0_pay34 (F := Ideal) (lift2 .bf16 r) (lift2 .f32 e) (lift2 .f32 g) (lift2 .bf16 b)
    = lift2 .bf16 (fun i f => e i f * g i f * dotR (b i) (r f)) := by
  refine eq_lift2 fun i d => ?_
  unfold k0_pay34
  rw [pay31_lift]
  pointwise
  simp only [lift2_apply, ← EReal.coe_mul]
  congr 1
  ring

theorem actLo_lift : actLo (F := Ideal) (lift3 .bf16 (fun _ => p)) (lift3 .bf16 (fun _ => q)) (lift2 .bf16 a)
    = lift3 .bf16 (fun _ i f => actR (a i) (p f) (q f)) := by
  refine eq_lift3 fun j i f => ?_
  unfold actLo k0_pay19
  rw [pay15_lift, pay16_lift, pay17_lift]
  pointwise
  simp only [lift2_apply, ← EReal.coe_mul, actR]
theorem actHi_lift : actHi (F := Ideal) (lift3 .bf16 (fun _ => p)) (lift3 .bf16 (fun _ => q)) (lift2 .bf16 a)
    = lift3 .bf16 (fun _ i f => actR (a i) (p f) (q f)) := by
  refine eq_lift3 fun j i f => ?_
  unfold actHi k0_pay32
  rw [pay11_lift, pay12_lift, pay28_lift, pay29_lift, pay30_lift]
  pointwise
  simp only [lift2_apply, ← EReal.coe_mul, actR]
theorem dgateLo_lift : dgateLo (F := Ideal) (lift3 .bf16 (fun _ => p)) (lift3 .bf16 (fun _ => q)) (lift2 .bf16 r) (lift2 .bf16 a) (lift2 .bf16 b)
    = lift3 .bf16 (fun _ i f => dgateR (a i) (b i) (p f) (q f) (r f)) := by
  refine eq_lift3 fun j i f => ?_
  unfold dgateLo k0_pay24
  rw [pay15_lift, pay17_lift, pay20_lift, pay21_lift, pay22_lift]
  pointwise
  simp only [lift2_apply, dgateR]
theorem dgateHi_lift : dgateHi (F := Ideal) (lift3 .bf16 (fun _ => p)) (lift3 .bf16 (fun _ => q)) (lift2 .bf16 r) (lift2 .bf16 a) (lift2 .bf16 b)
    = lift3 .bf16 (fun _ i f => dgateR (a i) (b i) (p f) (q f) (r f)) := by
  refine eq_lift3 fun j i f => ?_
  unfold dgateHi k0_pay35
  rw [pay11_lift, pay12_lift, pay13_lift, pay28_lift, pay29_lift, pay30_lift, pay33_lift]
  pointwise
  simp only [lift2_apply, dgateR]
theorem dupLo_lift : dupLo (F := Ideal) (lift3 .bf16 (fun _ => p)) (lift2 .bf16 r) (lift2 .bf16 a) (lift2 .bf16 b)
    = lift3 .bf16 (fun _ i f => dupR (a i) (b i) (p f) (r f)) := by
  refine eq_lift3 fun j i f => ?_
  unfold dupLo k0_pay25
  rw [pay15_lift, pay17_lift, pay18_lift, pay23_lift]
  pointwise
  simp only [lift2_apply, dupR]
theorem dupHi_lift : dupHi (F := Ideal) (lift3 .bf16 (fun _ => p)) (lift2 .bf16 r) (lift2 .bf16 a) (lift2 .bf16 b)
    = lift3 .bf16 (fun _ i f => dupR (a i) (b i) (p f) (r f)) := by
  refine eq_lift3 fun j i f => ?_
  unfold dupHi k0_pay36
  rw [pay11_lift, pay13_lift, pay28_lift, pay30_lift, pay34_lift]
  pointwise
  simp only [lift2_apply, dupR]
theorem sumLo_lift : sumLo (F := Ideal) (lift3 .bf16 (fun _ => p)) (lift3 .bf16 (fun _ => q)) (lift2 .bf16 r) (lift2 .bf16 a) (lift2 .bf16 b) (lift2 .f32 s)
    = lift2 .f32 (fun i d => s i d + addR (a i) (b i) p q r d) := by
  refine eq_lift2 fun i d => ?_
  unfold sumLo k0_pay26
  rw [pay11_lift, pay12_lift, pay15_lift, pay17_lift, pay18_lift, pay20_lift, pay21_lift, pay22_lift, pay23_lift]
  pointwise
  simp only [lift2_apply, ← EReal.coe_mul, sum_coe, ← EReal.coe_add]
  rfl
theorem sumHi_lift : sumHi (F := Ideal) (lift3 .bf16 (fun _ => p)) (lift3 .bf16 (fun _ => q)) (lift2 .bf16 r) (lift2 .bf16 a) (lift2 .bf16 b) (lift2 .f32 s)
    = lift2 .f32 (fun i d => s i d + addR (a i) (b i) p q r d) := by
  refine eq_lift2 fun i d => ?_
  unfold sumHi k0_pay37
  rw [pay11_lift, pay12_lift, pay13_lift, pay28_lift, pay29_lift, pay30_lift, pay33_lift, pay34_lift]
  pointwise
  simp only [lift2_apply, ← EReal.coe_mul, sum_coe, ← EReal.coe_add]
  rfl

end

/-! ## The two halves of a block -/

/-- Row `i` of the first half of a block. -/
def up (i : Fin 208) : Fin 416 := ⟨i.val, by omega⟩
/-- Row `i` of the second half of a block. -/
def down (i : Fin 208) : Fin 416 := ⟨208 + i.val, by omega⟩

theorem ld_lo_at {e : EltTy} (v : S416x1024.Idx → Elt Ideal e) (i : Fin 208) (d : Fin 1024) :
    View.ld v loR (ix2 i d : S208x1024.Idx) = v (ix2 (up i) d) := by
  refine congrArg v (funext fun a => ?_)
  fin_cases a <;> exact Fin.ext (by simp [up])
theorem ld_hi_at {e : EltTy} (v : S416x1024.Idx → Elt Ideal e) (i : Fin 208) (d : Fin 1024) :
    View.ld v hiR (ix2 i d : S208x1024.Idx) = v (ix2 (down i) d) := by
  refine congrArg v (funext fun a => ?_)
  fin_cases a <;> exact Fin.ext (by simp [down])

theorem ld_lo (a : Fin 416 → Fin 1024 → ℝ) :
    View.ld (Val := Elt Ideal) (e' := .bf16) (lift2 .bf16 a) loR = lift2 .bf16 (fun i d => a (up i) d) :=
  eq_lift2 (n := 208) (k := 1024) fun i d => ld_lo_at (e := .bf16) (lift2 .bf16 a) i d
theorem ld_hi (a : Fin 416 → Fin 1024 → ℝ) :
    View.ld (Val := Elt Ideal) (e' := .bf16) (lift2 .bf16 a) hiR = lift2 .bf16 (fun i d => a (down i) d) :=
  eq_lift2 (n := 208) (k := 1024) fun i d => ld_hi_at (e := .bf16) (lift2 .bf16 a) i d
theorem ld_lo' (a : Fin 416 → Fin 1024 → ℝ) :
    View.ld (Val := Elt Ideal) (e' := .f32) (lift2 .f32 a) loR = lift2 .f32 (fun i d => a (up i) d) :=
  eq_lift2 (n := 208) (k := 1024) fun i d => ld_lo_at (e := .f32) (lift2 .f32 a) i d
theorem ld_hi' (a : Fin 416 → Fin 1024 → ℝ) :
    View.ld (Val := Elt Ideal) (e' := .f32) (lift2 .f32 a) hiR = lift2 .f32 (fun i d => a (down i) d) :=
  eq_lift2 (n := 208) (k := 1024) fun i d => ld_hi_at (e := .f32) (lift2 .f32 a) i d

theorem canon_rows (a : Fin 416 → Fin 1024 → ℝ) :
    View.canon ([⟨hiR, (lift2 .f32 (fun i d => a (down i) d) : FVec Ideal S208x1024 .f32)⟩,
      ⟨loR, (lift2 .f32 (fun i d => a (up i) d) : FVec Ideal S208x1024 .f32)⟩] :
      List (View.Piece (Elt Ideal) S416x1024 .f32)) = lift2 .f32 a := by
  funext y
  refine View.canon_apply_of_pieces (Val := Elt Ideal) (e := .f32) (S := S416x1024) (lift2 .f32 a) _ (fun p hp x => ?_) y (cover_rows _ _ y)
  rcases List.mem_cons.mp hp with rfl | hp
  · exact (congrFun (ld_hi' a) x).symm
  · obtain rfl := List.mem_singleton.mp hp
    exact (congrFun (ld_lo' a) x).symm

theorem canon_slab (a : Fin 416 → Fin 704 → ℝ) :
    View.canon ([⟨hiS, (lift3 .bf16 (fun _ i d => a (down i) d) : FVec Ideal S1x208x704 .bf16)⟩,
      ⟨loS, (lift3 .bf16 (fun _ i d => a (up i) d) : FVec Ideal S1x208x704 .bf16)⟩] :
      List (View.Piece (Elt Ideal) S1x416x704 .bf16)) = lift3 .bf16 (fun _ i d => a i d) := by
  funext y
  refine View.canon_apply_of_pieces (Val := Elt Ideal) (e := .bf16) (S := S1x416x704) (lift3 .bf16 (fun _ i d => a i d)) _ (fun p hp x => ?_) y (cover_slab _ _ y)
  rcases List.mem_cons.mp hp with rfl | hp
  · exact congrArg (fun z : ℝ => (z : EReal)) (congrArg₂ a (Fin.ext (by simp [down])) (Fin.ext (by simp)))
  · obtain rfl := List.mem_singleton.mp hp
    exact congrArg (fun z : ℝ => (z : EReal)) (congrArg₂ a (Fin.ext (by simp [up])) (Fin.ext (by simp)))

/-! ## A block of rows -/

section
variable (x y s : Fin 416 → Fin 1024 → ℝ) (p q r : Fin 704 → Fin 1024 → ℝ)

theorem actOf_lift : actOf (F := Ideal) (lift3 .bf16 (fun _ => p)) (lift3 .bf16 (fun _ => q)) (lift2 .bf16 x)
    = lift3 .bf16 (fun _ i f => actR (x i) (p f) (q f)) := by
  unfold actOf
  rw [ld_lo, ld_hi, actLo_lift, actHi_lift]
  exact canon_slab (fun i f => actR (x i) (p f) (q f))
theorem dgateOf_lift : dgateOf (F := Ideal) (lift3 .bf16 (fun _ => p)) (lift3 .bf16 (fun _ => q)) (lift2 .bf16 r) (lift2 .bf16 x) (lift2 .bf16 y)
    = lift3 .bf16 (fun _ i f => dgateR (x i) (y i) (p f) (q f) (r f)) := by
  unfold dgateOf
  rw [ld_lo, ld_hi, ld_lo, ld_hi, dgateLo_lift, dgateHi_lift]
  exact canon_slab (fun i f => dgateR (x i) (y i) (p f) (q f) (r f))
theorem dupOf_lift : dupOf (F := Ideal) (lift3 .bf16 (fun _ => p)) (lift2 .bf16 r) (lift2 .bf16 x) (lift2 .bf16 y)
    = lift3 .bf16 (fun _ i f => dupR (x i) (y i) (p f) (r f)) := by
  unfold dupOf
  rw [ld_lo, ld_hi, ld_lo, ld_hi, dupLo_lift, dupHi_lift]
  exact canon_slab (fun i f => dupR (x i) (y i) (p f) (r f))
theorem sumOf_lift : sumOf (F := Ideal) (lift3 .bf16 (fun _ => p)) (lift3 .bf16 (fun _ => q)) (lift2 .bf16 r) (lift2 .bf16 x) (lift2 .bf16 y) (lift2 .f32 s)
    = lift2 .f32 (fun i d => s i d + addR (x i) (y i) p q r d) := by
  unfold sumOf
  rw [ld_lo, ld_hi, ld_lo, ld_hi, ld_lo', ld_hi', sumLo_lift, sumHi_lift]
  exact canon_rows (fun i d => s i d + addR (x i) (y i) p q r d)

end

/-! ## The norm and its derivative -/

section
variable (h s o : Fin 416 → Fin 1024 → ℝ) (g : Fin 1024 → ℝ)

theorem zeros_lift : k0_pay10 (F := Ideal) = lift2 .f32 (fun _ _ => 0) := by
  refine eq_lift2 fun i d => ?_
  pointwise [k0_pay10]
  rfl
theorem zeroRow_lift : k0_pay1 (F := Ideal) = lift2 .f32 (fun _ _ => 0) := by
  refine eq_lift2 fun i d => ?_
  pointwise [k0_pay1]
  rfl
theorem norm_lift : k0_pay8 (F := Ideal) (lift2 .f32 h) (lift2 .f32 (fun _ d => g d)) = lift2 .bf16 (fun i d => h i d * root (h i) * g d) := by
  refine eq_lift2 fun i d => ?_
  pointwise [k0_pay8]
  simp only [lift2_apply, word_width, word_eps, ← EReal.coe_mul, sum_coe]
  rw [div_real (by norm_num), ← EReal.coe_add, ← var, rsqrt_real (var_pos _), ← root, ← EReal.coe_mul, ← EReal.coe_mul]
theorem halfBlock_lift : k0_pay9 (F := Ideal) (lift2 .f32 o) = lift2 .bf16 (fun i d => 1 / 2 * o i d) := by
  refine eq_lift2 fun i d => ?_
  pointwise [k0_pay9]
  rw [lift2_apply, word_half, ← EReal.coe_mul]
theorem root_lift : k0_pay3 (F := Ideal) (lift2 .f32 h) = lift2 .f32 (fun i _ => root (h i)) := by
  refine eq_lift2 fun i d => ?_
  pointwise [k0_pay3]
  simp only [lift2_apply, word_width, word_eps, ← EReal.coe_mul, sum_coe]
  rw [div_real (by norm_num), ← EReal.coe_add, ← var, rsqrt_real (var_pos _), ← root]
theorem dh_lift : k0_pay4 (F := Ideal) (lift2 .f32 h) (lift2 .f32 s) (lift2 .f32 (fun _ d => g d)) (lift2 .f32 o)
    = lift2 .f32 (fun i d => o i d + root (h i) * (s i d * g d) - h i d * (root (h i) * root (h i) * root (h i)) * ((∑ e, s i e * g e * h i e) / 1024)) := by
  refine eq_lift2 fun i d => ?_
  unfold k0_pay4
  rw [root_lift]
  pointwise
  simp only [lift2_apply, word_width, ← EReal.coe_mul, sum_coe]
  rw [div_real (by norm_num), ← EReal.coe_add, ← EReal.coe_mul, ← EReal.coe_sub]
theorem dhRounded_lift : k0_pay5 (F := Ideal) (lift2 .f32 h) (lift2 .f32 s) (lift2 .f32 (fun _ d => g d)) (lift2 .f32 o)
    = lift2 .bf16 (fun i d => o i d + root (h i) * (s i d * g d) - h i d * (root (h i) * root (h i) * root (h i)) * ((∑ e, s i e * g e * h i e) / 1024)) := by
  unfold k0_pay5
  rw [dh_lift]
  rfl
theorem share_lift : k0_pay7 (F := Ideal) (lift2 .f32 h) (lift2 .f32 s) = lift2 .f32 (fun i d => s i d * h i d * root (h i)) := by
  refine eq_lift2 fun i d => ?_
  unfold k0_pay7
  rw [root_lift]
  pointwise
  simp only [lift2_apply, ← EReal.coe_mul]
theorem gain_lift (v : Fin 416 → Fin 1024 → ℝ) : k0_pay2 (F := Ideal) (k0_pay6 (lift2 .f32 (fun _ d => g d))) (lift2 .f32 v)
    = lift2 .f32 (fun _ d => g d + ∑ i, v i d) := by
  refine eq_lift2 fun i d => ?_
  pointwise [k0_pay2, k0_pay6]
  simp only [lift2_apply, sum_coe, ← EReal.coe_add]

end

end Cert.KernelIdeal.Ffn
-- ==== Proof.Ffn.Rows.lean ====
/-
The blocks of finite arguments which a grid point loads.
-/
module

public import proofs.«01_k».proof.Proof.Ffn.Data
public import proofs.«01_k».proof.Proof.Ffn.Blocks
public import Idealize.ShloMosaic.Lib.Claim

@[expose] public section

set_option maxRecDepth 16384

noncomputable section

namespace Cert.KernelIdeal.Ffn

open Idealize.ShloMosaic Idealize.ShloMosaic.TcCoe Idealize.SL.Sem
open Idealize.ShloMosaic.Pipeline
open Cert.KernelIdeal Cert.KernelIdeal.Gen
open Cert.Half

variable (m : (ℓ : Loc nD τ sig) → Buf (Elt Ideal) ℓ) (c : Dev nD)

/-- The arguments on device `c` are these finite arrays. -/
structure Holds (h : Fin 4160 → Fin 1024 → ℝ) (g : Fin 1024 → ℝ) (o : Fin 4160 → Fin 1024 → ℝ)
    (w : Fin 1024 → Fin 5632 → ℝ) (u : Fin 2816 → Fin 1024 → ℝ) : Prop where
  h0 : (m ((c : Thread nD τ).loc main_arg0) : FVec Ideal S4160x1024 .f32) = lift2 .f32 h
  h1 : (m ((c : Thread nD τ).loc main_arg1) : FVec Ideal S1024 .f32) = lift1 .f32 g
  h2 : (m ((c : Thread nD τ).loc main_arg2) : FVec Ideal S4160x1024 .f32) = lift2 .f32 o
  h3 : (m ((c : Thread nD τ).loc main_arg3) : FVec Ideal S1024x5632 .f32) = lift2 .f32 w
  h4 : (m ((c : Thread nD τ).loc main_arg4) : FVec Ideal S2816x1024 .f32) = lift2 .f32 u

theorem point_lt (t : Fin cfg0.N) : t.val < 40 := lt_of_lt_of_eq t.isLt N_0

/-- Row `i` of point `t`'s block of rows. -/
def row (t : Fin cfg0.N) (i : Fin 416) : Fin 4160 := ⟨t.val / 4 * 416 + i.val, by have := point_lt t; omega⟩
/-- Channel `f` of point `t`'s slab of channels. -/
def ch (t : Fin cfg0.N) (f : Fin 704) : Fin 2816 := ⟨t.val % 4 * 704 + f.val, by omega⟩

/-- The printed index maps of the inputs. -/
theorem maps : ∀ t : Fin cfg0.N, win0_0.index t = ![t.val / 4, 0] ∧ win0_1.index t = ![0, 0]
    ∧ win0_2.index t = ![t.val / 4, 0] ∧ win0_3.index t = ![t.val % 4, 0, 0] ∧ win0_4.index t = ![4 + t.val % 4, 0, 0]
    ∧ win0_5.index t = ![t.val % 4, 0] :=
  (by decide +kernel : ∀ t : Fin grid0.N, _)

/-- The stacked weights as the host hands them over: slab `j`, channel `f`. -/
theorem stacked (W : FVec Ideal S1024x5632 .f32) (j : Fin 8) (f : Fin 704) (d : Fin 1024) :
    shapeCast S8x704x1024 (truncf .bf16 (transpose S5632x1024 [1, 0] W transposes_S1024x5632_S5632x1024_1_0) bitsLt_bf16_f32)
      shapeCasts_S5632x1024_S8x704x1024 (ix3 j f d) = W (ix2 d ⟨j.val * 704 + f.val, by omega⟩) := by
  pointwise
  blk_ext
/-- The gain as a row. -/
theorem gainRow (G : FVec Ideal S1024 .f32) (i : Fin 1) (d : Fin 1024) :
    shapeCast S1x1024 G shapeCasts_S1024_S1x1024 (ix2 i d) = G (ix1 d) := by
  pointwise

variable {m c}
variable {h : Fin 4160 → Fin 1024 → ℝ} {g : Fin 1024 → ℝ} {o : Fin 4160 → Fin 1024 → ℝ}
    {w : Fin 1024 → Fin 5632 → ℝ} {u : Fin 2816 → Fin 1024 → ℝ} (H : Holds m c h g o w u) (t : Fin cfg0.N)
include H

theorem block_h : (iblk m c 0 t : FVec Ideal S416x1024 .f32) = lift2 .f32 (fun i d => h (row t i) d) := by
  refine eq_lift2 (n := 416) (k := 1024) fun i d => ?_
  refine Eq.trans ?_ (congrFun H.h0 (ix2 (row t i) d))
  blk_simp [iblk, V]
  blk_ext [maps t, row]

theorem block_o : (iblk m c 2 t : FVec Ideal S416x1024 .f32) = lift2 .f32 (fun i d => o (row t i) d) := by
  refine eq_lift2 (n := 416) (k := 1024) fun i d => ?_
  refine Eq.trans ?_ (congrFun H.h2 (ix2 (row t i) d))
  blk_simp [iblk, V]
  blk_ext [maps t, row]

theorem block_g : (iblk m c 1 t : FVec Ideal S1x1024 .f32) = lift2 .f32 (fun _ d => g d) := by
  refine eq_lift2 (n := 1) (k := 1024) fun i d => ?_
  refine Eq.trans ?_ (congrFun H.h1 (ix1 d))
  unfold iblk
  entry_read
  have he : ((View.whole main_v3).slice (win0_1.rect t)).emb (ix2 i d : S1x1024.Idx) = (ix2 i d : S1x1024.Idx) := by blk_ext [maps t]
  exact (congrArg _ he).trans (gainRow _ i d)

theorem block_wg : (iblk m c 3 t : FVec Ideal S1x704x1024 .bf16) = lift3 .bf16 (fun _ f d => w d (lo (ch t f))) := by
  refine eq_lift3 (n := 1) (p := 704) (k := 1024) fun z f d => ?_
  refine Eq.trans ?_ (congrFun H.h3 (ix2 d (lo (ch t f))))
  unfold iblk
  entry_read
  have he : ((View.whole main_v2).slice (win0_3.rect t)).emb (ix3 z f d : S1x704x1024.Idx) = (ix3 ⟨t.val % 4, by omega⟩ f d : S8x704x1024.Idx) := by
    blk_ext [maps t]
  exact (congrArg _ he).trans (stacked _ _ f d)

theorem block_wu : (iblk m c 4 t : FVec Ideal S1x704x1024 .bf16) = lift3 .bf16 (fun _ f d => w d (hi (ch t f))) := by
  refine eq_lift3 (n := 1) (p := 704) (k := 1024) fun z f d => ?_
  refine Eq.trans ?_ (congrFun H.h3 (ix2 d (hi (ch t f))))
  unfold iblk
  entry_read
  have he : ((View.whole main_v2).slice (win0_4.rect t)).emb (ix3 z f d : S1x704x1024.Idx) = (ix3 ⟨4 + t.val % 4, by omega⟩ f d : S8x704x1024.Idx) := by
    blk_ext [maps t]
  refine (congrArg _ he).trans ((stacked _ _ f d).trans ?_)
  blk_ext [hi, ch]

theorem block_u : (iblk m c 5 t : FVec Ideal S704x1024 .bf16) = lift2 .bf16 (fun f d => u (ch t f) d) := by
  refine eq_lift2 (n := 704) (k := 1024) fun f d => ?_
  refine Eq.trans ?_ (congrFun H.h4 (ix2 (ch t f) d))
  unfold iblk
  entry_read
  have he : ((View.whole main_v4).slice (win0_5.rect t)).emb (ix2 f d : S704x1024.Idx) = (ix2 (ch t f) d : S2816x1024.Idx) := by
    blk_ext [maps t, ch]
  exact congrArg (m ((c : Thread nD τ).loc main_arg4)) he

end Cert.KernelIdeal.Ffn
-- ==== Proof.Ffn.Carried.lean ====
/-
What the feed-forward backward call carries from point to point, of finite arguments: the normed rows, half the rows of
the cotangent, the sum over the slabs of channels so far, and the gain's gradient over the blocks of rows so far.
-/
module

public import proofs.«01_k».proof.Proof.Ffn.Rows

@[expose] public section

set_option maxRecDepth 16384

noncomputable section

namespace Cert.KernelIdeal.Ffn

open Idealize.ShloMosaic Idealize.ShloMosaic.TcCoe Idealize.SL.Sem
open Idealize.ShloMosaic.Pipeline
open Cert.KernelIdeal Cert.KernelIdeal.Gen
open Cert.Half

section
variable (h : Fin 4160 → Fin 1024 → ℝ) (g : Fin 1024 → ℝ) (o : Fin 4160 → Fin 1024 → ℝ)
    (w : Fin 1024 → Fin 5632 → ℝ) (u : Fin 2816 → Fin 1024 → ℝ)

/-- Channel `f` of slab `j`. -/
def chan (j : Fin 4) (f : Fin 704) : Fin 2816 := ⟨j.val * 704 + f.val, by omega⟩

/-- What slab `j` adds to row `i` of the cotangent of the normed input. -/
def slabAdd (i : Fin 4160) (d : Fin 1024) (j : Fin 4) : ℝ :=
  addR (xn h g i) (half o i) (fun f e => w e (lo (chan j f))) (fun f e => w e (hi (chan j f))) (fun f => u (chan j f)) d

/-- The same, numbered, and zero beyond the last slab. -/
def slabAdd' (i : Fin 4160) (d : Fin 1024) (n : ℕ) : ℝ := if hn : n < 4 then slabAdd h g o w u i d ⟨n, hn⟩ else 0

/-- The four slabs together give the cotangent. -/
theorem slabs_all (i : Fin 4160) (d : Fin 1024) : ∑ n ∈ Finset.range 4, slabAdd' h g o w u i d n = dxn h g o w u i d := by
  rw [Finset.sum_range]
  unfold dxn
  rw [Fin.sum_univ_tiles 4 704 rfl (fun k : Fin 2816 => dgate h g o w u i k * w d (lo k)),
    Fin.sum_univ_tiles 4 704 rfl (fun k : Fin 2816 => dup h g o w u i k * w d (hi k)), ← Finset.sum_add_distrib]
  refine Finset.sum_congr rfl fun j _ => ?_
  rw [slabAdd', dif_pos j.isLt]
  rfl

/-- What block `b` of rows adds to the gain's gradient. -/
def blockShare (d : Fin 1024) (b : Fin 10) : ℝ :=
  ∑ i : Fin 416, dxn h g o w u ⟨b.val * 416 + i.val, by omega⟩ d * h ⟨b.val * 416 + i.val, by omega⟩ d
    * root (h ⟨b.val * 416 + i.val, by omega⟩)

/-- The same, numbered, and zero beyond the last block. -/
def blockShare' (d : Fin 1024) (n : ℕ) : ℝ := if hn : n < 10 then blockShare h g o w u d ⟨n, hn⟩ else 0

/-- The ten blocks together give the gain's gradient. -/
theorem blocks_all (d : Fin 1024) : ∑ n ∈ Finset.range 10, blockShare' h g o w u d n = dgain h g o w u d := by
  rw [Finset.sum_range]
  unfold dgain
  rw [Fin.sum_univ_tiles 10 416 rfl (fun i : Fin 4160 => dxn h g o w u i d * h i d * root (h i))]
  refine Finset.sum_congr rfl fun j _ => ?_
  rw [blockShare', dif_pos j.isLt]
  rfl

/-- What is carried after point `t`. -/
def state (t : Fin cfg0.N) : Held Ideal where
  xn := lift2 .bf16 (fun i d => xn h g (row t i) d)
  dhalf := lift2 .bf16 (fun i d => half o (row t i) d)
  sum := lift2 .f32 (fun i d => ∑ n ∈ Finset.range (t.val % 4 + 1), slabAdd' h g o w u (row t i) d n)
  dg := lift2 .f32 (fun _ d => ∑ n ∈ Finset.range ((t.val + 1) / 4), blockShare' h g o w u d n)
end

variable {m : (ℓ : Loc nD τ sig) → Buf (Elt Ideal) ℓ} {c : Dev nD}
variable {h : Fin 4160 → Fin 1024 → ℝ} {g : Fin 1024 → ℝ} {o : Fin 4160 → Fin 1024 → ℝ}
    {w : Fin 1024 → Fin 5632 → ℝ} {u : Fin 2816 → Fin 1024 → ℝ} (H : Holds m c h g o w u) (t : Fin cfg0.N)

section
include H

theorem next_xn (x : Vec Ideal S416x1024 .bf16) (hx : t.val % 4 ≠ 0 → x = (state h g o w u t).xn) :
    xnAt (k0_cond1 (grid0.coords t) = 1#1) (iblk m c 0 t) (iblk m c 1 t) x = (state h g o w u t).xn := by
  unfold xnAt
  split
  next => exact (congrArg₂ (k0_pay8 (F := Ideal)) (block_h H t) (block_g H t)).trans (norm_lift _ g)
  next e => exact hx fun e' => e ((first_iff t).mpr e')

theorem next_dhalf (x : Vec Ideal S416x1024 .bf16) (hx : t.val % 4 ≠ 0 → x = (state h g o w u t).dhalf) :
    dhalfAt (k0_cond1 (grid0.coords t) = 1#1) (iblk m c 2 t) x = (state h g o w u t).dhalf := by
  unfold dhalfAt
  split
  next => exact (congrArg (k0_pay9 (F := Ideal)) (block_o H t)).trans (halfBlock_lift _)
  next e => exact hx fun e' => e ((first_iff t).mpr e')

theorem next_sum (s : Vec Ideal S416x1024 .f32)
    (hs : t.val % 4 ≠ 0 → s = lift2 .f32 (fun i d => ∑ n ∈ Finset.range (t.val % 4), slabAdd' h g o w u (row t i) d n)) :
    sumAt (k0_cond1 (grid0.coords t) = 1#1) (iblk m c 3 t) (iblk m c 4 t) (iblk m c 5 t) (state h g o w u t).xn
      (state h g o w u t).dhalf s = (state h g o w u t).sum := by
  have e : (if k0_cond1 (grid0.coords t) = 1#1 then k0_pay10 else s)
      = lift2 .f32 (fun i d => ∑ n ∈ Finset.range (t.val % 4), slabAdd' h g o w u (row t i) d n) := by
    split
    next e => rw [(first_iff t).mp e]; exact zeros_lift
    next e => exact hs fun e' => e ((first_iff t).mpr e')
  unfold sumAt
  rw [e]
  have e3 := block_wg H t
  have e4 := block_wu H t
  have e5 := block_u H t
  refine Eq.trans (b := sumOf (F := Ideal) (lift3 .bf16 (fun _ f d => w d (lo (ch t f)))) (lift3 .bf16 (fun _ f d => w d (hi (ch t f))))
    (lift2 .bf16 (fun f d => u (ch t f) d)) (lift2 .bf16 (fun i d => xn h g (row t i) d)) (lift2 .bf16 (fun i d => half o (row t i) d))
    (lift2 .f32 (fun i d => ∑ n ∈ Finset.range (t.val % 4), slabAdd' h g o w u (row t i) d n))) ?_ ?_
  · rw [← e3, ← e4, ← e5]; rfl
  · rw [sumOf_lift]
    show _ = lift2 .f32 (fun i d => ∑ n ∈ Finset.range (t.val % 4 + 1), slabAdd' h g o w u (row t i) d n)
    refine congrArg (lift2 .f32) (funext fun i => funext fun d => ?_)
    rw [Finset.sum_range_succ]
    congr 1
    rw [slabAdd', dif_pos (Nat.mod_lt _ (by norm_num))]
    rfl

theorem next_dg (v : Vec Ideal S1x1024 .f32)
    (hv : t.val ≠ 0 → v = lift2 .f32 (fun _ d => ∑ n ∈ Finset.range (t.val / 4), blockShare' h g o w u d n)) :
    dgAt (k0_cond2 (grid0.coords t) = 1#1) (k0_cond3 (grid0.coords t) = 1#1) (iblk m c 0 t) (state h g o w u t).sum v
      = (state h g o w u t).dg := by
  have e : (if k0_cond2 (grid0.coords t) = 1#1 then k0_pay1 else v)
      = lift2 .f32 (fun _ d => ∑ n ∈ Finset.range (t.val / 4), blockShare' h g o w u d n) := by
    split
    next e => rw [(start_iff t).mp e]; exact zeroRow_lift
    next e => exact hv fun e' => e ((start_iff t).mpr e')
  unfold dgAt
  rw [e]
  have ht := point_lt t
  split
  next q =>
    have hq := (last_iff t).mp q
    have es : (state h g o w u t).sum = lift2 .f32 (fun i d => dxn h g o w u (row t i) d) := by
      show lift2 .f32 (fun i d => ∑ n ∈ Finset.range (t.val % 4 + 1), slabAdd' h g o w u (row t i) d n) = _
      refine congrArg (lift2 .f32) (funext fun i => funext fun d => ?_)
      rw [hq]
      exact slabs_all h g o w u _ d
    rw [es]
    refine (congrArg (fun b => k0_pay2 (F := Ideal) _ (k0_pay7 b _)) (block_h H t)).trans ?_
    refine (congrArg (k0_pay2 (F := Ideal) _) (share_lift _ _)).trans ((gain_lift _ _).trans ?_)
    show _ = lift2 .f32 (fun _ d => ∑ n ∈ Finset.range ((t.val + 1) / 4), blockShare' h g o w u d n)
    refine congrArg (lift2 .f32) (funext fun i => funext fun d => ?_)
    rw [show (t.val + 1) / 4 = t.val / 4 + 1 by omega, Finset.sum_range_succ]
    congr 1
    rw [blockShare', dif_pos (by omega)]
    rfl
  next q =>
    have hq : t.val % 4 ≠ 3 := fun e => q ((last_iff t).mpr e)
    unfold state
    rw [show (t.val + 1) / 4 = t.val / 4 by omega]

theorem advance_state (p : Held Ideal) (hx : t.val % 4 ≠ 0 → p.xn = (state h g o w u t).xn)
    (hd : t.val % 4 ≠ 0 → p.dhalf = (state h g o w u t).dhalf)
    (hs : t.val % 4 ≠ 0 → p.sum = lift2 .f32 (fun i d => ∑ n ∈ Finset.range (t.val % 4), slabAdd' h g o w u (row t i) d n))
    (hv : t.val ≠ 0 → p.dg = lift2 .f32 (fun _ d => ∑ n ∈ Finset.range (t.val / 4), blockShare' h g o w u d n)) :
    advance m c t p = state h g o w u t := by
  dsimp only [advance]
  rw [next_xn H t p.xn hx, next_dhalf H t p.dhalf hd, next_sum H t p.sum hs, next_dg H t p.dg hv]

/-- What the call carries after a point is what `state` says. -/
theorem held_state : ∀ (n : ℕ) (hn : n < cfg0.N), heldAt m c n hn = state h g o w u ⟨n, hn⟩ := by
  intro n
  induction n with
  | zero => exact fun hn => advance_state H ⟨0, hn⟩ _ (fun e => absurd rfl e) (fun e => absurd rfl e) (fun e => absurd rfl e) (fun e => absurd rfl e)
  | succ n ih =>
    intro hn
    have hrow : (n + 1) % 4 ≠ 0 → row ⟨n, by omega⟩ = row ⟨n + 1, hn⟩ := fun e =>
      funext fun i => Fin.ext (by simp only [row]; omega)
    refine advance_state H ⟨n + 1, hn⟩ _ (fun e => ?_) (fun e => ?_) (fun e => ?_) (fun e => ?_)
    · rw [ih]; unfold state; rw [hrow e]
    · rw [ih]; unfold state; rw [hrow e]
    · rw [ih]; unfold state; dsimp only at e ⊢; rw [hrow e, show (n + 1) % 4 = n % 4 + 1 by omega]
    · rw [ih]; unfold state; rfl
end

end Cert.KernelIdeal.Ffn
-- ==== Proof.Ffn.Arrays.lean ====
/-
The eight result arrays of the feed-forward backward call, of finite arguments.
-/
module

public import proofs.«01_k».proof.Proof.Ffn.Carried
public import proofs.«01_k».proof.Proof.Gen.KernelIdeal.Frame

@[expose] public section

set_option maxRecDepth 16384

noncomputable section

namespace Cert.KernelIdeal.Ffn

open Idealize.ShloMosaic Idealize.ShloMosaic.TcCoe Idealize.SL.Sem
open Idealize.ShloMosaic.Pipeline
open Cert.KernelIdeal Cert.KernelIdeal.Gen
open Cert.Half

/-- The printed index maps of the results. -/
theorem outMaps : ∀ t : Fin cfg0.N, win0_6.index t = ![t.val / 4, 0] ∧ win0_7.index t = ![t.val / 4, 0]
    ∧ win0_8.index t = ![0, 0] ∧ win0_9.index t = ![t.val / 4, 0] ∧ win0_10.index t = ![t.val % 4, t.val / 4, 0]
    ∧ win0_11.index t = ![t.val % 4, t.val / 4, 0] ∧ win0_12.index t = ![t.val % 4, t.val / 4, 0]
    ∧ win0_13.index t = ![t.val / 4, 0] :=
  (by decide +kernel : ∀ t : Fin grid0.N, _)

/-- Channel `j * 704 + f` of an array, as entry `(j, i, f)` of four slabs. -/
def slabs (a : Fin 4160 → Fin 2816 → ℝ) : Fin 4 → Fin 4160 → Fin 704 → ℝ := fun j i f => a i (chan j f)

variable {m : (ℓ : Loc nD τ sig) → Buf (Elt Ideal) ℓ} {c : Dev nD}
variable {h : Fin 4160 → Fin 1024 → ℝ} {g : Fin 1024 → ℝ} {o : Fin 4160 → Fin 1024 → ℝ}
    {w : Fin 1024 → Fin 5632 → ℝ} {u : Fin 2816 → Fin 1024 → ℝ} (H : Holds m c h g o w u)
include H

theorem final_xn : (dats m 0 c).arrAt 9 (cfgs 0).N = (lift2 .bf16 (xn h g) : FVec Ideal S4160x1024 .bf16) := by
  refine (dats m 0 c).arrAt_eq_of_covers 9 _ (by decide +kernel) fun t hf y => ?_
  blk_simp
  rw [after_9, held_state H]
  have he : ((View.whole main_v5_3).slice (win0_9.rect t)).emb y = (ix2 (row t (y 0)) (y 1) : S4160x1024.Idx) := by
    blk_ext [outMaps t, row]
  exact (congrArg (lift2 .bf16 (xn h g)) he).symm

theorem final_half : (dats m 0 c).arrAt 13 (cfgs 0).N = (lift2 .bf16 (half o) : FVec Ideal S4160x1024 .bf16) := by
  refine (dats m 0 c).arrAt_eq_of_covers 13 _ (by decide +kernel) fun t hf y => ?_
  blk_simp
  rw [after_13, held_state H]
  have he : ((View.whole main_v5_7).slice (win0_13.rect t)).emb y = (ix2 (row t (y 0)) (y 1) : S4160x1024.Idx) := by
    blk_ext [outMaps t, row]
  exact (congrArg (lift2 .bf16 (half o)) he).symm

theorem final_gain : (dats m 0 c).arrAt 8 (cfgs 0).N = (lift2 .f32 (fun _ => dgain h g o w u) : FVec Ideal S1x1024 .f32) := by
  refine (dats m 0 c).arrAt_eq_of_covers 8 _ (by decide +kernel) fun t hf y => ?_
  have ht : t.val = 39 := by have := (flush0_8 t).mp hf; have := point_lt t; omega
  blk_simp
  rw [after_8, held_state H]
  have he : ((View.whole main_v5_2).slice (win0_8.rect t)).emb y = (ix2 (y 0) (y 1) : S1x1024.Idx) := by
    blk_ext [outMaps t]
  refine Eq.trans ?_ (congrArg (lift2 .f32 (fun _ => dgain h g o w u)) he).symm
  have e := blocks_all h g o w u (y 1)
  rw [show 10 = (t.val + 1) / 4 by omega] at e
  exact congrArg (fun z : ℝ => (z : EReal)) e

attribute [local irreducible] actOf dgateOf dupOf

theorem block_act (t : Fin cfg0.N) : actOf (F := Ideal) (iblk m c 3 t) (iblk m c 4 t) (heldAt m c t.val t.isLt).xn
    = lift3 .bf16 (fun _ i f => act h g w (row t i) (ch t f)) := by
  rw [held_state H]
  refine (congrArg₂ (fun a b => actOf (F := Ideal) a b _) (block_wg H t) (block_wu H t)).trans ?_
  exact actOf_lift (fun i d => xn h g (row t i) d) (fun f d => w d (lo (ch t f)))
    (fun f d => w d (hi (ch t f)))

theorem block_dgate (t : Fin cfg0.N) : dgateOf (F := Ideal) (iblk m c 3 t) (iblk m c 4 t) (iblk m c 5 t)
    (heldAt m c t.val t.isLt).xn (heldAt m c t.val t.isLt).dhalf
    = lift3 .bf16 (fun _ i f => dgate h g o w u (row t i) (ch t f)) := by
  rw [held_state H]
  refine (congrArg₂ (fun a b => dgateOf (F := Ideal) a b _ _ _) (block_wg H t) (block_wu H t)).trans ?_
  refine (congrArg (fun b => dgateOf (F := Ideal) _ _ b _ _) (block_u H t)).trans ?_
  exact dgateOf_lift (fun i d => xn h g (row t i) d) (fun i d => half o (row t i) d) (fun f d => w d (lo (ch t f)))
    (fun f d => w d (hi (ch t f))) (fun f d => u (ch t f) d)

theorem block_dup (t : Fin cfg0.N) : dupOf (F := Ideal) (iblk m c 3 t) (iblk m c 5 t)
    (heldAt m c t.val t.isLt).xn (heldAt m c t.val t.isLt).dhalf
    = lift3 .bf16 (fun _ i f => dup h g o w u (row t i) (ch t f)) := by
  rw [held_state H]
  refine (congrArg₂ (fun a b => dupOf (F := Ideal) a b _ _) (block_wg H t) (block_u H t)).trans ?_
  exact dupOf_lift (fun i d => xn h g (row t i) d) (fun i d => half o (row t i) d) (fun f d => w d (lo (ch t f)))
    (fun f d => u (ch t f) d)

theorem final_act : (dats m 0 c).arrAt 10 (cfgs 0).N = (lift3 .bf16 (slabs (act h g w)) : FVec Ideal S4x4160x704 .bf16) := by
  refine (dats m 0 c).arrAt_eq_of_covers 10 _ (by decide +kernel) fun t hf y => ?_
  rw [after_10]
  have he : ((View.whole main_v5_4).slice (win0_10.rect t)).emb y
      = (ix3 ⟨t.val % 4, by omega⟩ (row t (y 1)) (y 2) : S4x4160x704.Idx) := by
    blk_ext [outMaps t, row]
  refine Eq.trans ?_ (congrArg (lift3 .bf16 (slabs (act h g w))) he).symm
  blk_simp
  exact congrFun (block_act H t) y

theorem final_dgate : (dats m 0 c).arrAt 11 (cfgs 0).N = (lift3 .bf16 (slabs (dgate h g o w u)) : FVec Ideal S4x4160x704 .bf16) := by
  refine (dats m 0 c).arrAt_eq_of_covers 11 _ (by decide +kernel) fun t hf y => ?_
  rw [after_11]
  have he : ((View.whole main_v5_5).slice (win0_11.rect t)).emb y
      = (ix3 ⟨t.val % 4, by omega⟩ (row t (y 1)) (y 2) : S4x4160x704.Idx) := by
    blk_ext [outMaps t, row]
  refine Eq.trans ?_ (congrArg (lift3 .bf16 (slabs (dgate h g o w u))) he).symm
  blk_simp
  exact congrFun (block_dgate H t) y

theorem final_dup : (dats m 0 c).arrAt 12 (cfgs 0).N = (lift3 .bf16 (slabs (dup h g o w u)) : FVec Ideal S4x4160x704 .bf16) := by
  refine (dats m 0 c).arrAt_eq_of_covers 12 _ (by decide +kernel) fun t hf y => ?_
  rw [after_12]
  have he : ((View.whole main_v5_6).slice (win0_12.rect t)).emb y
      = (ix3 ⟨t.val % 4, by omega⟩ (row t (y 1)) (y 2) : S4x4160x704.Idx) := by
    blk_ext [outMaps t, row]
  refine Eq.trans ?_ (congrArg (lift3 .bf16 (slabs (dup h g o w u))) he).symm
  blk_simp
  exact congrFun (block_dup H t) y

/-- At a block's last point the sum is the cotangent of the normed rows. -/
theorem sum_last (t : Fin cfg0.N) (ht : t.val % 4 = 3) :
    (heldAt m c t.val t.isLt).sum = (lift2 .f32 (fun i d => dxn h g o w u (row t i) d) : FVec Ideal S416x1024 .f32) := by
  rw [held_state H]
  show lift2 .f32 (fun i d => ∑ n ∈ Finset.range (t.val % 4 + 1), slabAdd' h g o w u (row t i) d n) = _
  refine congrArg (lift2 .f32) (funext fun i => funext fun d => ?_)
  rw [ht]
  exact slabs_all h g o w u _ d

theorem block_dh (t : Fin cfg0.N) (ht : t.val % 4 = 3) :
    k0_pay4 (F := Ideal) (iblk m c 0 t) (heldAt m c t.val t.isLt).sum (iblk m c 1 t) (iblk m c 2 t)
      = lift2 .f32 (fun i d => dh h g o w u (row t i) d) := by
  rw [sum_last H t ht]
  refine (congrArg₂ (fun a b => k0_pay4 (F := Ideal) a _ b _) (block_h H t) (block_g H t)).trans ?_
  exact (congrArg (fun b => k0_pay4 (F := Ideal) _ _ _ b) (block_o H t)).trans (dh_lift _ _ _ _)

theorem final_dh : (dats m 0 c).arrAt 6 (cfgs 0).N = (lift2 .f32 (dh h g o w u) : FVec Ideal S4160x1024 .f32) := by
  refine (dats m 0 c).arrAt_eq_of_covers 6 _ (by decide +kernel) fun t hf y => ?_
  blk_simp
  rw [after_6]
  have he : ((View.whole main_v5_0).slice (win0_6.rect t)).emb y = (ix2 (row t (y 0)) (y 1) : S4160x1024.Idx) := by
    blk_ext [outMaps t, row]
  refine Eq.trans ?_ (congrArg (lift2 .f32 (dh h g o w u)) he).symm
  exact congrFun (block_dh H t ((flush0_6 t).mp hf)) y

theorem final_dhRounded : (dats m 0 c).arrAt 7 (cfgs 0).N = (lift2 .bf16 (dh h g o w u) : FVec Ideal S4160x1024 .bf16) := by
  refine (dats m 0 c).arrAt_eq_of_covers 7 _ (by decide +kernel) fun t hf y => ?_
  blk_simp
  rw [after_7]
  have he : ((View.whole main_v5_1).slice (win0_7.rect t)).emb y = (ix2 (row t (y 0)) (y 1) : S4160x1024.Idx) := by
    blk_ext [outMaps t, row]
  refine Eq.trans ?_ (congrArg (lift2 .bf16 (dh h g o w u)) he).symm
  exact congrFun (block_dh H t ((flush0_7 t).mp hf)) y

end Cert.KernelIdeal.Ffn
-- ==== Proof.Ffn.Results.lean ====
/-
The run of the fused backward pass on finite arguments, with its eight results written as formulas of real numbers.
-/
module

public import proofs.«01_k».proof.Proof.Ffn.Arrays
public import proofs.«01_k».proof.Proof.Ffn.Run
public import Idealize.ShloMosaic.Lib.Claim

@[expose] public section

set_option maxRecDepth 16384

noncomputable section

namespace Cert.KernelIdeal.Ffn

open Idealize.ShloMosaic Idealize.ShloMosaic.TcCoe Idealize.SL.Sem
open Cert.KernelIdeal Cert.KernelIdeal.Gen
open Cert.Half

variable {m : (ℓ : Loc nD τ sig) → Buf (Elt Ideal) ℓ} {h : Dev nD → Fin 4160 → Fin 1024 → ℝ} {g : Dev nD → Fin 1024 → ℝ}
  {o : Dev nD → Fin 4160 → Fin 1024 → ℝ} {w : Dev nD → Fin 1024 → Fin 5632 → ℝ} {u : Dev nD → Fin 2816 → Fin 1024 → ℝ}

/-- The kernel runs to the eight arrays of the half-step's derivative, and keeps its arguments. -/
theorem valued (H : ∀ c, Holds m c (h c) (g c) (o c) (w c) (u c)) (ρ : Dev nD → PrngReg) :
    θ_run defs (onTc (τ := τ) (main (F := Ideal))) ⟨m, fun _ => 0, ρ⟩ fun r => ∀ c : Dev nD,
      r.2.mem ((c.tc : Thread nD τ).loc main_v5_0) = lift2 .f32 (dh (h c) (g c) (o c) (w c) (u c))
      ∧ r.2.mem ((c.tc : Thread nD τ).loc main_v5_1) = lift2 .bf16 (dh (h c) (g c) (o c) (w c) (u c))
      ∧ r.2.mem ((c.tc : Thread nD τ).loc main_v5_2) = lift2 .f32 (fun _ => dgain (h c) (g c) (o c) (w c) (u c))
      ∧ r.2.mem ((c.tc : Thread nD τ).loc main_v5_3) = lift2 .bf16 (xn (h c) (g c))
      ∧ r.2.mem ((c.tc : Thread nD τ).loc main_v5_4) = lift3 .bf16 (slabs (act (h c) (g c) (w c)))
      ∧ r.2.mem ((c.tc : Thread nD τ).loc main_v5_5) = lift3 .bf16 (slabs (dgate (h c) (g c) (o c) (w c) (u c)))
      ∧ r.2.mem ((c.tc : Thread nD τ).loc main_v5_6) = lift3 .bf16 (slabs (dup (h c) (g c) (o c) (w c) (u c)))
      ∧ r.2.mem ((c.tc : Thread nD τ).loc main_v5_7) = lift2 .bf16 (half (o c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r hr c =>
    ⟨((hr.1.1 c).1 6).trans (final_dh (H c)), ((hr.1.1 c).1 7).trans (final_dhRounded (H c)),
      ((hr.1.1 c).1 8).trans (final_gain (H c)), ((hr.1.1 c).1 9).trans (final_xn (H c)),
      ((hr.1.1 c).1 10).trans (final_act (H c)), ((hr.1.1 c).1 11).trans (final_dgate (H c)),
      ((hr.1.1 c).1 12).trans (final_dup (H c)), ((hr.1.1 c).1 13).trans (final_half (H c)), hr.2.1 c⟩)
    (θ_run_and (run_main m ρ) (framed m ρ))

end Cert.KernelIdeal.Ffn
-- ==== Proof.Ffn.Finite.lean ====
/-
What the precondition says: every argument of the feed-forward backward call is an array of finite values.
-/
module

public import proofs.«01_k».proof.Defs
public import proofs.«01_k».proof.Proof.Ffn.Rows

@[expose] public section

noncomputable section

namespace Cert.Finite

open Idealize.ShloMosaic Idealize.ShloMosaic.TcCoe Idealize.SL.Sem
open Cert.Half

/-- The side conditions of the precondition's operations. -/
theorem facts : Cert.Pre_finite.Facts where
  bcast_S_S4160x1024 := by decide
  bcast_S_S1024 := by decide
  bcast_S_S1024x5632 := by decide
  bcast_S_S2816x1024 := by decide

/-- A value whose absolute value is below infinity is a real number. -/
theorem real_of_below (x : EReal) (h : Ideal.cmp .olt (max x (-x)) (Ideal.ofBits .f32 0x7F800000#32) = 1#1) :
    x = ((x.toReal : ℝ) : EReal) := by
  have htop : Ideal.ofBits .f32 0x7F800000#32 = ⊤ := by simp [Ideal.ofBits, Ideal.ieee]
  rw [htop] at h
  have hlt : max x (-x) < ⊤ := by
    by_contra hn
    simp [Ideal.cmp, hn] at h
  rw [max_lt_iff] at hlt
  refine (EReal.coe_toReal hlt.1.ne fun e => ?_).symm
  rw [e] at hlt
  exact absurd hlt.2 (by simp)

theorem lift2_of_below {n k : ℕ} (v : FVec Ideal ⟨2, ![n, k]⟩ .f32)
    (h : ∀ x, Ideal.cmp .olt (max (v x : EReal) (-(v x : EReal))) (Ideal.ofBits .f32 0x7F800000#32) = 1#1) :
    v = lift2 .f32 (fun i d => EReal.toReal (v (ix2 i d))) :=
  eq_lift2 fun i d => real_of_below _ (h (ix2 i d))

theorem lift1_of_below {k : ℕ} (v : FVec Ideal ⟨1, ![k]⟩ .f32)
    (h : ∀ x, Ideal.cmp .olt (max (v x : EReal) (-(v x : EReal))) (Ideal.ofBits .f32 0x7F800000#32) = 1#1) :
    v = lift1 .f32 (fun d => EReal.toReal (v (ix1 d))) := by
  funext x
  rw [eq_ix1 x]
  exact real_of_below _ (h _)

/-- Under the precondition the arguments are arrays of finite values. -/
theorem holds (m : (ℓ : Loc Cert.KernelIdeal.nD Cert.KernelIdeal.τ Cert.KernelIdeal.sig) → Buf (Elt Ideal) ℓ)
    (hp : Cert.Pre_KernelIdeal_finite (hPre_finite := facts) m) (c : Dev Cert.KernelIdeal.nD) :
    ∃ h g o w u, Cert.KernelIdeal.Ffn.Holds m c h g o w u := by
  obtain ⟨p0, p1, p2, p3, p4⟩ := hp c
  exact ⟨_, _, _, _, _, lift2_of_below _ fun x => congrFun p0 x, lift1_of_below _ fun x => congrFun p1 x,
    lift2_of_below _ fun x => congrFun p2 x, lift2_of_below _ fun x => congrFun p3 x, lift2_of_below _ fun x => congrFun p4 x⟩

end Cert.Finite
-- ==== Proof.Ffn.Reference.lean ====
/-
What the reference of the half-step's derivative computes: its operations grouped into named arrays, and each of these, of
finite arguments, as a formula of real numbers.
-/
module

public import proofs.«01_k».proof.Proof.Gen.ReferenceIdeal.Run
public import proofs.«01_k».proof.Proof.Ffn.Reals

@[expose] public section

set_option maxRecDepth 16384

noncomputable section

namespace Cert.ReferenceIdeal.Stages

open Idealize.ShloMosaic Idealize.ShloMosaic.TcCoe Idealize.SL.Sem
open Cert.ReferenceIdeal Cert.ReferenceIdeal.Gen
open Cert.Half (lift1 lift2 lift3)

/-- The mean square of every row, and the norm's constant. -/
def varA (H : FVec Ideal S4160x1024 .f32) : FVec Ideal S4160x1 .f32 :=
  addf (Host.divf (broadcastInDim S4160x1 ![0] bcast_S4160_S4160x1_0
      (Host.reduceAdd (mulf H H) (constant S_ .f32 0x00000000#32) reducesTo_S4160x1024_S4160_d1 h_S_))
    (broadcastInDim S4160x1 ![] bcast_S_S4160x1 (constant S_ .f32 0x44800000#32)))
    (broadcastInDim S4160x1 ![] bcast_S_S4160x1 (constant S_ .f32 0x358637BD#32))

/-- The norm's factor of every row, at every column. -/
def rootA (V : FVec Ideal S4160x1 .f32) : FVec Ideal S4160x1024 .f32 :=
  broadcastInDim S4160x1024 ![0, 1] bcast_S4160x1_S4160x1024_0_1 (Host.rsqrt V)

/-- The gain at every row. -/
def gainA (G : FVec Ideal S1024 .f32) : FVec Ideal S4160x1024 .f32 :=
  broadcastInDim S4160x1024 ![0, 1] bcast_S1x1024_S4160x1024_0_1 (broadcastInDim S1x1024 ![1] bcast_S1024_S1x1024_1 G)

/-- The normed input. -/
def xnA (H : FVec Ideal S4160x1024 .f32) (G : FVec Ideal S1024 .f32) : FVec Ideal S4160x1024 .f32 :=
  mulf (mulf H (rootA (varA H))) (gainA G)

/-- Its product with the stacked weights. -/
def zA (X : FVec Ideal S4160x1024 .f32) (W : FVec Ideal S1024x5632 .f32) : FVec Ideal S4160x5632 .f32 :=
  Host.dotGeneral dot_S4160x1024_S1024x5632_S4160x5632_1_0_0_1_n_n none X W

/-- The gate's columns. -/
def gateA (Z : FVec Ideal S4160x5632 .f32) : FVec Ideal S4160x2816 .f32 :=
  extractStridedSlice S4160x2816 ![0, 0] Z slices_S4160x5632_S4160x2816_0_0

/-- The up projection's columns. -/
def upA (Z : FVec Ideal S4160x5632 .f32) : FVec Ideal S4160x2816 .f32 :=
  extractStridedSlice S4160x2816 ![0, 2816] Z slices_S4160x5632_S4160x2816_0_2816

/-- One at every place. -/
def oneA : FVec Ideal S4160x2816 .f32 :=
  broadcastInDim S4160x2816 ![] bcast_S_S4160x2816 (constant S_ .f32 0x3F800000#32)

/-- The logistic function of the gate. -/
def sgA (A : FVec Ideal S4160x2816 .f32) : FVec Ideal S4160x2816 .f32 :=
  Host.divf oneA (addf oneA (Host.exp (Host.negf A)))

/-- The activation. -/
def actA (A B : FVec Ideal S4160x2816 .f32) : FVec Ideal S4160x2816 .f32 := mulf (mulf A (sgA A)) B

/-- Half the cotangent. -/
def halfA (D : FVec Ideal S4160x1024 .f32) : FVec Ideal S4160x1024 .f32 :=
  mulf (broadcastInDim S4160x1024 ![] bcast_S_S4160x1024 (constant S_ .f32 0x3F000000#32)) D

/-- The cotangent of the activation, as the derivative of a product has it. -/
def dactA (E : FVec Ideal S4160x1024 .f32) (U : FVec Ideal S2816x1024 .f32) : FVec Ideal S4160x2816 .f32 :=
  Host.dotGeneral dot_S4160x1024_S2816x1024_S4160x2816_1_1_0_0_n_n none E U

/-- The same, by the transposed weight. -/
def dactB (E : FVec Ideal S4160x1024 .f32) (U : FVec Ideal S2816x1024 .f32) : FVec Ideal S4160x2816 .f32 :=
  Host.dotGeneral dot_S4160x1024_S1024x2816_S4160x2816_1_0_0_1_n_n none E
    (transpose S1024x2816 [1, 0] U transposes_S2816x1024_S1024x2816_1_0)

/-- The cotangent of the up projection. -/
def dupA (A C : FVec Ideal S4160x2816 .f32) : FVec Ideal S4160x2816 .f32 := mulf (mulf A (sgA A)) C

/-- The cotangent of the gate. -/
def dgateA (A B C : FVec Ideal S4160x2816 .f32) : FVec Ideal S4160x2816 .f32 :=
  addf (mulf (mulf C B) (sgA A)) (mulf (mulf A (mulf C B)) (mulf (sgA A) (subf oneA (sgA A))))

/-- The cotangent of the normed input. -/
def dxnA (P Q : FVec Ideal S4160x2816 .f32) (W : FVec Ideal S1024x5632 .f32) : FVec Ideal S4160x1024 .f32 :=
  Host.dotGeneral dot_S4160x5632_S1024x5632_S4160x1024_1_1_0_0_n_n none
    (concatenate S4160x5632 1 [⟨S4160x2816, P⟩, ⟨S4160x2816, Q⟩] concatenates_S4160x2816_S4160x2816_S4160x5632_d1) W

/-- The gradient of the gain. -/
def dgainA (H N : FVec Ideal S4160x1024 .f32) : FVec Ideal S1x1024 .f32 :=
  shapeCast _ (Host.reduceAdd (shapeCast _ (Host.reduceAdd (mulf (mulf H (rootA (varA H))) N)
    (constant S_ .f32 0x00000000#32) reducesTo_S4160x1024_S1024_d0 h_S_) shapeCasts_S1024_S1x1024)
    (constant S_ .f32 0x00000000#32) reducesTo_S1x1024_S1024_d0 h_S_) shapeCasts_S1024_S1x1024

/-- The correction that the norm's factor makes, for every row. -/
def corrA (H M : FVec Ideal S4160x1024 .f32) (V : FVec Ideal S4160x1 .f32) : FVec Ideal S4160x1024 .f32 :=
  broadcastInDim S4160x1024 ![0] bcast_S4160_S4160x1024_0
    (Host.reduceAdd (Host.divf (mulf (shapeCast _ (Host.reduceAdd (mulf H M) (constant S_ .f32 0x00000000#32) reducesTo_S4160x1024_S4160_d1 h_S_) shapeCasts_S4160_S4160x1)
        (mulf (broadcastInDim S4160x1 ![] bcast_S_S4160x1 (constant S_ .f32 0xBF000000#32)) (Host.divf (Host.rsqrt V) V)))
      (broadcastInDim S4160x1 ![] bcast_S_S4160x1 (constant S_ .f32 0x44800000#32)))
      (constant S_ .f32 0x00000000#32) reducesTo_S4160x1_S4160_d1 h_S_)

/-- The gradient of the input. -/
def dhA (H D M K R : FVec Ideal S4160x1024 .f32) : FVec Ideal S4160x1024 .f32 :=
  addf (addf (addf D (mulf M R)) (mulf H K)) (mulf K H)

/-- A result's columns cut into four slabs. -/
def slabsA (A : FVec Ideal S4160x2816 .f32) : FVec Ideal S4x4160x704 .bf16 :=
  truncf .bf16 (transpose S4x4160x704 [1, 0, 2] (shapeCast S4160x4x704 A shapeCasts_S4160x2816_S4160x4x704)
    transposes_S4160x4x704_S4x4160x704_1_0_2) bitsLt_bf16_f32

/-! ## The reference's results are these stages -/

section Results

variable (m : (ℓ : Loc nD τ sig) → Buf (Elt Ideal) ℓ) (c : Dev nD)

/-- The cotangent of the normed input, from the arguments. -/
def dxnAll (H : FVec Ideal S4160x1024 .f32) (G : FVec Ideal S1024 .f32) (D : FVec Ideal S4160x1024 .f32)
    (W : FVec Ideal S1024x5632 .f32) (U : FVec Ideal S2816x1024 .f32) : FVec Ideal S4160x1024 .f32 :=
  dxnA (dgateA (gateA (zA (xnA H G) W)) (upA (zA (xnA H G) W)) (dactA (halfA (shapeCast S4160x1024 D shapeCasts_S4160x1024_S4160x1024)) U))
    (dupA (gateA (zA (xnA H G) W)) (dactA (halfA (shapeCast S4160x1024 D shapeCasts_S4160x1024_S4160x1024)) U)) W

/-- The gradient of the input, from the arguments. -/
def dhAll (H : FVec Ideal S4160x1024 .f32) (G : FVec Ideal S1024 .f32) (D : FVec Ideal S4160x1024 .f32)
    (W : FVec Ideal S1024x5632 .f32) (U : FVec Ideal S2816x1024 .f32) : FVec Ideal S4160x1024 .f32 :=
  dhA H D (mulf (dxnAll H G D W U) (gainA G)) (corrA H (mulf (dxnAll H G D W U) (gainA G)) (varA H)) (rootA (varA H))

theorem res_dh : Value.res_main_v54 m c = dhAll (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) := rfl

theorem res_dgain : Value.res_main_v81 m c = dgainA (m ((c.tc : Thread nD τ).loc main_arg0))
    (dxnAll (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))) := rfl

end Results

end Cert.ReferenceIdeal.Stages
-- ==== Proof.Ffn.ReferenceReals.lean ====
/-
Each stage of the reference, of finite arguments, as a formula of real numbers.
-/
module

public import proofs.«01_k».proof.Proof.Ffn.Reference

@[expose] public section

set_option maxRecDepth 16384

noncomputable section

namespace Cert.ReferenceIdeal.Stages

open Idealize.ShloMosaic Idealize.ShloMosaic.TcCoe Idealize.SL.Sem
open Cert.ReferenceIdeal Cert.ReferenceIdeal.Gen
open Cert.Half

variable (h : Fin 4160 → Fin 1024 → ℝ) (g : Fin 1024 → ℝ) (o : Fin 4160 → Fin 1024 → ℝ)
  (w : Fin 1024 → Fin 5632 → ℝ) (u : Fin 2816 → Fin 1024 → ℝ)

theorem var_lift : varA (lift2 .f32 h) = lift2 .f32 (fun i _ => var (h i)) := by
  refine eq_lift2 fun i d => ?_
  pointwise [varA]
  simp only [lift2_apply, word_width, word_eps, ← EReal.coe_mul, sum_coe]
  rw [div_real (by norm_num), ← EReal.coe_add, var]

theorem root_lift : rootA (lift2 .f32 (fun i _ => var (h i))) = lift2 .f32 (fun i _ => root (h i)) := by
  refine eq_lift2 fun i d => ?_
  pointwise [rootA]
  rw [lift2_apply, rsqrt_real (var_pos _), root]

theorem gain_lift : gainA (lift1 .f32 g) = lift2 .f32 (fun _ d => g d) := by
  refine eq_lift2 fun i d => ?_
  pointwise [gainA]
  rfl

theorem xn_lift : xnA (lift2 .f32 h) (lift1 .f32 g) = lift2 .f32 (xn h g) := by
  refine eq_lift2 fun i d => ?_
  rw [xnA, var_lift, root_lift, gain_lift]
  pointwise
  simp only [lift2_apply, ← EReal.coe_mul, xn]

theorem z_lift : zA (lift2 .f32 (xn h g)) (lift2 .f32 w) = lift2 .f32 (z h g w) := by
  refine eq_lift2 fun i d => ?_
  pointwise [zA]
  simp only [lift2_apply, ← EReal.coe_mul, sum_coe, z]

theorem gate_lift (a : Fin 4160 → Fin 5632 → ℝ) : gateA (lift2 .f32 a) = lift2 .f32 (fun i k => a i (lo k)) := by
  refine eq_lift2 fun i d => ?_
  pointwise [gateA]
  rfl

theorem up_lift (a : Fin 4160 → Fin 5632 → ℝ) : upA (lift2 .f32 a) = lift2 .f32 (fun i k => a i (hi k)) := by
  refine eq_lift2 fun i d => ?_
  pointwise [upA]
  rfl

theorem sg_lift (a : Fin 4160 → Fin 2816 → ℝ) : sgA (lift2 .f32 a) = lift2 .f32 (fun i k => sg (a i k)) := by
  refine eq_lift2 fun i d => ?_
  pointwise [sgA, oneA]
  rw [lift2_apply, ← EReal.coe_neg, Ideal.exp_coe, ← EReal.coe_one, ← EReal.coe_add, div_real (den_ne _), sg]

theorem act_lift (a b : Fin 4160 → Fin 2816 → ℝ) :
    actA (lift2 .f32 a) (lift2 .f32 b) = lift2 .f32 (fun i k => a i k * sg (a i k) * b i k) := by
  refine eq_lift2 fun i d => ?_
  rw [actA, sg_lift]
  pointwise
  simp only [lift2_apply, ← EReal.coe_mul]

theorem half_lift : halfA (lift2 .f32 o) = lift2 .f32 (half o) := by
  refine eq_lift2 fun i d => ?_
  pointwise [halfA]
  rw [lift2_apply, word_half, ← EReal.coe_mul, half]

theorem dact_lift : dactA (lift2 .f32 (half o)) (lift2 .f32 u) = lift2 .f32 (dact o u) := by
  refine eq_lift2 fun i d => ?_
  pointwise [dactA]
  simp only [lift2_apply, ← EReal.coe_mul, sum_coe, dact]

theorem dactT_lift : dactB (lift2 .f32 (half o)) (lift2 .f32 u) = lift2 .f32 (dact o u) := by
  refine eq_lift2 fun i d => ?_
  pointwise [dactB]
  simp only [lift2_apply, ← EReal.coe_mul, sum_coe, dact]

theorem dup_lift (a b : Fin 4160 → Fin 2816 → ℝ) :
    dupA (lift2 .f32 a) (lift2 .f32 b) = lift2 .f32 (fun i k => a i k * sg (a i k) * b i k) := act_lift a b

theorem dgate_lift (a b c : Fin 4160 → Fin 2816 → ℝ) : dgateA (lift2 .f32 a) (lift2 .f32 b) (lift2 .f32 c)
    = lift2 .f32 (fun i k => c i k * b i k * (sg (a i k) * (1 + a i k * (1 - sg (a i k))))) := by
  refine eq_lift2 fun i d => ?_
  rw [dgateA, sg_lift]
  pointwise [oneA]
  simp only [lift2_apply, ← EReal.coe_one, ← EReal.coe_mul, ← EReal.coe_sub, ← EReal.coe_add]
  congr 1
  ring

theorem dxn_lift (p q : Fin 4160 → Fin 2816 → ℝ) : dxnA (lift2 .f32 p) (lift2 .f32 q) (lift2 .f32 w)
    = lift2 .f32 (fun i d => (∑ k, p i k * w d (lo k)) + ∑ k, q i k * w d (hi k)) := by
  refine eq_lift2 fun i d => ?_
  pointwise [dxnA]
  simp only [lift2_apply, ← EReal.coe_mul, sum_coe, ← EReal.coe_add]
  rfl

theorem dgain_lift (n : Fin 4160 → Fin 1024 → ℝ) : dgainA (lift2 .f32 h) (lift2 .f32 n)
    = lift2 .f32 (fun _ d => ∑ i, n i d * h i d * root (h i)) := by
  refine eq_lift2 fun i d => ?_
  rw [dgainA, var_lift, root_lift]
  pointwise
  rw [Fin.sum_univ_one]
  simp only [lift2_apply, ← EReal.coe_mul, sum_coe]
  congr 1
  exact Finset.sum_congr rfl fun k _ => by ring

/-- The derivative of the norm's factor, written with the factor's cube. -/
theorem correction (x : Fin 1024 → ℝ) (o a e s s' : ℝ) (hs : s = s') :
    o + a * root x + e * (s * (-(1 / 2) * ((Real.sqrt (var x))⁻¹ / var x)) / 1024)
      + s * (-(1 / 2) * ((Real.sqrt (var x))⁻¹ / var x)) / 1024 * e
    = o + root x * a - e * (root x * root x * root x) * (s' / 1024) := by
  have hr : (Real.sqrt (var x))⁻¹ / var x = root x * root x * root x := by
    rw [root_sq, ← root]; ring
  rw [hr, hs]
  ring

theorem dh_lift (a : Fin 4160 → Fin 1024 → ℝ) :
    dhA (lift2 .f32 h) (lift2 .f32 o) (lift2 .f32 a) (corrA (lift2 .f32 h) (lift2 .f32 a) (lift2 .f32 (fun i _ => var (h i))))
      (lift2 .f32 (fun i _ => root (h i)))
    = lift2 .f32 (fun i d => o i d + root (h i) * a i d
        - h i d * (root (h i) * root (h i) * root (h i)) * ((∑ e, a i e * h i e) / 1024)) := by
  refine eq_lift2 fun i d => ?_
  pointwise [dhA, corrA]
  rw [Fin.sum_univ_one]
  simp only [lift2_apply, word_width, word_minus_half, rsqrt_real (var_pos _)]
  simp only [← EReal.coe_mul, sum_coe]
  rw [div_real (var_pos _).ne', ← EReal.coe_mul, ← EReal.coe_mul, div_real (by norm_num)]
  simp only [← EReal.coe_mul, ← EReal.coe_add]
  exact congrArg _ (correction (h i) _ _ _ _ _ (Finset.sum_congr rfl fun k _ => mul_comm _ _))

theorem slabs_lift (a : Fin 4160 → Fin 2816 → ℝ) : slabsA (lift2 .f32 a)
    = lift3 .bf16 (fun j i k => a i ⟨j.val * 704 + k.val, by omega⟩) := by
  refine eq_lift3 fun j i k => ?_
  pointwise [slabsA]
  rfl

/-! ## The whole reference -/

theorem dxnAll_lift : dxnAll (lift2 .f32 h) (lift1 .f32 g) (lift2 .f32 o) (lift2 .f32 w) (lift2 .f32 u)
    = lift2 .f32 (dxn h g o w u) := by
  rw [dxnAll, shapeCast_self, xn_lift, z_lift, gate_lift, up_lift, half_lift, dact_lift, dgate_lift, dup_lift, dxn_lift]
  rfl

theorem dhAll_lift : dhAll (lift2 .f32 h) (lift1 .f32 g) (lift2 .f32 o) (lift2 .f32 w) (lift2 .f32 u)
    = lift2 .f32 (dh h g o w u) := by
  have hm : mulf (lift2 .f32 (dxn h g o w u)) (lift2 .f32 (fun _ d => g d))
      = lift2 .f32 (fun i d => dxn h g o w u i d * g d) := by
    refine eq_lift2 fun i d => ?_
    pointwise
    simp only [lift2_apply, ← EReal.coe_mul]
  rw [dhAll, dxnAll_lift, gain_lift, hm, var_lift, root_lift, dh_lift]
  rfl

/-- The eight results of the reference. -/
theorem dhRounded_all : truncf .bf16 (dhAll (lift2 .f32 h) (lift1 .f32 g) (lift2 .f32 o) (lift2 .f32 w) (lift2 .f32 u)) bitsLt_bf16_f32
    = lift2 .bf16 (dh h g o w u) := by
  rw [dhAll_lift]; rfl

theorem dgain_all : dgainA (lift2 .f32 h) (dxnAll (lift2 .f32 h) (lift1 .f32 g) (lift2 .f32 o) (lift2 .f32 w) (lift2 .f32 u))
    = lift2 .f32 (fun _ => dgain h g o w u) := by
  rw [dxnAll_lift, dgain_lift]; rfl

theorem xn_all : truncf .bf16 (xnA (lift2 .f32 h) (lift1 .f32 g)) bitsLt_bf16_f32 = lift2 .bf16 (xn h g) := by
  rw [xn_lift]; rfl

theorem half_all : truncf .bf16 (halfA (lift2 .f32 o)) bitsLt_bf16_f32 = lift2 .bf16 (half o) := by
  rw [half_lift]; rfl

theorem act_all : slabsA (actA (gateA (zA (xnA (lift2 .f32 h) (lift1 .f32 g)) (lift2 .f32 w))) (upA (zA (xnA (lift2 .f32 h) (lift1 .f32 g)) (lift2 .f32 w))))
    = lift3 .bf16 (fun j i k => act h g w i ⟨j.val * 704 + k.val, by omega⟩) := by
  rw [xn_lift, z_lift, gate_lift, up_lift, act_lift, slabs_lift]; rfl

theorem dgate_all : slabsA (dgateA (gateA (zA (xnA (lift2 .f32 h) (lift1 .f32 g)) (lift2 .f32 w))) (upA (zA (xnA (lift2 .f32 h) (lift1 .f32 g)) (lift2 .f32 w)))
      (dactB (halfA (lift2 .f32 o)) (lift2 .f32 u)))
    = lift3 .bf16 (fun j i k => dgate h g o w u i ⟨j.val * 704 + k.val, by omega⟩) := by
  rw [xn_lift, z_lift, gate_lift, up_lift, half_lift, dactT_lift, dgate_lift, slabs_lift]; rfl

theorem dup_all : slabsA (dupA (gateA (zA (xnA (lift2 .f32 h) (lift1 .f32 g)) (lift2 .f32 w))) (dactB (halfA (lift2 .f32 o)) (lift2 .f32 u)))
    = lift3 .bf16 (fun j i k => dup h g o w u i ⟨j.val * 704 + k.val, by omega⟩) := by
  rw [xn_lift, z_lift, gate_lift, half_lift, dactT_lift, dup_lift, slabs_lift]; rfl

end Cert.ReferenceIdeal.Stages
-- ==== Proof.Ffn.ReferenceRun.lean ====
/-
The run of the reference, with its eight results written by the named stages.
-/
module

public import proofs.«01_k».proof.Proof.Ffn.ReferenceReals

@[expose] public section

set_option maxRecDepth 16384

noncomputable section

namespace Cert.ReferenceIdeal.Stages

open Idealize.ShloMosaic Idealize.ShloMosaic.TcCoe Idealize.SL.Sem
open Cert.ReferenceIdeal Cert.ReferenceIdeal.Gen

/-- The gate's and the up projection's arrays, from the arguments. -/
def gateAll (H : FVec Ideal S4160x1024 .f32) (G : FVec Ideal S1024 .f32) (W : FVec Ideal S1024x5632 .f32) : FVec Ideal S4160x2816 .f32 :=
  gateA (zA (xnA H G) W)

def upAll (H : FVec Ideal S4160x1024 .f32) (G : FVec Ideal S1024 .f32) (W : FVec Ideal S1024x5632 .f32) : FVec Ideal S4160x2816 .f32 :=
  upA (zA (xnA H G) W)

variable (m : (ℓ : Loc nD τ sig) → Buf (Elt Ideal) ℓ) (c : Dev nD)

/-- The arguments of a device: the input, the gain, the cotangent and the two weight matrices. -/
abbrev inp : FVec Ideal S4160x1024 .f32 := m ((c.tc : Thread nD τ).loc main_arg0)
abbrev gain : FVec Ideal S1024 .f32 := m ((c.tc : Thread nD τ).loc main_arg1)
abbrev cot : FVec Ideal S4160x1024 .f32 := m ((c.tc : Thread nD τ).loc main_arg2)
abbrev wgu : FVec Ideal S1024x5632 .f32 := m ((c.tc : Thread nD τ).loc main_arg3)
abbrev wdown : FVec Ideal S2816x1024 .f32 := m ((c.tc : Thread nD τ).loc main_arg4)

theorem res_dhRounded : Value.res_main_v80 m c
    = truncf .bf16 (dhAll (inp m c) (gain m c) (cot m c) (wgu m c) (wdown m c)) bitsLt_bf16_f32 := rfl

theorem res_dgate : Value.res_main_v88 m c = slabsA (dgateA (gateAll (inp m c) (gain m c) (wgu m c))
    (upAll (inp m c) (gain m c) (wgu m c)) (dactB (halfA (cot m c)) (wdown m c))) := rfl

/-- The reference runs to the stages' arrays. -/
theorem run (ρ : Dev nD → PrngReg) :
    θ_run defs (onTc (τ := τ) (main (F := Ideal))) ⟨m, fun _ => 0, ρ⟩ fun r => ∀ c : Dev nD,
      r.2.mem ((c.tc : Thread nD τ).loc main_v54) = dhAll (inp m c) (gain m c) (cot m c) (wgu m c) (wdown m c)
      ∧ r.2.mem ((c.tc : Thread nD τ).loc main_v80)
        = truncf .bf16 (dhAll (inp m c) (gain m c) (cot m c) (wgu m c) (wdown m c)) bitsLt_bf16_f32
      ∧ r.2.mem ((c.tc : Thread nD τ).loc main_v81)
        = dgainA (inp m c) (dxnAll (inp m c) (gain m c) (cot m c) (wgu m c) (wdown m c))
      ∧ r.2.mem ((c.tc : Thread nD τ).loc main_v82) = truncf .bf16 (xnA (inp m c) (gain m c)) bitsLt_bf16_f32
      ∧ r.2.mem ((c.tc : Thread nD τ).loc main_v85)
        = slabsA (actA (gateAll (inp m c) (gain m c) (wgu m c)) (upAll (inp m c) (gain m c) (wgu m c)))
      ∧ r.2.mem ((c.tc : Thread nD τ).loc main_v88)
        = slabsA (dgateA (gateAll (inp m c) (gain m c) (wgu m c)) (upAll (inp m c) (gain m c) (wgu m c))
          (dactB (halfA (cot m c)) (wdown m c)))
      ∧ r.2.mem ((c.tc : Thread nD τ).loc main_v91)
        = slabsA (dupA (gateAll (inp m c) (gain m c) (wgu m c)) (dactB (halfA (cot m c)) (wdown m c)))
      ∧ r.2.mem ((c.tc : Thread nD τ).loc main_v94) = truncf .bf16 (halfA (cot m c)) bitsLt_bf16_f32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => by
    obtain ⟨a0, a1, a2, a3, a4, a5, a6, a7, k⟩ := h c
    exact ⟨a0.trans (res_dh m c), a1.trans (res_dhRounded m c), a2.trans (res_dgain m c), a3, a4, a5.trans (res_dgate m c), a6, a7, k⟩)
    (Value.run m ρ)

section Values

open Cert.Half

variable {m} {h : Dev nD → Fin 4160 → Fin 1024 → ℝ} {g : Dev nD → Fin 1024 → ℝ} {o : Dev nD → Fin 4160 → Fin 1024 → ℝ}
  {w : Dev nD → Fin 1024 → Fin 5632 → ℝ} {u : Dev nD → Fin 2816 → Fin 1024 → ℝ}

/-- The columns of slab `j`. -/
def slabs (a : Fin 4160 → Fin 2816 → ℝ) : Fin 4 → Fin 4160 → Fin 704 → ℝ := fun j i k => a i ⟨j.val * 704 + k.val, by omega⟩

/-- On finite arguments the reference runs to the eight arrays of the half-step's derivative. -/
theorem valued (H0 : ∀ c, inp m c = lift2 .f32 (h c)) (H1 : ∀ c, gain m c = lift1 .f32 (g c)) (H2 : ∀ c, cot m c = lift2 .f32 (o c))
    (H3 : ∀ c, wgu m c = lift2 .f32 (w c)) (H4 : ∀ c, wdown m c = lift2 .f32 (u c)) (ρ : Dev nD → PrngReg) :
    θ_run defs (onTc (τ := τ) (main (F := Ideal))) ⟨m, fun _ => 0, ρ⟩ fun r => ∀ c : Dev nD,
      r.2.mem ((c.tc : Thread nD τ).loc main_v54) = lift2 .f32 (dh (h c) (g c) (o c) (w c) (u c))
      ∧ r.2.mem ((c.tc : Thread nD τ).loc main_v80) = lift2 .bf16 (dh (h c) (g c) (o c) (w c) (u c))
      ∧ r.2.mem ((c.tc : Thread nD τ).loc main_v81) = lift2 .f32 (fun _ => dgain (h c) (g c) (o c) (w c) (u c))
      ∧ r.2.mem ((c.tc : Thread nD τ).loc main_v82) = lift2 .bf16 (xn (h c) (g c))
      ∧ r.2.mem ((c.tc : Thread nD τ).loc main_v85) = lift3 .bf16 (slabs (act (h c) (g c) (w c)))
      ∧ r.2.mem ((c.tc : Thread nD τ).loc main_v88) = lift3 .bf16 (slabs (dgate (h c) (g c) (o c) (w c) (u c)))
      ∧ r.2.mem ((c.tc : Thread nD τ).loc main_v91) = lift3 .bf16 (slabs (dup (h c) (g c) (o c) (w c) (u c)))
      ∧ r.2.mem ((c.tc : Thread nD τ).loc main_v94) = lift2 .bf16 (half (o c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r hr c => by
    obtain ⟨a0, a1, a2, a3, a4, a5, a6, a7, k⟩ := hr c
    rw [H0 c, H1 c, H2 c, H3 c, H4 c] at a0 a1 a2
    rw [H0 c, H1 c] at a3
    rw [H0 c, H1 c, H3 c] at a4
    rw [H0 c, H1 c, H2 c, H3 c, H4 c] at a5 a6
    rw [H2 c] at a7
    exact ⟨a0.trans (dhAll_lift ..), a1.trans (dhRounded_all ..), a2.trans (dgain_all ..), a3.trans (xn_all ..),
      a4.trans (act_all ..), a5.trans (dgate_all ..), a6.trans (dup_all ..), a7.trans (half_all ..), k⟩)
    (run m ρ)

end Values

end Cert.ReferenceIdeal.Stages
-- ==== Proof.Product.Value.lean ====
/-
The product's result array as one formula of its two arguments: what a block of the result holds after the two halves of
the rows have been added up, and that this is the reference's single contraction over all the rows.
-/
module

public import proofs.«01_k».proof.Proof.Gen.ProductIdeal.Frame
public import proofs.«01_k».proof.Proof.Gen.ProductReferenceIdeal.Run
public import Idealize.ShloMosaic.Lib.Pipeline.ValueKit
public import Idealize.ShloMosaic.Lib.Pointwise
public import Idealize.ShloMosaic.Lib.Pipeline.ReadBack

@[expose] public section

set_option maxRecDepth 16384

noncomputable section

namespace Cert.ProductIdeal.Sum

open Idealize.ShloMosaic Idealize.ShloMosaic.TcCoe Idealize.SL.Sem
open Idealize.ShloMosaic.Pipeline (Dat)
open Cert.ProductIdeal Cert.ProductIdeal.Gen

variable (m : (ℓ : Loc nD τ sig) → Buf (Elt Ideal) ℓ)

/-- The reference's result as a function of the two arguments. -/
def whole (A : FVec Ideal S4x4160x704 .bf16) (B : FVec Ideal S4160x1024 .bf16) : FVec Ideal S2816x1024 .bf16 :=
  truncf .bf16 (transpose S2816x1024 [1, 0] (Host.dotGeneral Cert.ProductReferenceIdeal.dot_S4160x1024_S4160x2816_S1024x2816_0_0_1_1_n_n none
    (extf .f32 B Cert.ProductReferenceIdeal.Gen.bitsLt_bf16_f32)
    (shapeCast Cert.ProductReferenceIdeal.S4160x2816 (transpose Cert.ProductReferenceIdeal.S4160x4x704 [1, 0, 2] (extf .f32 A Cert.ProductReferenceIdeal.Gen.bitsLt_bf16_f32)
      Cert.ProductReferenceIdeal.Gen.transposes_S4x4160x704_S4160x4x704_1_0_2) Cert.ProductReferenceIdeal.Gen.shapeCasts_S4160x4x704_S4160x2816))
    Cert.ProductReferenceIdeal.Gen.transposes_S1024x2816_S2816x1024_1_0) Cert.ProductReferenceIdeal.Gen.bitsLt_bf16_f32

/-- The reference at one place: a sum over all the rows. -/
theorem whole_apply (A : FVec Ideal S4x4160x704 .bf16) (B : FVec Ideal S4160x1024 .bf16) (r : Fin 2816) (l : Fin 1024) :
    whole A B (ix2 r l) = ∑ k : Fin 4160, A (ix3 ⟨r.val / 704, by omega⟩ k ⟨r.val % 704, by omega⟩) * B (ix2 k l) := by
  pointwise [whole]
  exact Finset.sum_congr rfl fun k _ => mul_comm _ _

/-- What one half of the rows adds to the running sum. -/
theorem half_apply (a : Vec Ideal S1x2080x704 .bf16) (b : Vec Ideal S2080x1024 .bf16) (s : Vec Ideal S704x1024 .f32) (r : Fin 704) (l : Fin 1024) :
    k0_pay2 a b s (ix2 r l) = s (ix2 r l) + ∑ k : Fin 2080, a (ix3 0 k r) * b (ix2 k l) := by
  pointwise [k0_pay2]

theorem start_apply (r : Fin 704) (l : Fin 1024) : k0_pay1 (F := Ideal) (ix2 r l) = 0 := by pointwise [k0_pay1]

/-- A block of the result: the two halves' sums. -/
theorem block_apply (a a' : Vec Ideal S1x2080x704 .bf16) (b b' : Vec Ideal S2080x1024 .bf16) (r : Fin 704) (l : Fin 1024) :
    k0_pay3 (k0_pay2 a' b' (k0_pay2 a b (k0_pay1 (F := Ideal)))) (ix2 r l)
      = (∑ k : Fin 2080, a (ix3 0 k r) * b (ix2 k l)) + ∑ k : Fin 2080, a' (ix3 0 k r) * b' (ix2 k l) := by
  pointwise [k0_pay3]
  rw [half_apply, half_apply, start_apply, zero_add]

/-- The printed index maps. -/
theorem maps : ∀ t : Fin cfg0.N, win0_0.index t = ![t.val / 2, t.val % 2, 0] ∧ win0_1.index t = ![t.val % 2, 0]
    ∧ win0_2.index t = ![t.val / 2, 0] :=
  (by decide +kernel : ∀ t : Fin grid0.N, _)

/-- The result array after the run. -/
theorem final (c : Dev nD) : (dats m 0 c).arrAt 2 (cfgs 0).N
    = whole (m ((c : Thread nD τ).loc main_arg0)) (m ((c : Thread nD τ).loc main_arg1)) := by
  refine (dats m 0 c).arrAt_eq_of_covers 2 _ (by decide +kernel) fun t hf y => ?_
  have h1 : t.val % 2 = 1 := (flush0_2 t).mp hf
  have hp : (⟨t.val - 1, Nat.lt_of_le_of_lt (Nat.sub_le _ _) t.isLt⟩ : Fin cfg0.N).val % 2 = 0 := by dsimp only; omega
  blk_simp
  rw [after0_2, outsAt0_B m c t (by omega) h1, outsAt0_A m c ⟨t.val - 1, Nat.lt_of_le_of_lt (Nat.sub_le _ _) t.isLt⟩ hp (by omega)]
  frame_out
  rw [read_unread_whole]
  obtain ⟨r, l, hy⟩ : ∃ (r : Fin 704) (l : Fin 1024), y = (ix2 r l : S704x1024.Idx) := ⟨y 0, y 1, eq_ix2 (n0 := 704) (n1 := 1024) y⟩
  subst hy
  have h8 : t.val < 8 := lt_of_lt_of_eq t.isLt N_0
  have he : (((View.whole main_v0).slice (win0_2.rect t)).emb (ix2 r l : S704x1024.Idx)) = (ix2 ⟨t.val / 2 * 704 + r.val, by omega⟩ l : S2816x1024.Idx) := by
    blk_ext [maps t]
  refine (block_apply _ _ _ _ r l).trans ((congrArg _ he).trans ((whole_apply _ _ _ l).trans ?_)).symm
  refine (Fin.sum_univ_two_halves 2080 2080 rfl _).trans ?_
  have e1 : (t.val / 2 * 704 + r.val) / 704 = t.val / 2 := by omega
  have e2 : (t.val / 2 * 704 + r.val) % 704 = r.val := by omega
  refine Ideal.add_congr (Finset.sum_congr rfl fun k _ => ?_) (Finset.sum_congr rfl fun k _ => ?_)
  · blk_point [iblk, V, maps ⟨t.val - 1, Nat.lt_of_le_of_lt (Nat.sub_le _ _) t.isLt⟩]
  · blk_point [iblk, V, maps t]

end Cert.ProductIdeal.Sum
-- ==== Proof.Forward.Block.lean ====
/-
What one grid point of the feed-forward forward call computes of its blocks, at one place: sums and products of extended
reals, in the order the call makes them.
-/
module

public import proofs.«01_k».proof.Proof.Gen.ForwardIdeal.Skeleton
public import Idealize.ShloMosaic.Lib.Pipeline.ValueKit
public import Idealize.ShloMosaic.Lib.Pointwise
public import Idealize.ShloMosaic.Lib.Pipeline.ReadBack

@[expose] public section

set_option maxRecDepth 16384

noncomputable section

namespace Cert.ForwardIdeal.Sum

open Idealize.ShloMosaic Idealize.ShloMosaic.TcCoe Idealize.SL.Sem
open Cert.ForwardIdeal Cert.ForwardIdeal.Gen

/-- The product of two rows. -/
def dotE (x p : Fin 1024 → EReal) : EReal := ∑ d, x d * p d

/-- The gated activation of one row at one hidden channel: `p` and `q` are the channel's gate and up weights. -/
def actE (x p q : Fin 1024 → EReal) : EReal :=
  dotE x p * Ideal.div 1 (1 + Ideal.exp (-dotE x p)) * dotE x q

/-- One entry of a normed row. -/
def normE (x : Fin 1024 → EReal) (g : EReal) (d : Fin 1024) : EReal :=
  x d * Ideal.rsqrt (Ideal.div (∑ e, x e * x e) (Ideal.ofBits .f32 0x44800000#32) + Ideal.ofBits .f32 0x358637BD#32) * g

/-- The first half of a block's rows. -/
abbrev loR : Rect S832x1024 := Rect.unit (s := S832x1024) ![0, 0] S416x1024.size inb_S832x1024_S416x1024_0_0
/-- The second half. -/
abbrev hiR : Rect S832x1024 := Rect.unit (s := S832x1024) ![416, 0] S416x1024.size inb_S832x1024_S416x1024_416_0

section
variable (p q : Vec Ideal S1x704x1024 .bf16) (w : Vec Ideal S704x1024 .bf16) (x : Vec Ideal S416x1024 .bf16) (s : Vec Ideal S416x1024 .f32)

/-- What the first half's store holds at one place. -/
theorem lo_apply (r : Fin 416) (l : Fin 1024) : k0_pay8 p q w x s (ix2 r l)
    = s (ix2 r l) + ∑ f : Fin 704, actE (fun d => x (ix2 r d)) (fun d => p (ix3 0 f d)) (fun d => q (ix3 0 f d)) * w (ix2 f l) := by
  pointwise [k0_pay8, k0_pay5, k0_pay6, k0_pay7]
  simp only [actE, dotE, zero_sub]

/-- What the second half's store holds at one place. -/
theorem hi_apply (r : Fin 416) (l : Fin 1024) :
    k0_pay1 (k0_pay6 q) (k0_pay7 w) x (k0_pay9 p x) (constant S416x704 .f32 0x00000000#32) s (ix2 r l)
    = s (ix2 r l) + ∑ f : Fin 704, actE (fun d => x (ix2 r d)) (fun d => p (ix3 0 f d)) (fun d => q (ix3 0 f d)) * w (ix2 f l) := by
  pointwise [k0_pay1, k0_pay9, k0_pay5, k0_pay6, k0_pay7]
  simp only [actE, dotE, zero_sub]
end

/-- The normed rows at one place. -/
theorem norm_apply (h : Vec Ideal S832x1024 .f32) (g : Vec Ideal S1x1024 .f32) (r : Fin 832) (d : Fin 1024) :
    k0_pay3 h g (ix2 r d) = normE (fun e => h (ix2 r e)) (g (ix2 0 d)) d := by
  pointwise [k0_pay3]
  rfl

/-- The sum starts from zero. -/
theorem start_apply (r : Fin 832) (d : Fin 1024) : k0_pay4 (F := Ideal) (ix2 r d) = 0 := by pointwise [k0_pay4]

/-- The result's block at one place. -/
theorem out_apply (h s : Vec Ideal S832x1024 .f32) (r : Fin 832) (d : Fin 1024) :
    k0_pay2 h s (ix2 r d) = h (ix2 r d) + Ideal.ofBits .f32 0x3F000000#32 * s (ix2 r d) := by pointwise [k0_pay2]

end Cert.ForwardIdeal.Sum
-- ==== Proof.Forward.Carried.lean ====
/-
What the feed-forward forward call carries from point to point: the normed rows of a block, and the sum of the down
products over the slabs of hidden channels so far.
-/
module

public import proofs.«01_k».proof.Proof.Gen.ForwardIdeal.Frame
public import proofs.«01_k».proof.Proof.Forward.Block

@[expose] public section

set_option maxRecDepth 16384

noncomputable section

namespace Cert.ForwardIdeal.Sum

open Idealize.ShloMosaic Idealize.ShloMosaic.TcCoe Idealize.SL.Sem
open Cert.ForwardIdeal Cert.ForwardIdeal.Gen

/-! ## Stores and loads by halves -/

section Halves
variable {e : EltTy}

/-- The whole block. -/
abbrev fullR : Rect S832x1024 := Rect.unit (s := S832x1024) ![0, 0] S832x1024.size inb_S832x1024_S832x1024_0_0

theorem canon_full (w : S832x1024.Idx → Elt Ideal e) : View.canon [(⟨fullR, w⟩ : View.Piece (Elt Ideal) S832x1024 e)] = w :=
  View.canon_cons_unit_lit' inb_S832x1024_S832x1024_0_0 w [] (by decide)

/-- Two halves stored last leave the contents they are the halves of, whatever was stored before. -/
theorem canon_halves (T : S832x1024.Idx → Elt Ideal e) (L : List (View.Piece (Elt Ideal) S832x1024 e)) :
    View.canon ((⟨hiR, View.ld T hiR⟩ : View.Piece (Elt Ideal) S832x1024 e) :: (⟨loR, View.ld T loR⟩ : View.Piece (Elt Ideal) S832x1024 e) :: L) = T := by
  funext y
  have h0 : (y 0).val < 832 := (y 0).isLt
  have h1 : (y 1).val < 1024 := (y 1).isLt
  by_cases hy : (y 0).val < 416
  · have hn : y ∉ hiR.set := fun hm => by
      have h := ((Rect.mem_set_unit (inb := inb_S832x1024_S416x1024_416_0)).mp hm 0).1
      exact absurd hy (Nat.not_lt.mpr h)
    have hl : y ∈ loR.set := (Rect.mem_set_unit (inb := inb_S832x1024_S416x1024_0_0)).mpr
      (Fin.forall_fin_two.mpr ⟨⟨Nat.zero_le _, hy⟩, Nat.zero_le _, h1⟩)
    obtain ⟨x, hx⟩ := loR.exists_idx_of_mem hl
    have hx : loR.emb x = y := hx
    rw [View.canon_cons_of_not_mem (⟨hiR, View.ld T hiR⟩ : View.Piece (Elt Ideal) S832x1024 e) _ hn, ← hx,
      View.canon_cons_emb loR (View.ld T loR) L x]
    rfl
  · have hl : y ∈ hiR.set := (Rect.mem_set_unit (inb := inb_S832x1024_S416x1024_416_0)).mpr
      (Fin.forall_fin_two.mpr ⟨⟨Nat.le_of_not_lt hy, h0⟩, Nat.zero_le _, h1⟩)
    obtain ⟨x, hx⟩ := hiR.exists_idx_of_mem hl
    have hx : hiR.emb x = y := hx
    rw [← hx, View.canon_cons_emb hiR (View.ld T hiR) _ x]
    rfl

/-- A load after a store of the whole block reads what was stored. -/
theorem load_full {sp : Space} (v : View sig .tc sp S832x1024 e) (w : S832x1024.Idx → Elt Ideal e) (R : Rect S832x1024) :
    v.readCov [⟨Rect.unit ![0, 0] ![832, 1024] inb_S832x1024_S832x1024_0_0, w⟩] R.toLoadRect = View.ld w R :=
  (View.readCov_eq_canon' v [⟨fullR, w⟩] R.toLoadRect).trans (congrArg (View.ld · R) (canon_full w))

/-- A load of the second half after a store of the whole block and one of the first half reads the first store. -/
theorem load_second {sp : Space} (v : View sig .tc sp S832x1024 e) (w : S832x1024.Idx → Elt Ideal e) (a : loR.shape.Idx → Elt Ideal e) :
    v.readCov [⟨Rect.unit ![0, 0] ![416, 1024] inb_S832x1024_S416x1024_0_0, a⟩,
      ⟨Rect.unit ![0, 0] ![832, 1024] inb_S832x1024_S832x1024_0_0, w⟩]
      (Rect.unit ![416, 0] ![416, 1024] inb_S832x1024_S416x1024_416_0).toLoadRect = View.ld w hiR := by
  refine (View.readCov_eq_canon' v [⟨loR, a⟩, ⟨fullR, w⟩] hiR.toLoadRect).trans (funext fun x => ?_)
  refine (View.canon_cons_of_not_mem ⟨loR, a⟩ [⟨fullR, w⟩] fun hm => ?_).trans (congrFun (canon_full w) _)
  have h : 416 + 1 * (x 0).val < 0 + 416 := ((Rect.mem_set_unit (inb := inb_S832x1024_S416x1024_0_0)).mp hm 0).2
  omega

/-- A load of the whole block after its halves were stored reads the contents they are the halves of. -/
theorem load_both {sp : Space} (v : View sig .tc sp S832x1024 e) (T : S832x1024.Idx → Elt Ideal e) :
    v.readCov [⟨Rect.unit ![416, 0] ![416, 1024] inb_S832x1024_S416x1024_416_0, View.ld T hiR⟩,
      ⟨Rect.unit ![0, 0] ![416, 1024] inb_S832x1024_S416x1024_0_0, View.ld T loR⟩]
      (Rect.unit ![0, 0] ![832, 1024] inb_S832x1024_S832x1024_0_0).toLoadRect = T := by
  refine (View.readCov_eq_canon' v [⟨hiR, View.ld T hiR⟩, ⟨loR, View.ld T loR⟩] fullR.toLoadRect).trans ?_
  rw [canon_halves]
  funext y
  refine congrArg T (funext fun a => Fin.ext ?_)
  fin_cases a <;> simp

end Halves

/-! ## What one slab of channels adds -/

section
variable (p q : Vec Ideal S1x704x1024 .bf16) (w : Vec Ideal S704x1024 .bf16) (x : Vec Ideal S832x1024 .bf16) (s : Vec Ideal S832x1024 .f32)

/-- What one slab adds to row `r` at column `l`. -/
def slabE (r : Fin 832) (l : Fin 1024) : EReal :=
  ∑ f : Fin 704, actE (fun d => x (ix2 r d)) (fun d => p (ix3 0 f d)) (fun d => q (ix3 0 f d)) * w (ix2 f l)

/-- The sum with one slab more. -/
def addF : Vec Ideal S832x1024 .f32 := fun y => s y + slabE p q w x (y 0) (y 1)

theorem lo_eq : k0_pay8 p q w (View.ld x loR) (View.ld s loR) = View.ld (addF p q w x s) loR := by
  funext y
  obtain ⟨r, l, rfl⟩ : ∃ (r : Fin 416) (l : Fin 1024), y = (ix2 r l : S416x1024.Idx) := ⟨y 0, y 1, eq_ix2 (n0 := 416) (n1 := 1024) y⟩
  refine (lo_apply p q w _ _ r l).trans ?_
  have he (d : Fin 1024) : loR.emb (ix2 r d : S416x1024.Idx) = (ix2 ⟨r.val, by omega⟩ d : S832x1024.Idx) := by blk_ext
  have hx (d : Fin 1024) : View.ld x loR (ix2 r d : S416x1024.Idx) = x (ix2 ⟨r.val, by omega⟩ d) := congrArg x (he d)
  have hs : View.ld s loR (ix2 r l : S416x1024.Idx) = s (ix2 ⟨r.val, by omega⟩ l) := congrArg s (he l)
  refine Eq.trans ?_ (congrArg (addF p q w x s) (he l)).symm
  rw [hs]
  simp only [hx]
  rfl

theorem hi_eq : k0_pay1 (k0_pay6 q) (k0_pay7 w) (View.ld x hiR) (k0_pay9 p (View.ld x hiR)) (constant S416x704 .f32 0x00000000#32) (View.ld s hiR)
    = View.ld (addF p q w x s) hiR := by
  funext y
  obtain ⟨r, l, rfl⟩ : ∃ (r : Fin 416) (l : Fin 1024), y = (ix2 r l : S416x1024.Idx) := ⟨y 0, y 1, eq_ix2 (n0 := 416) (n1 := 1024) y⟩
  refine (hi_apply p q w _ _ r l).trans ?_
  have he (d : Fin 1024) : hiR.emb (ix2 r d : S416x1024.Idx) = (ix2 ⟨416 + r.val, by omega⟩ d : S832x1024.Idx) := by blk_ext
  have hx (d : Fin 1024) : View.ld x hiR (ix2 r d : S416x1024.Idx) = x (ix2 ⟨416 + r.val, by omega⟩ d) := congrArg x (he d)
  have hs : View.ld s hiR (ix2 r l : S416x1024.Idx) = s (ix2 ⟨416 + r.val, by omega⟩ l) := congrArg s (he l)
  refine Eq.trans ?_ (congrArg (addF p q w x s) (he l)).symm
  rw [hs]
  simp only [hx]
  rfl
end

/-! ## The points -/

variable (m : (ℓ : Loc nD τ sig) → Buf (Elt Ideal) ℓ) (c : Dev nD) (t : Fin cfg0.N)

/-- At the first slab the normed rows are made. -/
theorem first_norm (h0 : t.val % 4 = 0) (h3 : ¬t.val % 4 = 3) :
    (outsAt0 m c t.val t.isLt).2.1 = k0_pay3 (iblk m c 0 t) (iblk m c 1 t) := by
  rw [outsAt0_A m c t h0 h3]
  frame_out

/-- At the first slab the sum starts from zero. -/
theorem first_sum (h0 : t.val % 4 = 0) (h3 : ¬t.val % 4 = 3) :
    (outsAt0 m c t.val t.isLt).2.2
      = addF (iblk m c 2 t) (iblk m c 3 t) (iblk m c 4 t) (k0_pay3 (iblk m c 0 t) (iblk m c 1 t)) (k0_pay4 (F := Ideal)) := by
  rw [outsAt0_A m c t h0 h3]
  frame_out
  rw [load_second, load_full, load_full, load_full, lo_eq, hi_eq]
  exact canon_halves _ _

/-- Between, the normed rows stay. -/
theorem next_norm (h0 : ¬t.val % 4 = 0) (h3 : ¬t.val % 4 = 3) :
    (outsAt0 m c t.val t.isLt).2.1 = (outsAt0 m c (t.val - 1) (Nat.lt_of_le_of_lt (Nat.sub_le _ _) t.isLt)).2.1 := by
  rw [outsAt0_B m c t h0 h3]
  dsimp only [sout0_B_0]

/-- Between, one slab more is added. -/
theorem next_sum (h0 : ¬t.val % 4 = 0) (h3 : ¬t.val % 4 = 3) :
    (outsAt0 m c t.val t.isLt).2.2
      = addF (iblk m c 2 t) (iblk m c 3 t) (iblk m c 4 t) (outsAt0 m c (t.val - 1) (Nat.lt_of_le_of_lt (Nat.sub_le _ _) t.isLt)).2.1
          (outsAt0 m c (t.val - 1) (Nat.lt_of_le_of_lt (Nat.sub_le _ _) t.isLt)).2.2 := by
  rw [outsAt0_B m c t h0 h3]
  frame_out
  rw [read_unread_whole, read_unread_whole, lo_eq, hi_eq]
  exact canon_halves _ _

/-- At the last slab the result's rows are made. -/
theorem last_rows (h0 : ¬t.val % 4 = 0) (h3 : t.val % 4 = 3) :
    (outsAt0 m c t.val t.isLt).1
      = k0_pay2 (iblk m c 0 t) (addF (iblk m c 2 t) (iblk m c 3 t) (iblk m c 4 t) (outsAt0 m c (t.val - 1) (Nat.lt_of_le_of_lt (Nat.sub_le _ _) t.isLt)).2.1
          (outsAt0 m c (t.val - 1) (Nat.lt_of_le_of_lt (Nat.sub_le _ _) t.isLt)).2.2) := by
  rw [outsAt0_C m c t h0 h3]
  frame_out
  rw [read_unread_whole, read_unread_whole, lo_eq, hi_eq, load_both]

end Cert.ForwardIdeal.Sum
-- ==== Proof.Forward.Reference.lean ====
/-
The reference of the half-step's forward pass: its operations grouped into named arrays, and what each holds at one place.
-/
module

public import proofs.«01_k».proof.Proof.Gen.ForwardReferenceIdeal.Run
public import proofs.«01_k».proof.Proof.Forward.Block

@[expose] public section

set_option maxRecDepth 16384

noncomputable section

namespace Cert.ForwardReferenceIdeal.Stages

open Idealize.ShloMosaic Idealize.ShloMosaic.TcCoe Idealize.SL.Sem
open Cert.ForwardReferenceIdeal Cert.ForwardReferenceIdeal.Gen
open Cert.ForwardIdeal.Sum (dotE actE normE)

/-- The normed rows. -/
def normA (H : FVec Ideal S4160x1024 .f32) (G : FVec Ideal S1024 .f32) : FVec Ideal S4160x1024 .f32 :=
  mulf (mulf H (broadcastInDim S4160x1024 ![0, 1] bcast_S4160x1_S4160x1024_0_1 (Host.rsqrt
      (addf (Host.divf (broadcastInDim S4160x1 ![0] bcast_S4160_S4160x1_0
          (Host.reduceAdd (mulf H H) (constant S_ .f32 0x00000000#32) reducesTo_S4160x1024_S4160_d1 h_S_))
        (broadcastInDim S4160x1 ![] bcast_S_S4160x1 (constant S_ .f32 0x44800000#32)))
        (broadcastInDim S4160x1 ![] bcast_S_S4160x1 (constant S_ .f32 0x358637BD#32))))))
    (broadcastInDim S4160x1024 ![0, 1] bcast_S1x1024_S4160x1024_0_1 (broadcastInDim S1x1024 ![1] bcast_S1024_S1x1024_1 G))

/-- The gate's columns of the product with the stacked weights. -/
def gateA (X : FVec Ideal S4160x1024 .f32) (W : FVec Ideal S1024x5632 .f32) : FVec Ideal S4160x2816 .f32 :=
  extractStridedSlice S4160x2816 ![0, 0] (Host.dotGeneral dot_S4160x1024_S1024x5632_S4160x5632_1_0_0_1_n_n none X W) slices_S4160x5632_S4160x2816_0_0

/-- The up projection's columns. -/
def upA (X : FVec Ideal S4160x1024 .f32) (W : FVec Ideal S1024x5632 .f32) : FVec Ideal S4160x2816 .f32 :=
  extractStridedSlice S4160x2816 ![0, 2816] (Host.dotGeneral dot_S4160x1024_S1024x5632_S4160x5632_1_0_0_1_n_n none X W) slices_S4160x5632_S4160x2816_0_2816

/-- The activation of gate `A` and up projection `B`. -/
def actA (A B : FVec Ideal S4160x2816 .f32) : FVec Ideal S4160x2816 .f32 :=
  mulf (mulf A (Host.divf (broadcastInDim S4160x2816 ![] bcast_S_S4160x2816 (constant S_ .f32 0x3F800000#32))
    (addf (broadcastInDim S4160x2816 ![] bcast_S_S4160x2816 (constant S_ .f32 0x3F800000#32)) (Host.exp (Host.negf A))))) B

/-- The result from the activation. -/
def outA (H : FVec Ideal S4160x1024 .f32) (A : FVec Ideal S4160x2816 .f32) (U : FVec Ideal S2816x1024 .f32) : FVec Ideal S4160x1024 .f32 :=
  addf H (mulf (broadcastInDim S4160x1024 ![] bcast_S_S4160x1024 (constant S_ .f32 0x3F000000#32))
    (Host.dotGeneral dot_S4160x2816_S2816x1024_S4160x1024_1_0_0_1_n_n none A U))

/-- The reference's result as a function of the arguments. -/
def whole (H : FVec Ideal S4160x1024 .f32) (G : FVec Ideal S1024 .f32) (W : FVec Ideal S1024x5632 .f32) (U : FVec Ideal S2816x1024 .f32) :
    FVec Ideal S4160x1024 .f32 :=
  outA H (actA (gateA (normA H G) W) (upA (normA H G) W)) U

theorem norm_at (H : FVec Ideal S4160x1024 .f32) (G : FVec Ideal S1024 .f32) (i : Fin 4160) (d : Fin 1024) :
    normA H G (ix2 i d) = normE (fun e => H (ix2 i e)) (G (ix1 d)) d := by
  pointwise [normA]
  rfl

theorem gate_at (X : FVec Ideal S4160x1024 .f32) (W : FVec Ideal S1024x5632 .f32) (i : Fin 4160) (k : Fin 2816) :
    gateA X W (ix2 i k) = dotE (fun d => X (ix2 i d)) (fun d => W (ix2 d ⟨k.val, by omega⟩)) := by
  pointwise [gateA]
  rfl

theorem up_at (X : FVec Ideal S4160x1024 .f32) (W : FVec Ideal S1024x5632 .f32) (i : Fin 4160) (k : Fin 2816) :
    upA X W (ix2 i k) = dotE (fun d => X (ix2 i d)) (fun d => W (ix2 d ⟨2816 + k.val, by omega⟩)) := by
  pointwise [upA]
  rfl

theorem act_at (A B : FVec Ideal S4160x2816 .f32) (i : Fin 4160) (k : Fin 2816) :
    actA A B (ix2 i k) = A (ix2 i k) * Ideal.div 1 (1 + Ideal.exp (-A (ix2 i k))) * B (ix2 i k) := by
  pointwise [actA]

theorem out_at (H : FVec Ideal S4160x1024 .f32) (A : FVec Ideal S4160x2816 .f32) (U : FVec Ideal S2816x1024 .f32) (i : Fin 4160) (d : Fin 1024) :
    outA H A U (ix2 i d) = H (ix2 i d) + Ideal.ofBits .f32 0x3F000000#32 * ∑ k : Fin 2816, A (ix2 i k) * U (ix2 k d) := by
  pointwise [outA]

/-- What hidden channel `k` adds to row `i` at column `d`. -/
def channelE (H : FVec Ideal S4160x1024 .f32) (G : FVec Ideal S1024 .f32) (W : FVec Ideal S1024x5632 .f32) (U : FVec Ideal S2816x1024 .f32)
    (i : Fin 4160) (d : Fin 1024) (k : Fin 2816) : EReal :=
  actE (fun e => normE (fun e' => H (ix2 i e')) (G (ix1 e)) e) (fun e => W (ix2 e ⟨k.val, by omega⟩)) (fun e => W (ix2 e ⟨2816 + k.val, by omega⟩))
    * U (ix2 k d)

/-- The reference at one place: a sum over all the hidden channels. -/
theorem whole_apply (H : FVec Ideal S4160x1024 .f32) (G : FVec Ideal S1024 .f32) (W : FVec Ideal S1024x5632 .f32) (U : FVec Ideal S2816x1024 .f32)
    (i : Fin 4160) (d : Fin 1024) :
    whole H G W U (ix2 i d) = H (ix2 i d) + Ideal.ofBits .f32 0x3F000000#32 * ∑ k : Fin 2816, channelE H G W U i d k := by
  refine (out_at _ _ _ i d).trans ?_
  simp only [act_at, gate_at, up_at, norm_at, channelE, actE]

end Cert.ForwardReferenceIdeal.Stages
-- ==== Proof.Forward.Value.lean ====
/-
The value of the half-step's forward call: the blocks its points read, the four slabs of hidden channels added one after
the other, and the equation of its result with the reference's.
-/
module

public import proofs.«01_k».proof.Proof.Forward.Carried
public import proofs.«01_k».proof.Proof.Forward.Reference

@[expose] public section

set_option maxRecDepth 16384

noncomputable section

namespace Cert.ForwardIdeal.Sum

open Idealize.ShloMosaic Idealize.ShloMosaic.TcCoe Idealize.SL.Sem
open Idealize.ShloMosaic.Pipeline (Dat)
open Cert.ForwardIdeal Cert.ForwardIdeal.Gen
open Cert.ForwardReferenceIdeal.Stages (whole whole_apply channelE)

variable (m : (ℓ : Loc nD τ sig) → Buf (Elt Ideal) ℓ) (c : Dev nD)

/-- The arguments on device `c`. -/
abbrev argH : FVec Ideal S4160x1024 .f32 := m ((c : Thread nD τ).loc main_arg0)
abbrev argG : FVec Ideal S1024 .f32 := m ((c : Thread nD τ).loc main_arg1)
abbrev argW : FVec Ideal S1024x5632 .f32 := m ((c : Thread nD τ).loc main_arg2)
abbrev argU : FVec Ideal S2816x1024 .f32 := m ((c : Thread nD τ).loc main_arg3)

theorem point_lt (t : Fin cfg0.N) : t.val < 20 := lt_of_lt_of_eq t.isLt N_0

/-- Row `r` of point `t`'s block of rows. -/
def row (t : Fin cfg0.N) (r : Fin 832) : Fin 4160 := ⟨t.val / 4 * 832 + r.val, by have := point_lt t; omega⟩

/-- The printed index maps. -/
theorem maps : ∀ t : Fin cfg0.N, win0_0.index t = ![t.val / 4, 0] ∧ win0_1.index t = ![0, 0] ∧ win0_2.index t = ![t.val % 4, 0, 0]
    ∧ win0_3.index t = ![4 + t.val % 4, 0, 0] ∧ win0_4.index t = ![t.val % 4, 0] ∧ win0_5.index t = ![t.val / 4, 0] :=
  (by decide +kernel : ∀ t : Fin grid0.N, _)

/-- The stacked weights as the host hands them over: slab `j`, channel `f`. -/
theorem stacked (W : FVec Ideal S1024x5632 .f32) (j : Fin 8) (f : Fin 704) (d : Fin 1024) :
    shapeCast S8x704x1024 (truncf .bf16 (transpose S5632x1024 [1, 0] W transposes_S1024x5632_S5632x1024_1_0) bitsLt_bf16_f32)
      shapeCasts_S5632x1024_S8x704x1024 (ix3 j f d) = W (ix2 d ⟨j.val * 704 + f.val, by omega⟩) := by
  pointwise
  blk_ext

/-- The gain as a row. -/
theorem gainRow (G : FVec Ideal S1024 .f32) (i : Fin 1) (d : Fin 1024) :
    shapeCast S1x1024 G shapeCasts_S1024_S1x1024 (ix2 i d) = G (ix1 d) := by
  pointwise

section
variable (t : Fin cfg0.N)

theorem block_h (r : Fin 832) (d : Fin 1024) : (iblk m c 0 t : FVec Ideal S832x1024 .f32) (ix2 r d) = argH m c (ix2 (row t r) d) := by
  blk_simp [iblk, V]
  blk_ext [maps t, row]

theorem block_g (d : Fin 1024) : (iblk m c 1 t : FVec Ideal S1x1024 .f32) (ix2 0 d) = argG m c (ix1 d) := by
  unfold iblk
  entry_read
  have he : ((View.whole main_v3).slice (win0_1.rect t)).emb (ix2 0 d : S1x1024.Idx) = (ix2 0 d : S1x1024.Idx) := by blk_ext [maps t]
  exact (congrArg _ he).trans (gainRow _ 0 d)

theorem block_p (f : Fin 704) (d : Fin 1024) : (iblk m c 2 t : FVec Ideal S1x704x1024 .bf16) (ix3 0 f d)
    = argW m c (ix2 d ⟨t.val % 4 * 704 + f.val, by omega⟩) := by
  unfold iblk
  entry_read
  have he : ((View.whole main_v2).slice (win0_2.rect t)).emb (ix3 0 f d : S1x704x1024.Idx) = (ix3 ⟨t.val % 4, by omega⟩ f d : S8x704x1024.Idx) := by
    blk_ext [maps t]
  exact (congrArg _ he).trans (stacked _ _ f d)

theorem block_q (f : Fin 704) (d : Fin 1024) : (iblk m c 3 t : FVec Ideal S1x704x1024 .bf16) (ix3 0 f d)
    = argW m c (ix2 d ⟨2816 + (t.val % 4 * 704 + f.val), by omega⟩) := by
  unfold iblk
  entry_read
  have he : ((View.whole main_v2).slice (win0_3.rect t)).emb (ix3 0 f d : S1x704x1024.Idx) = (ix3 ⟨4 + t.val % 4, by omega⟩ f d : S8x704x1024.Idx) := by
    blk_ext [maps t]
  refine (congrArg _ he).trans ((stacked _ _ f d).trans ?_)
  blk_ext

theorem block_u (f : Fin 704) (d : Fin 1024) : (iblk m c 4 t : FVec Ideal S704x1024 .bf16) (ix2 f d)
    = argU m c (ix2 ⟨t.val % 4 * 704 + f.val, by omega⟩ d) := by
  unfold iblk
  entry_read
  have he : ((View.whole main_v4).slice (win0_4.rect t)).emb (ix2 f d : S704x1024.Idx) = (ix2 ⟨t.val % 4 * 704 + f.val, by omega⟩ d : S2816x1024.Idx) := by
    blk_ext [maps t]
  exact congrArg (argU m c) he
end

/-- What a point adds to the sum, of the normed rows made at the first point of its block: its slab's channels. -/
theorem slab_at (s t : Fin cfg0.N) (hs : s.val / 4 = t.val / 4) (j : Fin 4) (hj : t.val % 4 = j.val) (r : Fin 832) (l : Fin 1024) :
    slabE (iblk m c 2 t) (iblk m c 3 t) (iblk m c 4 t) (k0_pay3 (iblk m c 0 s) (iblk m c 1 s)) r l
      = ∑ f : Fin 704, channelE (argH m c) (argG m c) (argW m c) (argU m c) (row t r) l ⟨j.val * 704 + f.val, by omega⟩ := by
  have hr : row s r = row t r := Fin.ext (by simp only [row, hs])
  unfold slabE channelE
  refine Finset.sum_congr rfl fun f _ => ?_
  simp only [block_p, block_q, block_u, norm_apply, block_h, block_g, hr, hj]

/-- The result array after the run. -/
theorem final : (dats m 0 c).arrAt 5 (cfgs 0).N = whole (argH m c) (argG m c) (argW m c) (argU m c) := by
  refine (dats m 0 c).arrAt_eq_of_covers 5 _ (by decide +kernel) fun t hf y => ?_
  have h3 : t.val % 4 = 3 := (flush0_5 t).mp hf
  have h20 := point_lt t
  obtain ⟨t2, e2⟩ : ∃ s : Fin cfg0.N, s.val = t.val - 1 := ⟨⟨t.val - 1, Nat.lt_of_le_of_lt (Nat.sub_le _ _) t.isLt⟩, rfl⟩
  obtain ⟨t1, e1⟩ : ∃ s : Fin cfg0.N, s.val = t2.val - 1 := ⟨⟨t2.val - 1, Nat.lt_of_le_of_lt (Nat.sub_le _ _) t2.isLt⟩, rfl⟩
  obtain ⟨t0, e0⟩ : ∃ s : Fin cfg0.N, s.val = t1.val - 1 := ⟨⟨t1.val - 1, Nat.lt_of_le_of_lt (Nat.sub_le _ _) t1.isLt⟩, rfl⟩
  blk_simp
  rw [after0_5, last_rows m c t (by omega) h3]
  simp only [← e2]
  rw [next_sum m c t2 (by omega) (by omega), next_norm m c t2 (by omega) (by omega)]
  simp only [← e1]
  rw [next_sum m c t1 (by omega) (by omega), next_norm m c t1 (by omega) (by omega)]
  simp only [← e0]
  rw [first_sum m c t0 (by omega) (by omega), first_norm m c t0 (by omega) (by omega)]
  obtain ⟨r, l, hy⟩ : ∃ (r : Fin 832) (l : Fin 1024), y = (ix2 r l : S832x1024.Idx) := ⟨y 0, y 1, eq_ix2 (n0 := 832) (n1 := 1024) y⟩
  subst hy
  have he : (((View.whole main_v5).slice (win0_5.rect t)).emb (ix2 r l : S832x1024.Idx)) = (ix2 (row t r) l : S4160x1024.Idx) := by
    blk_ext [maps t, row]
  refine ((out_apply _ _ r l).trans ?_).trans ((congrArg _ he).trans (whole_apply _ _ _ _ (row t r) l)).symm
  have hr (s : Fin cfg0.N) (hs : s.val / 4 = t.val / 4) : row s r = row t r := Fin.ext (by simp only [row, hs])
  rw [block_h, Fin.sum_univ_tiles 4 704 rfl, Fin.sum_univ_four]
  simp only [addF]
  refine congrArg (fun z => argH m c (ix2 (row t r) l) + Ideal.ofBits .f32 0x3F000000#32 * z) ?_
  refine Ideal.add_congr (Ideal.add_congr (Ideal.add_congr ?_ ?_) ?_) ?_
  · refine (congrArg₂ (· + ·) (start_apply r l) (slab_at m c t0 t0 rfl 0 (by show _ = 0; omega) r l)).trans ?_
    rw [zero_add, hr t0 (by omega)]
  · refine (slab_at m c t0 t1 (by omega) 1 (by show _ = 1; omega) r l).trans ?_
    rw [hr t1 (by omega)]
  · refine (slab_at m c t0 t2 (by omega) 2 (by show _ = 2; omega) r l).trans ?_
    rw [hr t2 (by omega)]
  · exact slab_at m c t0 t (by omega) 3 (by show _ = 3; omega) r l

end Cert.ForwardIdeal.Sum
-- ==== Proof.Tile.Basic.lean ====
/-
Products taken tile by tile, at any sizes: a place of a tile of a product is the place of the whole product where that tile
puts it, if the rows and columns of the factors' tiles are those of the factors. Stated of one tile that holds the whole
contraction, of one with an addend, and of one whose contraction comes in two halves, added to a running sum.
-/
module

public import Idealize.ShloMosaic.Lib.Pipeline.ValueKit
public import Idealize.ShloMosaic.Lib.Pointwise

@[expose] public section

noncomputable section

namespace Cert.Tile

open Idealize.ShloMosaic

variable {b d R N K : ℕ} {pay : (⟨2, ![b, d]⟩ : Shape).Idx → EReal} {G : (⟨2, ![R, N]⟩ : Shape).Idx → EReal}
  {e : (⟨2, ![b, d]⟩ : Shape).Idx → (⟨2, ![R, N]⟩ : Shape).Idx}

/-- A tile that is the product of its factors' tiles, with an addend. -/
theorem product_add {z : Fin b → Fin d → EReal} {Z : Fin R → Fin N → EReal} {p : Fin b → Fin K → EReal} {q : Fin d → Fin K → EReal}
    {P : Fin R → Fin K → EReal} {Q : Fin N → Fin K → EReal}
    (hpay : ∀ r l, pay (ix2 r l) = z r l + ∑ k, p r k * q l k) (hG : ∀ r l, G (ix2 r l) = Z r l + ∑ k, P r k * Q l k)
    (row : Fin b → Fin R) (col : Fin d → Fin N) (he : ∀ r l, e (ix2 r l) = ix2 (row r) (col l))
    (hz : ∀ r l, z r l = Z (row r) (col l)) (hp : ∀ r k, p r k = P (row r) k) (hq : ∀ l k, q l k = Q (col l) k)
    (y : (⟨2, ![b, d]⟩ : Shape).Idx) : pay y = G (e y) := by
  obtain ⟨r, l, rfl⟩ : ∃ (r : Fin b) (l : Fin d), y = ix2 r l := ⟨y 0, y 1, eq_ix2 y⟩
  rw [he, hpay, hG, hz]
  exact congrArg _ (Finset.sum_congr rfl fun k _ => by rw [hp, hq])

/-- A tile that is the product of its factors' tiles. -/
theorem product {p : Fin b → Fin K → EReal} {q : Fin d → Fin K → EReal} {P : Fin R → Fin K → EReal} {Q : Fin N → Fin K → EReal}
    (hpay : ∀ r l, pay (ix2 r l) = ∑ k, p r k * q l k) (hG : ∀ r l, G (ix2 r l) = ∑ k, P r k * Q l k)
    (row : Fin b → Fin R) (col : Fin d → Fin N) (he : ∀ r l, e (ix2 r l) = ix2 (row r) (col l))
    (hp : ∀ r k, p r k = P (row r) k) (hq : ∀ l k, q l k = Q (col l) k)
    (y : (⟨2, ![b, d]⟩ : Shape).Idx) : pay y = G (e y) :=
  product_add (z := fun _ _ => 0) (Z := fun _ _ => 0) (fun r l => (hpay r l).trans (zero_add _).symm)
    (fun r l => (hG r l).trans (zero_add _).symm) row col he (fun _ _ => rfl) hp hq y

/-- A tile that a running sum has reached in two steps from zero, each a half of the contraction. -/
theorem product_halves {K₁ K₂ : ℕ} (hK : K₁ + K₂ = K) {s₀ s₁ : Fin b → Fin d → EReal}
    {p₁ : Fin b → Fin K₁ → EReal} {q₁ : Fin d → Fin K₁ → EReal} {p₂ : Fin b → Fin K₂ → EReal} {q₂ : Fin d → Fin K₂ → EReal}
    {P : Fin R → Fin K → EReal} {Q : Fin N → Fin K → EReal}
    (h₀ : ∀ r l, s₀ r l = 0) (h₁ : ∀ r l, s₁ r l = s₀ r l + ∑ k, p₁ r k * q₁ l k)
    (hpay : ∀ r l, pay (ix2 r l) = s₁ r l + ∑ k, p₂ r k * q₂ l k) (hG : ∀ r l, G (ix2 r l) = ∑ k, P r k * Q l k)
    (row : Fin b → Fin R) (col : Fin d → Fin N) (he : ∀ r l, e (ix2 r l) = ix2 (row r) (col l))
    (hp₁ : ∀ r (k : Fin K₁), p₁ r k = P (row r) ⟨k.val, by omega⟩) (hq₁ : ∀ l (k : Fin K₁), q₁ l k = Q (col l) ⟨k.val, by omega⟩)
    (hp₂ : ∀ r (k : Fin K₂), p₂ r k = P (row r) ⟨K₁ + k.val, by omega⟩)
    (hq₂ : ∀ l (k : Fin K₂), q₂ l k = Q (col l) ⟨K₁ + k.val, by omega⟩)
    (y : (⟨2, ![b, d]⟩ : Shape).Idx) : pay y = G (e y) := by
  obtain ⟨r, l, rfl⟩ : ∃ (r : Fin b) (l : Fin d), y = ix2 r l := ⟨y 0, y 1, eq_ix2 y⟩
  subst hK
  rw [he, hG, hpay, h₁, h₀, zero_add, Fin.sum_univ_add]
  refine congrArg₂ (· + ·) (Finset.sum_congr rfl fun k _ => ?_) (Finset.sum_congr rfl fun k _ => ?_)
  · rw [hp₁, hq₁]; rfl
  · rw [hp₂, hq₂]; rfl

end Cert.Tile
-- ==== Proof.Weight.Value.lean ====
/-
The weight gradient of an input projection as one formula of its two arguments: a block of the result after the two halves of
the rows have been added up, and that this is the reference's single contraction over all the rows.
-/
module

public import proofs.«01_k».proof.Proof.Gen.WeightIdeal.Frame
public import proofs.«01_k».proof.Proof.Gen.WeightReferenceIdeal.Run
public import proofs.«01_k».proof.Proof.Tile.Basic
public import Idealize.ShloMosaic.Lib.Pipeline.ValueKit
public import Idealize.ShloMosaic.Lib.Pointwise
public import Idealize.ShloMosaic.Lib.Pipeline.ReadBack

@[expose] public section

set_option maxRecDepth 16384

noncomputable section

namespace Cert.WeightIdeal.Sum

open Idealize.ShloMosaic Idealize.ShloMosaic.TcCoe Idealize.SL.Sem
open Idealize.ShloMosaic.Pipeline (Dat)
open Cert.WeightIdeal Cert.WeightIdeal.Gen

variable (m : (ℓ : Loc nD τ sig) → Buf (Elt Ideal) ℓ)

/-- The reference's result as a function of the two arguments. -/
def whole (A : FVec Ideal S4160x3072 .bf16) (B : FVec Ideal S4160x1024 .bf16) : FVec Ideal S3072x1024 .bf16 :=
  truncf .bf16 (transpose S3072x1024 [1, 0] (transpose Cert.WeightReferenceIdeal.S1024x3072 [1, 0]
    (Host.dotGeneral Cert.WeightReferenceIdeal.dot_S4160x3072_S4160x1024_S3072x1024_0_0_1_1_n_n none
      (extf .f32 A Cert.WeightReferenceIdeal.Gen.bitsLt_bf16_f32) (extf .f32 B Cert.WeightReferenceIdeal.Gen.bitsLt_bf16_f32))
    Cert.WeightReferenceIdeal.Gen.transposes_S3072x1024_S1024x3072_1_0) Cert.WeightReferenceIdeal.Gen.transposes_S1024x3072_S3072x1024_1_0)
    Cert.WeightReferenceIdeal.Gen.bitsLt_bf16_f32

/-- The reference at one place: a sum over all the rows. -/
theorem whole_apply (A : FVec Ideal S4160x3072 .bf16) (B : FVec Ideal S4160x1024 .bf16) (r : Fin 3072) (l : Fin 1024) :
    whole A B (ix2 r l) = ∑ k : Fin 4160, A (ix2 k r) * B (ix2 k l) := by
  pointwise [whole]

/-- What one half of the rows adds to the running sum. -/
theorem half_apply (a : Vec Ideal S2080x1536 .bf16) (b : Vec Ideal S2080x1024 .bf16) (s : Vec Ideal S1536x1024 .f32) (r : Fin 1536) (l : Fin 1024) :
    k0_pay2 a b s (ix2 r l) = s (ix2 r l) + ∑ k : Fin 2080, a (ix2 k r) * b (ix2 k l) := by
  pointwise [k0_pay2]

theorem start_apply (r : Fin 1536) (l : Fin 1024) : k0_pay1 (F := Ideal) (ix2 r l) = 0 := by pointwise [k0_pay1]

/-- What the last half leaves is the sum it reached. -/
theorem last_apply (a : Vec Ideal S2080x1536 .bf16) (b : Vec Ideal S2080x1024 .bf16) (s : Vec Ideal S1536x1024 .f32) (r : Fin 1536) (l : Fin 1024) :
    k0_pay3 (k0_pay2 a b s) (ix2 r l) = s (ix2 r l) + ∑ k : Fin 2080, a (ix2 k r) * b (ix2 k l) := by
  pointwise [k0_pay3]
  exact half_apply a b s r l

/-- The printed index maps. -/
theorem maps : ∀ t : Fin cfg0.N, win0_0.index t = ![t.val % 2, t.val / 2] ∧ win0_1.index t = ![t.val % 2, 0]
    ∧ win0_2.index t = ![t.val / 2, 0] :=
  (by decide +kernel : ∀ t : Fin grid0.N, _)

/-- The result array after the run. -/
theorem final (c : Dev nD) : (dats m 0 c).arrAt 2 (cfgs 0).N
    = whole (m ((c : Thread nD τ).loc main_arg0)) (m ((c : Thread nD τ).loc main_arg1)) := by
  refine (dats m 0 c).arrAt_eq_of_covers 2 _ (by decide +kernel) fun t hf y => ?_
  have h1 : t.val % 2 = 1 := (flush0_2 t).mp hf
  have hp : (⟨t.val - 1, Nat.lt_of_le_of_lt (Nat.sub_le _ _) t.isLt⟩ : Fin cfg0.N).val % 2 = 0 := by dsimp only; omega
  blk_simp
  rw [after0_2, outsAt0_B m c t (by omega) h1, outsAt0_A m c ⟨t.val - 1, Nat.lt_of_le_of_lt (Nat.sub_le _ _) t.isLt⟩ hp (by omega)]
  frame_out
  rw [read_unread_whole]
  have h4 : t.val < 4 := lt_of_lt_of_eq t.isLt N_0
  refine Cert.Tile.product_halves (K := 4160) (K₁ := 2080) (K₂ := 2080) rfl start_apply (half_apply _ _ _) (last_apply _ _ _) (whole_apply _ _)
    (fun r => ⟨t.val / 2 * 1536 + r.val, by omega⟩) (fun l => l) (fun r l => ?_) (fun r k => ?_) (fun l k => ?_) (fun r k => ?_) (fun l k => ?_) y
  · blk_ext [maps t]
  · blk_point [iblk, V, maps ⟨t.val - 1, Nat.lt_of_le_of_lt (Nat.sub_le _ _) t.isLt⟩]
  · blk_point [iblk, V, maps ⟨t.val - 1, Nat.lt_of_le_of_lt (Nat.sub_le _ _) t.isLt⟩]
  · blk_point [iblk, V, maps t]
  · blk_point [iblk, V, maps t]

end Cert.WeightIdeal.Sum
-- ==== Proof.Back.Value.lean ====
/-
The gradient that goes back through an input projection as one formula of its three arguments, block of rows by block of rows.
-/
module

public import proofs.«01_k».proof.Proof.Gen.BackIdeal.Frame
public import proofs.«01_k».proof.Proof.Gen.BackReferenceIdeal.Run
public import proofs.«01_k».proof.Proof.Tile.Basic
public import Idealize.ShloMosaic.Lib.Pipeline.ValueKit
public import Idealize.ShloMosaic.Lib.Pointwise
public import Idealize.ShloMosaic.Lib.Pipeline.ReadBack

@[expose] public section

set_option maxRecDepth 16384

noncomputable section

namespace Cert.BackIdeal.Sum

open Idealize.ShloMosaic Idealize.ShloMosaic.TcCoe Idealize.SL.Sem
open Idealize.ShloMosaic.Pipeline (Dat)
open Cert.BackIdeal Cert.BackIdeal.Gen

variable (m : (ℓ : Loc nD τ sig) → Buf (Elt Ideal) ℓ)

/-- The reference's result as a function of the three arguments. -/
def whole (A : FVec Ideal S4160x3072 .bf16) (B : FVec Ideal S3072x1024 .bf16) (D : FVec Ideal S4160x1024 .f32) : FVec Ideal S4160x1024 .f32 :=
  addf D (Host.dotGeneral Cert.BackReferenceIdeal.dot_S4160x3072_S1024x3072_S4160x1024_1_1_0_0_n_n none
    (extf .f32 A Cert.BackReferenceIdeal.Gen.bitsLt_bf16_f32)
    (transpose Cert.BackReferenceIdeal.S1024x3072 [1, 0] (extf .f32 B Cert.BackReferenceIdeal.Gen.bitsLt_bf16_f32)
      Cert.BackReferenceIdeal.Gen.transposes_S3072x1024_S1024x3072_1_0))

/-- The reference at one place. -/
theorem whole_apply (A : FVec Ideal S4160x3072 .bf16) (B : FVec Ideal S3072x1024 .bf16) (D : FVec Ideal S4160x1024 .f32)
    (r : Fin 4160) (l : Fin 1024) : whole A B D (ix2 r l) = D (ix2 r l) + ∑ k : Fin 3072, A (ix2 r k) * B (ix2 k l) := by
  pointwise [whole]

/-- A block of the result at one place. -/
theorem block_apply (a : Vec Ideal S832x3072 .bf16) (b : Vec Ideal S3072x1024 .bf16) (d : Vec Ideal S832x1024 .f32) (r : Fin 832) (l : Fin 1024) :
    k0_pay1 a b d (ix2 r l) = d (ix2 r l) + ∑ k : Fin 3072, a (ix2 r k) * b (ix2 k l) := by
  pointwise [k0_pay1]
  exact add_comm _ _

/-- The printed index maps. -/
theorem maps : ∀ t : Fin cfg0.N, win0_0.index t = ![t.val, 0] ∧ win0_1.index t = ![0, 0] ∧ win0_2.index t = ![t.val, 0]
    ∧ win0_3.index t = ![t.val, 0] :=
  (by decide +kernel : ∀ t : Fin grid0.N, _)

/-- The result array after the run. -/
theorem final (c : Dev nD) : (dats m 0 c).arrAt 3 (cfgs 0).N
    = whole (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  have h5 : t.val < 5 := lt_of_lt_of_eq t.isLt N_0
  refine Cert.Tile.product_add (block_apply _ _ _) (whole_apply _ _ _) (fun r => ⟨t.val * 832 + r.val, by omega⟩) (fun l => l)
    (fun r l => ?_) (fun r l => ?_) (fun r k => ?_) (fun l k => ?_) y
  · blk_ext [maps t]
  · blk_point [iblk, V, maps t]
  · blk_point [iblk, V, maps t]
  · blk_point [iblk, V, maps t]

end Cert.BackIdeal.Sum
-- ==== Proof.Inward.Value.lean ====
/-
An input projection as one formula of its two arguments, block of rows by block of rows.
-/
module

public import proofs.«01_k».proof.Proof.Gen.InwardIdeal.Frame
public import proofs.«01_k».proof.Proof.Gen.InwardReferenceIdeal.Run
public import proofs.«01_k».proof.Proof.Tile.Basic
public import Idealize.ShloMosaic.Lib.Pipeline.ValueKit
public import Idealize.ShloMosaic.Lib.Pointwise
public import Idealize.ShloMosaic.Lib.Pipeline.ReadBack

@[expose] public section

set_option maxRecDepth 16384

noncomputable section

namespace Cert.InwardIdeal.Sum

open Idealize.ShloMosaic Idealize.ShloMosaic.TcCoe Idealize.SL.Sem
open Idealize.ShloMosaic.Pipeline (Dat)
open Cert.InwardIdeal Cert.InwardIdeal.Gen

variable (m : (ℓ : Loc nD τ sig) → Buf (Elt Ideal) ℓ)

/-- The reference's result as a function of the two arguments. -/
def whole (A : FVec Ideal S4160x1024 .bf16) (B : FVec Ideal S3072x1024 .bf16) : FVec Ideal S4160x3072 .f32 :=
  Host.dotGeneral Cert.InwardReferenceIdeal.dot_S4160x1024_S1024x3072_S4160x3072_1_0_0_1_n_n none
    (extf .f32 A Cert.InwardReferenceIdeal.Gen.bitsLt_bf16_f32)
    (transpose Cert.InwardReferenceIdeal.S1024x3072 [1, 0] (extf .f32 B Cert.InwardReferenceIdeal.Gen.bitsLt_bf16_f32)
      Cert.InwardReferenceIdeal.Gen.transposes_S3072x1024_S1024x3072_1_0)

/-- The reference at one place. -/
theorem whole_apply (A : FVec Ideal S4160x1024 .bf16) (B : FVec Ideal S3072x1024 .bf16) (r : Fin 4160) (l : Fin 3072) :
    whole A B (ix2 r l) = ∑ k : Fin 1024, A (ix2 r k) * B (ix2 l k) := by
  pointwise [whole]

/-- A block of the result at one place. -/
theorem block_apply (a : Vec Ideal S832x1024 .bf16) (b : Vec Ideal S3072x1024 .bf16) (r : Fin 832) (l : Fin 3072) :
    k0_pay1 a b (ix2 r l) = ∑ k : Fin 1024, a (ix2 r k) * b (ix2 l k) := by
  pointwise [k0_pay1]

/-- The printed index maps. -/
theorem maps : ∀ t : Fin cfg0.N, win0_0.index t = ![t.val, 0] ∧ win0_1.index t = ![0, 0] ∧ win0_2.index t = ![t.val, 0] :=
  (by decide +kernel : ∀ t : Fin grid0.N, _)

/-- The result array after the run. -/
theorem final (c : Dev nD) : (dats m 0 c).arrAt 2 (cfgs 0).N
    = whole (m ((c : Thread nD τ).loc main_arg0)) (m ((c : Thread nD τ).loc main_arg1)) := by
  refine (dats m 0 c).arrAt_eq_of_covers 2 _ (by decide +kernel) fun t hf y => ?_
  blk_simp
  rw [after0_2]
  frame_out
  have h5 : t.val < 5 := lt_of_lt_of_eq t.isLt N_0
  refine Cert.Tile.product (block_apply _ _) (whole_apply _ _) (fun r => ⟨t.val * 832 + r.val, by omega⟩) (fun l => l)
    (fun r l => ?_) (fun r k => ?_) (fun l k => ?_) y
  · blk_ext [maps t]
  · blk_point [iblk, V, maps t]
  · blk_point [iblk, V, maps t]

end Cert.InwardIdeal.Sum
-- ==== Proof.FirstBack.Value.lean ====
/-
The gradient that goes back through the first input projection, with nothing to add to, block of rows by block of rows.
-/
module

public import proofs.«01_k».proof.Proof.Gen.FirstBackIdeal.Frame
public import proofs.«01_k».proof.Proof.Gen.FirstBackReferenceIdeal.Run
public import proofs.«01_k».proof.Proof.Tile.Basic
public import Idealize.ShloMosaic.Lib.Pipeline.ValueKit
public import Idealize.ShloMosaic.Lib.Pointwise
public import Idealize.ShloMosaic.Lib.Pipeline.ReadBack

@[expose] public section

set_option maxRecDepth 16384

noncomputable section

namespace Cert.FirstBackIdeal.Sum

open Idealize.ShloMosaic Idealize.ShloMosaic.TcCoe Idealize.SL.Sem
open Idealize.ShloMosaic.Pipeline (Dat)
open Cert.FirstBackIdeal Cert.FirstBackIdeal.Gen

variable (m : (ℓ : Loc nD τ sig) → Buf (Elt Ideal) ℓ)

/-- The reference's result as a function of the two arguments. -/
def whole (A : FVec Ideal S4160x3072 .bf16) (B : FVec Ideal S3072x1024 .bf16) : FVec Ideal S4160x1024 .f32 :=
  Host.dotGeneral Cert.FirstBackReferenceIdeal.dot_S4160x3072_S1024x3072_S4160x1024_1_1_0_0_n_n none
    (extf .f32 A Cert.FirstBackReferenceIdeal.Gen.bitsLt_bf16_f32)
    (transpose Cert.FirstBackReferenceIdeal.S1024x3072 [1, 0] (extf .f32 B Cert.FirstBackReferenceIdeal.Gen.bitsLt_bf16_f32)
      Cert.FirstBackReferenceIdeal.Gen.transposes_S3072x1024_S1024x3072_1_0)

/-- The reference at one place. -/
theorem whole_apply (A : FVec Ideal S4160x3072 .bf16) (B : FVec Ideal S3072x1024 .bf16) (r : Fin 4160) (l : Fin 1024) :
    whole A B (ix2 r l) = ∑ k : Fin 3072, A (ix2 r k) * B (ix2 k l) := by
  pointwise [whole]

/-- A block of the result at one place. -/
theorem block_apply (a : Vec Ideal S832x3072 .bf16) (b : Vec Ideal S3072x1024 .bf16) (r : Fin 832) (l : Fin 1024) :
    k0_pay1 a b (ix2 r l) = ∑ k : Fin 3072, a (ix2 r k) * b (ix2 k l) := by
  pointwise [k0_pay1]

/-- The printed index maps. -/
theorem maps : ∀ t : Fin cfg0.N, win0_0.index t = ![t.val, 0] ∧ win0_1.index t = ![0, 0] ∧ win0_2.index t = ![t.val, 0] :=
  (by decide +kernel : ∀ t : Fin grid0.N, _)

/-- The result array after the run. -/
theorem final (c : Dev nD) : (dats m 0 c).arrAt 2 (cfgs 0).N
    = whole (m ((c : Thread nD τ).loc main_arg0)) (m ((c : Thread nD τ).loc main_arg1)) := by
  refine (dats m 0 c).arrAt_eq_of_covers 2 _ (by decide +kernel) fun t hf y => ?_
  blk_simp
  rw [after0_2]
  frame_out
  have h5 : t.val < 5 := lt_of_lt_of_eq t.isLt N_0
  refine Cert.Tile.product (block_apply _ _) (whole_apply _ _) (fun r => ⟨t.val * 832 + r.val, by omega⟩) (fun l => l)
    (fun r l => ?_) (fun r k => ?_) (fun l k => ?_) y
  · blk_ext [maps t]
  · blk_point [iblk, V, maps t]
  · blk_point [iblk, V, maps t]

end Cert.FirstBackIdeal.Sum
-- ==== Proof.BranchInward.Value.lean ====
/-
The projection to the wide branch as one formula of its two arguments, block by block of rows and columns.
-/
module

public import proofs.«01_k».proof.Proof.Gen.BranchInwardIdeal.Frame
public import proofs.«01_k».proof.Proof.Gen.BranchInwardReferenceIdeal.Run
public import proofs.«01_k».proof.Proof.Tile.Basic
public import Idealize.ShloMosaic.Lib.Pipeline.ValueKit
public import Idealize.ShloMosaic.Lib.Pointwise
public import Idealize.ShloMosaic.Lib.Pipeline.ReadBack

@[expose] public section

set_option maxRecDepth 16384

noncomputable section

namespace Cert.BranchInwardIdeal.Sum

open Idealize.ShloMosaic Idealize.ShloMosaic.TcCoe Idealize.SL.Sem
open Idealize.ShloMosaic.Pipeline (Dat)
open Cert.BranchInwardIdeal Cert.BranchInwardIdeal.Gen

variable (m : (ℓ : Loc nD τ sig) → Buf (Elt Ideal) ℓ)

/-- The reference's result as a function of the two arguments. -/
def whole (A : FVec Ideal S4160x1024 .bf16) (B : FVec Ideal S3456x1024 .bf16) : FVec Ideal S4160x3456 .f32 :=
  Host.dotGeneral Cert.BranchInwardReferenceIdeal.dot_S4160x1024_S1024x3456_S4160x3456_1_0_0_1_n_n none
    (extf .f32 A Cert.BranchInwardReferenceIdeal.Gen.bitsLt_bf16_f32)
    (transpose Cert.BranchInwardReferenceIdeal.S1024x3456 [1, 0] (extf .f32 B Cert.BranchInwardReferenceIdeal.Gen.bitsLt_bf16_f32)
      Cert.BranchInwardReferenceIdeal.Gen.transposes_S3456x1024_S1024x3456_1_0)

/-- The reference at one place. -/
theorem whole_apply (A : FVec Ideal S4160x1024 .bf16) (B : FVec Ideal S3456x1024 .bf16) (r : Fin 4160) (l : Fin 3456) :
    whole A B (ix2 r l) = ∑ k : Fin 1024, A (ix2 r k) * B (ix2 l k) := by
  pointwise [whole]

/-- A block of the result at one place. -/
theorem block_apply (a : Vec Ideal S832x1024 .bf16) (b : Vec Ideal S1152x1024 .bf16) (r : Fin 832) (l : Fin 1152) :
    k0_pay1 a b (ix2 r l) = ∑ k : Fin 1024, a (ix2 r k) * b (ix2 l k) := by
  pointwise [k0_pay1]

/-- The printed index maps. -/
theorem maps : ∀ t : Fin cfg0.N, win0_0.index t = ![t.val / 3, 0] ∧ win0_1.index t = ![t.val % 3, 0]
    ∧ win0_2.index t = ![t.val / 3, t.val % 3] :=
  (by decide +kernel : ∀ t : Fin grid0.N, _)

/-- The result array after the run. -/
theorem final (c : Dev nD) : (dats m 0 c).arrAt 2 (cfgs 0).N
    = whole (m ((c : Thread nD τ).loc main_arg0)) (m ((c : Thread nD τ).loc main_arg1)) := by
  refine (dats m 0 c).arrAt_eq_of_covers 2 _ (by decide +kernel) fun t hf y => ?_
  blk_simp
  rw [after0_2]
  frame_out
  have h15 : t.val < 15 := lt_of_lt_of_eq t.isLt N_0
  refine Cert.Tile.product (block_apply _ _) (whole_apply _ _) (fun r => ⟨t.val / 3 * 832 + r.val, by omega⟩)
    (fun l => ⟨t.val % 3 * 1152 + l.val, by omega⟩)
    (fun r l => ?_) (fun r k => ?_) (fun l k => ?_) y
  · blk_ext [maps t]
  · blk_point [iblk, V, maps t]
  · blk_point [iblk, V, maps t]

end Cert.BranchInwardIdeal.Sum
-- ==== Proof.BranchWeight.Value.lean ====
/-
The weight gradient of the projection to the wide branch as one formula of its two arguments: the two halves of the rows
added up are the reference's contraction over all the rows.
-/
module

public import proofs.«01_k».proof.Proof.Gen.BranchWeightIdeal.Frame
public import proofs.«01_k».proof.Proof.Gen.BranchWeightReferenceIdeal.Run
public import proofs.«01_k».proof.Proof.Tile.Basic
public import Idealize.ShloMosaic.Lib.Pipeline.ValueKit
public import Idealize.ShloMosaic.Lib.Pointwise
public import Idealize.ShloMosaic.Lib.Pipeline.ReadBack

@[expose] public section

set_option maxRecDepth 16384

noncomputable section

namespace Cert.BranchWeightIdeal.Sum

open Idealize.ShloMosaic Idealize.ShloMosaic.TcCoe Idealize.SL.Sem
open Idealize.ShloMosaic.Pipeline (Dat)
open Cert.BranchWeightIdeal Cert.BranchWeightIdeal.Gen

variable (m : (ℓ : Loc nD τ sig) → Buf (Elt Ideal) ℓ)

/-- The reference's result as a function of the two arguments. -/
def whole (A : FVec Ideal S4160x3456 .bf16) (B : FVec Ideal S4160x1024 .bf16) : FVec Ideal S3456x1024 .bf16 :=
  truncf .bf16 (transpose S3456x1024 [1, 0] (transpose Cert.BranchWeightReferenceIdeal.S1024x3456 [1, 0]
    (Host.dotGeneral Cert.BranchWeightReferenceIdeal.dot_S4160x3456_S4160x1024_S3456x1024_0_0_1_1_n_n none
      (extf .f32 A Cert.BranchWeightReferenceIdeal.Gen.bitsLt_bf16_f32) (extf .f32 B Cert.BranchWeightReferenceIdeal.Gen.bitsLt_bf16_f32))
    Cert.BranchWeightReferenceIdeal.Gen.transposes_S3456x1024_S1024x3456_1_0) Cert.BranchWeightReferenceIdeal.Gen.transposes_S1024x3456_S3456x1024_1_0)
    Cert.BranchWeightReferenceIdeal.Gen.bitsLt_bf16_f32

/-- The reference at one place: a sum over all the rows. -/
theorem whole_apply (A : FVec Ideal S4160x3456 .bf16) (B : FVec Ideal S4160x1024 .bf16) (r : Fin 3456) (l : Fin 1024) :
    whole A B (ix2 r l) = ∑ k : Fin 4160, A (ix2 k r) * B (ix2 k l) := by
  pointwise [whole]

/-- What one half of the rows adds to the running sum. -/
theorem half_apply (a : Vec Ideal S2080x1152 .bf16) (b : Vec Ideal S2080x1024 .bf16) (s : Vec Ideal S1152x1024 .f32) (r : Fin 1152) (l : Fin 1024) :
    k0_pay2 a b s (ix2 r l) = s (ix2 r l) + ∑ k : Fin 2080, a (ix2 k r) * b (ix2 k l) := by
  pointwise [k0_pay2]

theorem start_apply (r : Fin 1152) (l : Fin 1024) : k0_pay1 (F := Ideal) (ix2 r l) = 0 := by pointwise [k0_pay1]

/-- What the last half leaves is the sum it reached. -/
theorem last_apply (a : Vec Ideal S2080x1152 .bf16) (b : Vec Ideal S2080x1024 .bf16) (s : Vec Ideal S1152x1024 .f32) (r : Fin 1152) (l : Fin 1024) :
    k0_pay3 (k0_pay2 a b s) (ix2 r l) = s (ix2 r l) + ∑ k : Fin 2080, a (ix2 k r) * b (ix2 k l) := by
  pointwise [k0_pay3]
  exact half_apply a b s r l

/-- The printed index maps. -/
theorem maps : ∀ t : Fin cfg0.N, win0_0.index t = ![t.val % 2, t.val / 2] ∧ win0_1.index t = ![t.val % 2, 0]
    ∧ win0_2.index t = ![t.val / 2, 0] :=
  (by decide +kernel : ∀ t : Fin grid0.N, _)

/-- The result array after the run. -/
theorem final (c : Dev nD) : (dats m 0 c).arrAt 2 (cfgs 0).N
    = whole (m ((c : Thread nD τ).loc main_arg0)) (m ((c : Thread nD τ).loc main_arg1)) := by
  refine (dats m 0 c).arrAt_eq_of_covers 2 _ (by decide +kernel) fun t hf y => ?_
  have h1 : t.val % 2 = 1 := (flush0_2 t).mp hf
  have hp : (⟨t.val - 1, Nat.lt_of_le_of_lt (Nat.sub_le _ _) t.isLt⟩ : Fin cfg0.N).val % 2 = 0 := by dsimp only; omega
  blk_simp
  rw [after0_2, outsAt0_B m c t (by omega) h1, outsAt0_A m c ⟨t.val - 1, Nat.lt_of_le_of_lt (Nat.sub_le _ _) t.isLt⟩ hp (by omega)]
  frame_out
  rw [read_unread_whole]
  have h6 : t.val < 6 := lt_of_lt_of_eq t.isLt N_0
  refine Cert.Tile.product_halves (K := 4160) (K₁ := 2080) (K₂ := 2080) rfl start_apply (half_apply _ _ _) (last_apply _ _ _) (whole_apply _ _)
    (fun r => ⟨t.val / 2 * 1152 + r.val, by omega⟩) (fun l => l) (fun r l => ?_) (fun r k => ?_) (fun l k => ?_) (fun r k => ?_) (fun l k => ?_) y
  · blk_ext [maps t]
  · blk_point [iblk, V, maps ⟨t.val - 1, Nat.lt_of_le_of_lt (Nat.sub_le _ _) t.isLt⟩]
  · blk_point [iblk, V, maps ⟨t.val - 1, Nat.lt_of_le_of_lt (Nat.sub_le _ _) t.isLt⟩]
  · blk_point [iblk, V, maps t]
  · blk_point [iblk, V, maps t]

end Cert.BranchWeightIdeal.Sum
-- ==== Proof.BranchBack.Value.lean ====
/-
The gradient that goes back through the projection to the wide branch, block of rows by block of rows.
-/
module

public import proofs.«01_k».proof.Proof.Gen.BranchBackIdeal.Frame
public import proofs.«01_k».proof.Proof.Gen.BranchBackReferenceIdeal.Run
public import proofs.«01_k».proof.Proof.Tile.Basic
public import Idealize.ShloMosaic.Lib.Pipeline.ValueKit
public import Idealize.ShloMosaic.Lib.Pointwise
public import Idealize.ShloMosaic.Lib.Pipeline.ReadBack

@[expose] public section

set_option maxRecDepth 16384

noncomputable section

namespace Cert.BranchBackIdeal.Sum

open Idealize.ShloMosaic Idealize.ShloMosaic.TcCoe Idealize.SL.Sem
open Idealize.ShloMosaic.Pipeline (Dat)
open Cert.BranchBackIdeal Cert.BranchBackIdeal.Gen

variable (m : (ℓ : Loc nD τ sig) → Buf (Elt Ideal) ℓ)

/-- The reference's result as a function of the three arguments. -/
def whole (A : FVec Ideal S4160x3456 .bf16) (B : FVec Ideal S3456x1024 .bf16) (D : FVec Ideal S4160x1024 .f32) : FVec Ideal S4160x1024 .f32 :=
  addf D (Host.dotGeneral Cert.BranchBackReferenceIdeal.dot_S4160x3456_S1024x3456_S4160x1024_1_1_0_0_n_n none
    (extf .f32 A Cert.BranchBackReferenceIdeal.Gen.bitsLt_bf16_f32)
    (transpose Cert.BranchBackReferenceIdeal.S1024x3456 [1, 0] (extf .f32 B Cert.BranchBackReferenceIdeal.Gen.bitsLt_bf16_f32)
      Cert.BranchBackReferenceIdeal.Gen.transposes_S3456x1024_S1024x3456_1_0))

/-- The reference at one place. -/
theorem whole_apply (A : FVec Ideal S4160x3456 .bf16) (B : FVec Ideal S3456x1024 .bf16) (D : FVec Ideal S4160x1024 .f32)
    (r : Fin 4160) (l : Fin 1024) : whole A B D (ix2 r l) = D (ix2 r l) + ∑ k : Fin 3456, A (ix2 r k) * B (ix2 k l) := by
  pointwise [whole]

/-- A block of the result at one place. -/
theorem block_apply (a : Vec Ideal S832x3456 .bf16) (b : Vec Ideal S3456x1024 .bf16) (d : Vec Ideal S832x1024 .f32) (r : Fin 832) (l : Fin 1024) :
    k0_pay1 a b d (ix2 r l) = d (ix2 r l) + ∑ k : Fin 3456, a (ix2 r k) * b (ix2 k l) := by
  pointwise [k0_pay1]
  exact add_comm _ _

/-- The printed index maps. -/
theorem maps : ∀ t : Fin cfg0.N, win0_0.index t = ![t.val, 0] ∧ win0_1.index t = ![0, 0] ∧ win0_2.index t = ![t.val, 0]
    ∧ win0_3.index t = ![t.val, 0] :=
  (by decide +kernel : ∀ t : Fin grid0.N, _)

/-- The result array after the run. -/
theorem final (c : Dev nD) : (dats m 0 c).arrAt 3 (cfgs 0).N
    = whole (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  have h5 : t.val < 5 := lt_of_lt_of_eq t.isLt N_0
  refine Cert.Tile.product_add (block_apply _ _ _) (whole_apply _ _ _) (fun r => ⟨t.val * 832 + r.val, by omega⟩) (fun l => l)
    (fun r l => ?_) (fun r l => ?_) (fun r k => ?_) (fun l k => ?_) y
  · blk_ext [maps t]
  · blk_point [iblk, V, maps t]
  · blk_point [iblk, V, maps t]
  · blk_point [iblk, V, maps t]

end Cert.BranchBackIdeal.Sum
-- ==== Proof.Outward.Value.lean ====
/-
The output projection, added to the rows it joins, as one formula of its three arguments, block of rows by block of rows.
-/
module

public import proofs.«01_k».proof.Proof.Gen.OutwardIdeal.Frame
public import proofs.«01_k».proof.Proof.Gen.OutwardReferenceIdeal.Run
public import proofs.«01_k».proof.Proof.Tile.Basic
public import Idealize.ShloMosaic.Lib.Pipeline.ValueKit
public import Idealize.ShloMosaic.Lib.Pointwise
public import Idealize.ShloMosaic.Lib.Pipeline.ReadBack

@[expose] public section

set_option maxRecDepth 16384

noncomputable section

namespace Cert.OutwardIdeal.Sum

open Idealize.ShloMosaic Idealize.ShloMosaic.TcCoe Idealize.SL.Sem
open Idealize.ShloMosaic.Pipeline (Dat)
open Cert.OutwardIdeal Cert.OutwardIdeal.Gen

variable (m : (ℓ : Loc nD τ sig) → Buf (Elt Ideal) ℓ)

/-- The reference's result as a function of the three arguments. -/
def whole (A : FVec Ideal S4160x1024 .bf16) (B : FVec Ideal S1024x1024 .bf16) (D : FVec Ideal S4160x1024 .f32) : FVec Ideal S4160x1024 .f32 :=
  addf D (Host.dotGeneral Cert.OutwardReferenceIdeal.dot_S4160x1024_S1024x1024_S4160x1024_1_0_0_1_n_n none
    (extf .f32 A Cert.OutwardReferenceIdeal.Gen.bitsLt_bf16_f32) (extf .f32 B Cert.OutwardReferenceIdeal.Gen.bitsLt_bf16_f32))

/-- The reference at one place. -/
theorem whole_apply (A : FVec Ideal S4160x1024 .bf16) (B : FVec Ideal S1024x1024 .bf16) (D : FVec Ideal S4160x1024 .f32)
    (r : Fin 4160) (l : Fin 1024) : whole A B D (ix2 r l) = D (ix2 r l) + ∑ k : Fin 1024, A (ix2 r k) * B (ix2 k l) := by
  pointwise [whole]

/-- A block of the result at one place. -/
theorem block_apply (a : Vec Ideal S832x1024 .bf16) (b : Vec Ideal S1024x1024 .bf16) (d : Vec Ideal S832x1024 .f32) (r : Fin 832) (l : Fin 1024) :
    k0_pay1 a b d (ix2 r l) = d (ix2 r l) + ∑ k : Fin 1024, a (ix2 r k) * b (ix2 k l) := by
  pointwise [k0_pay1]
  exact add_comm _ _

/-- The printed index maps. -/
theorem maps : ∀ t : Fin cfg0.N, win0_0.index t = ![t.val, 0] ∧ win0_1.index t = ![0, 0] ∧ win0_2.index t = ![t.val, 0]
    ∧ win0_3.index t = ![t.val, 0] :=
  (by decide +kernel : ∀ t : Fin grid0.N, _)

/-- The result array after the run. -/
theorem final (c : Dev nD) : (dats m 0 c).arrAt 3 (cfgs 0).N
    = whole (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  have h5 : t.val < 5 := lt_of_lt_of_eq t.isLt N_0
  refine Cert.Tile.product_add (block_apply _ _ _) (whole_apply _ _ _) (fun r => ⟨t.val * 832 + r.val, by omega⟩) (fun l => l)
    (fun r l => ?_) (fun r l => ?_) (fun r k => ?_) (fun l k => ?_) y
  · blk_ext [maps t]
  · blk_point [iblk, V, maps t]
  · blk_point [iblk, V, maps t]
  · blk_point [iblk, V, maps t]

end Cert.OutwardIdeal.Sum
-- ==== Proof.OutwardWeight.Value.lean ====
/-
The weight gradient of the output projection as one formula of its two arguments: the two halves of the rows added up are
the reference's contraction over all the rows.
-/
module

public import proofs.«01_k».proof.Proof.Gen.OutwardWeightIdeal.Frame
public import proofs.«01_k».proof.Proof.Gen.OutwardWeightReferenceIdeal.Run
public import proofs.«01_k».proof.Proof.Tile.Basic
public import Idealize.ShloMosaic.Lib.Pipeline.ValueKit
public import Idealize.ShloMosaic.Lib.Pointwise
public import Idealize.ShloMosaic.Lib.Pipeline.ReadBack

@[expose] public section

set_option maxRecDepth 16384

noncomputable section

namespace Cert.OutwardWeightIdeal.Sum

open Idealize.ShloMosaic Idealize.ShloMosaic.TcCoe Idealize.SL.Sem
open Idealize.ShloMosaic.Pipeline (Dat)
open Cert.OutwardWeightIdeal Cert.OutwardWeightIdeal.Gen

variable (m : (ℓ : Loc nD τ sig) → Buf (Elt Ideal) ℓ)

/-- The reference's result as a function of the two arguments. -/
def whole (A : FVec Ideal S4160x1024 .bf16) (B : FVec Ideal S4160x1024 .bf16) : FVec Ideal S1024x1024 .bf16 :=
  truncf .bf16 (transpose S1024x1024 [1, 0]
    (Host.dotGeneral Cert.OutwardWeightReferenceIdeal.dot_S4160x1024_S4160x1024_S1024x1024_0_0_1_1_n_n none
      (extf .f32 B Cert.OutwardWeightReferenceIdeal.Gen.bitsLt_bf16_f32) (extf .f32 A Cert.OutwardWeightReferenceIdeal.Gen.bitsLt_bf16_f32))
    Cert.OutwardWeightReferenceIdeal.Gen.transposes_S1024x1024_S1024x1024_1_0) Cert.OutwardWeightReferenceIdeal.Gen.bitsLt_bf16_f32

/-- The reference at one place: a sum over all the rows. -/
theorem whole_apply (A : FVec Ideal S4160x1024 .bf16) (B : FVec Ideal S4160x1024 .bf16) (r : Fin 1024) (l : Fin 1024) :
    whole A B (ix2 r l) = ∑ k : Fin 4160, A (ix2 k r) * B (ix2 k l) := by
  pointwise [whole]
  exact Finset.sum_congr rfl fun k _ => mul_comm _ _

/-- What one half of the rows adds to the running sum. -/
theorem half_apply (a : Vec Ideal S2080x1024 .bf16) (b : Vec Ideal S2080x1024 .bf16) (s : Vec Ideal S1024x1024 .f32) (r : Fin 1024) (l : Fin 1024) :
    k0_pay2 a b s (ix2 r l) = s (ix2 r l) + ∑ k : Fin 2080, a (ix2 k r) * b (ix2 k l) := by
  pointwise [k0_pay2]

theorem start_apply (r : Fin 1024) (l : Fin 1024) : k0_pay1 (F := Ideal) (ix2 r l) = 0 := by pointwise [k0_pay1]

/-- What the last half leaves is the sum it reached. -/
theorem last_apply (a : Vec Ideal S2080x1024 .bf16) (b : Vec Ideal S2080x1024 .bf16) (s : Vec Ideal S1024x1024 .f32) (r : Fin 1024) (l : Fin 1024) :
    k0_pay3 (k0_pay2 a b s) (ix2 r l) = s (ix2 r l) + ∑ k : Fin 2080, a (ix2 k r) * b (ix2 k l) := by
  pointwise [k0_pay3]
  exact half_apply a b s r l

/-- The printed index maps. -/
theorem maps : ∀ t : Fin cfg0.N, win0_0.index t = ![t.val % 2, 0] ∧ win0_1.index t = ![t.val % 2, 0]
    ∧ win0_2.index t = ![0, 0] :=
  (by decide +kernel : ∀ t : Fin grid0.N, _)

/-- The result array after the run. -/
theorem final (c : Dev nD) : (dats m 0 c).arrAt 2 (cfgs 0).N
    = whole (m ((c : Thread nD τ).loc main_arg0)) (m ((c : Thread nD τ).loc main_arg1)) := by
  refine (dats m 0 c).arrAt_eq_of_covers 2 _ (by decide +kernel) fun t hf y => ?_
  have h1 : t.val % 2 = 1 := (flush0_2 t).mp hf
  have hp : (⟨t.val - 1, Nat.lt_of_le_of_lt (Nat.sub_le _ _) t.isLt⟩ : Fin cfg0.N).val % 2 = 0 := by dsimp only; omega
  blk_simp
  rw [after0_2, outsAt0_B m c t (by omega) h1, outsAt0_A m c ⟨t.val - 1, Nat.lt_of_le_of_lt (Nat.sub_le _ _) t.isLt⟩ hp (by omega)]
  frame_out
  rw [read_unread_whole]
  have h2 : t.val < 2 := lt_of_lt_of_eq t.isLt N_0
  refine Cert.Tile.product_halves (K := 4160) (K₁ := 2080) (K₂ := 2080) rfl start_apply (half_apply _ _ _) (last_apply _ _ _) (whole_apply _ _)
    (fun r => r) (fun l => l) (fun r l => ?_) (fun r k => ?_) (fun l k => ?_) (fun r k => ?_) (fun l k => ?_) y
  · blk_ext [maps t]
  · blk_point [iblk, V, maps ⟨t.val - 1, Nat.lt_of_le_of_lt (Nat.sub_le _ _) t.isLt⟩]
  · blk_point [iblk, V, maps ⟨t.val - 1, Nat.lt_of_le_of_lt (Nat.sub_le _ _) t.isLt⟩]
  · blk_point [iblk, V, maps t]
  · blk_point [iblk, V, maps t]

end Cert.OutwardWeightIdeal.Sum
-- ==== Proof.OutwardBack.Value.lean ====
/-
The gradient that goes back through the output projection as one formula of its two arguments, block of rows by block of rows.
-/
module

public import proofs.«01_k».proof.Proof.Gen.OutwardBackIdeal.Frame
public import proofs.«01_k».proof.Proof.Gen.OutwardBackReferenceIdeal.Run
public import proofs.«01_k».proof.Proof.Tile.Basic
public import Idealize.ShloMosaic.Lib.Pipeline.ValueKit
public import Idealize.ShloMosaic.Lib.Pointwise
public import Idealize.ShloMosaic.Lib.Pipeline.ReadBack

@[expose] public section

set_option maxRecDepth 16384

noncomputable section

namespace Cert.OutwardBackIdeal.Sum

open Idealize.ShloMosaic Idealize.ShloMosaic.TcCoe Idealize.SL.Sem
open Idealize.ShloMosaic.Pipeline (Dat)
open Cert.OutwardBackIdeal Cert.OutwardBackIdeal.Gen

variable (m : (ℓ : Loc nD τ sig) → Buf (Elt Ideal) ℓ)

/-- The reference's result as a function of the two arguments. -/
def whole (A : FVec Ideal S4160x1024 .bf16) (B : FVec Ideal S1024x1024 .bf16) : FVec Ideal S4160x1024 .f32 :=
  Host.dotGeneral Cert.OutwardBackReferenceIdeal.dot_S4160x1024_S1024x1024_S4160x1024_1_1_0_0_n_n none
    (extf .f32 A Cert.OutwardBackReferenceIdeal.Gen.bitsLt_bf16_f32) (extf .f32 B Cert.OutwardBackReferenceIdeal.Gen.bitsLt_bf16_f32)

/-- The reference at one place. -/
theorem whole_apply (A : FVec Ideal S4160x1024 .bf16) (B : FVec Ideal S1024x1024 .bf16) (r : Fin 4160) (l : Fin 1024) :
    whole A B (ix2 r l) = ∑ k : Fin 1024, A (ix2 r k) * B (ix2 l k) := by
  pointwise [whole]

/-- A block of the result at one place. -/
theorem block_apply (a : Vec Ideal S832x1024 .bf16) (b : Vec Ideal S1024x1024 .bf16) (r : Fin 832) (l : Fin 1024) :
    k0_pay1 a b (ix2 r l) = ∑ k : Fin 1024, a (ix2 r k) * b (ix2 l k) := by
  pointwise [k0_pay1]

/-- The printed index maps. -/
theorem maps : ∀ t : Fin cfg0.N, win0_0.index t = ![t.val, 0] ∧ win0_1.index t = ![0, 0] ∧ win0_2.index t = ![t.val, 0] :=
  (by decide +kernel : ∀ t : Fin grid0.N, _)

/-- The result array after the run. -/
theorem final (c : Dev nD) : (dats m 0 c).arrAt 2 (cfgs 0).N
    = whole (m ((c : Thread nD τ).loc main_arg0)) (m ((c : Thread nD τ).loc main_arg1)) := by
  refine (dats m 0 c).arrAt_eq_of_covers 2 _ (by decide +kernel) fun t hf y => ?_
  blk_simp
  rw [after0_2]
  frame_out
  have h5 : t.val < 5 := lt_of_lt_of_eq t.isLt N_0
  refine Cert.Tile.product (block_apply _ _) (whole_apply _ _) (fun r => ⟨t.val * 832 + r.val, by omega⟩) (fun l => l)
    (fun r l => ?_) (fun r k => ?_) (fun l k => ?_) y
  · blk_ext [maps t]
  · blk_point [iblk, V, maps t]
  · blk_point [iblk, V, maps t]

end Cert.OutwardBackIdeal.Sum
-- ==== Proof.lean ====
/- The claims, assembled.

   For the fused backward pass of the feed-forward half-step (`Kernel`): it runs, leaves its arguments as they were and
   every semaphore at zero, both as a program over machine words and over the reals; one run, stated over any element
   model in `Ffn.Run`, gives both. On finite arguments its eight arrays are those of the half-step's derivative, which the
   plain reference computes: `Ffn.Results` and `Ffn.ReferenceRun` write both by the same formulas of real numbers.
   For the product that makes a weight gradient from the stacked column slabs (`Product`): the same frames, and its
   array is the gradient which the plain reference computes (`Product.Value`).
   For the forward pass of the half-step (`Forward`) and for the three calls around an input projection, its forward product
   (`Inward`), the weight's gradient (`Weight`) and the gradient handed back (`Back`): the frames, and the array of each is
   the one its plain reference computes. The same for a first gradient with nothing to add to (`FirstBack`), for the three
   calls around the projection to the wide branch (`BranchInward`, `BranchWeight`, `BranchBack`), and for the three around
   the output projection (`Outward`, `OutwardWeight`, `OutwardBack`). -/
module

public import proofs.«01_k».proof.Defs
public import proofs.«01_k».proof.Proof.Gen.Kernel
public import proofs.«01_k».proof.Proof.Gen.ReferenceIdeal.Run
public import proofs.«01_k».proof.Proof.Gen.Product.Frame
public import proofs.«01_k».proof.Proof.Gen.ProductIdeal.Frame
public import proofs.«01_k».proof.Proof.Gen.ProductReferenceIdeal.Run
public import proofs.«01_k».proof.Proof.Gen.Forward.Frame
public import proofs.«01_k».proof.Proof.Gen.ForwardIdeal.Frame
public import proofs.«01_k».proof.Proof.Gen.ForwardReferenceIdeal.Run
public import proofs.«01_k».proof.Proof.Gen.Weight.Frame
public import proofs.«01_k».proof.Proof.Gen.WeightIdeal.Frame
public import proofs.«01_k».proof.Proof.Gen.WeightReferenceIdeal.Run
public import proofs.«01_k».proof.Proof.Gen.Back.Frame
public import proofs.«01_k».proof.Proof.Gen.BackIdeal.Frame
public import proofs.«01_k».proof.Proof.Gen.BackReferenceIdeal.Run
public import proofs.«01_k».proof.Proof.Gen.FirstBack.Frame
public import proofs.«01_k».proof.Proof.Gen.FirstBackIdeal.Frame
public import proofs.«01_k».proof.Proof.Gen.FirstBackReferenceIdeal.Run
public import proofs.«01_k».proof.Proof.Gen.BranchInward.Frame
public import proofs.«01_k».proof.Proof.Gen.BranchInwardIdeal.Frame
public import proofs.«01_k».proof.Proof.Gen.BranchInwardReferenceIdeal.Run
public import proofs.«01_k».proof.Proof.Gen.BranchWeight.Frame
public import proofs.«01_k».proof.Proof.Gen.BranchWeightIdeal.Frame
public import proofs.«01_k».proof.Proof.Gen.BranchWeightReferenceIdeal.Run
public import proofs.«01_k».proof.Proof.Gen.BranchBack.Frame
public import proofs.«01_k».proof.Proof.Gen.BranchBackIdeal.Frame
public import proofs.«01_k».proof.Proof.Gen.BranchBackReferenceIdeal.Run
public import proofs.«01_k».proof.Proof.Gen.Outward.Frame
public import proofs.«01_k».proof.Proof.Gen.OutwardIdeal.Frame
public import proofs.«01_k».proof.Proof.Gen.OutwardReferenceIdeal.Run
public import proofs.«01_k».proof.Proof.Gen.OutwardWeight.Frame
public import proofs.«01_k».proof.Proof.Gen.OutwardWeightIdeal.Frame
public import proofs.«01_k».proof.Proof.Gen.OutwardWeightReferenceIdeal.Run
public import proofs.«01_k».proof.Proof.Gen.OutwardBack.Frame
public import proofs.«01_k».proof.Proof.Gen.OutwardBackIdeal.Frame
public import proofs.«01_k».proof.Proof.Gen.OutwardBackReferenceIdeal.Run
public import proofs.«01_k».proof.Proof.Gen.Inward.Frame
public import proofs.«01_k».proof.Proof.Gen.InwardIdeal.Frame
public import proofs.«01_k».proof.Proof.Gen.InwardReferenceIdeal.Run
public import proofs.«01_k».proof.Proof.Ffn.Same
public import proofs.«01_k».proof.Proof.Ffn.Results
public import proofs.«01_k».proof.Proof.Ffn.Finite
public import proofs.«01_k».proof.Proof.Ffn.ReferenceRun
public import proofs.«01_k».proof.Proof.Product.Value
public import proofs.«01_k».proof.Proof.Forward.Value
public import proofs.«01_k».proof.Proof.Weight.Value
public import proofs.«01_k».proof.Proof.Back.Value
public import proofs.«01_k».proof.Proof.Inward.Value
public import proofs.«01_k».proof.Proof.FirstBack.Value
public import proofs.«01_k».proof.Proof.BranchInward.Value
public import proofs.«01_k».proof.Proof.BranchWeight.Value
public import proofs.«01_k».proof.Proof.BranchBack.Value
public import proofs.«01_k».proof.Proof.Outward.Value
public import proofs.«01_k».proof.Proof.OutwardWeight.Value
public import proofs.«01_k».proof.Proof.OutwardBack.Value
public import Idealize.ShloMosaic.Adequacy
public import Idealize.ShloMosaic.Init
public import Idealize.ShloMosaic.Lib.Claim

@[expose] public section

namespace Cert.Proof

open Idealize Idealize.ShloMosaic

/-- The fused backward pass over machine words: the run of `Ffn.Run` at that element model. -/
theorem frame_kernel : Cert.quiescent_Kernel := fun m ρ _ => Cert.KernelIdeal.Ffn.framed_words m ρ

/-- The fused backward pass over the reals: the same run. -/
theorem frame_kernelIdeal : Cert.quiescent_KernelIdeal := fun m ρ _ => Cert.KernelIdeal.Ffn.framed m ρ

/-- The reference of the fused backward pass has no semaphores, and its run keeps the arguments. -/
theorem frame_reference : Cert.quiescent_ReferenceIdeal := fun m ρ _ =>
  (θ_run Cert.ReferenceIdeal.defs _ _).mono
    (fun r h => ⟨fun c => (h c).2.2.2.2.2.2.2.2, sem_eq_zero_of_no_sems (by decide) r.2⟩)
    (Cert.ReferenceIdeal.Value.run m ρ)

/-- The product over machine words. -/
theorem frame_product : Cert.quiescent_Product := fun m ρ _ => Cert.Product.Gen.frame m ρ

/-- The product over the reals. -/
theorem frame_productIdeal : Cert.quiescent_ProductIdeal := fun m ρ _ => Cert.ProductIdeal.Gen.frame m ρ

/-- The reference of the product has no semaphores, and its run keeps the arguments. -/
theorem frame_productReference : Cert.quiescent_ProductReferenceIdeal := fun m ρ _ =>
  (θ_run Cert.ProductReferenceIdeal.defs _ _).mono
    (fun r h => ⟨fun c => (h c).2, sem_eq_zero_of_no_sems (by decide) r.2⟩)
    (Cert.ProductReferenceIdeal.Value.run m ρ)

/-- The product's array is the weight gradient of the reference. -/
theorem product_is_gradient : Cert.algebraic_ProductIdeal_ProductReferenceIdeal := by
  pair_intro
  · run_from Cert.ProductIdeal.Gen.run_main m g
  · run_from Cert.ProductReferenceIdeal.Value.run m' g'
    exact (Cert.ProductIdeal.Sum.final m _).symm

/-- On finite arguments the fused backward pass gives the half-step's derivative: both programs end with the same formulas
of real numbers. -/
theorem backward_is_gradient :
    Cert.algebraic_KernelIdeal_ReferenceIdeal_pre_finite (hPre_finite := Cert.Finite.facts) := by
  intro m g m' g' hpre hagree
  choose h n o w u H using Cert.Finite.holds m hpre
  exact ⟨_, _, _, _, _, _, _, _, Cert.KernelIdeal.Ffn.valued H g, Cert.ReferenceIdeal.Stages.valued
    (fun c => (hagree c).1.trans (H c).h0) (fun c => (hagree c).2.1.trans (H c).h1) (fun c => (hagree c).2.2.1.trans (H c).h2)
    (fun c => (hagree c).2.2.2.1.trans (H c).h3) (fun c => (hagree c).2.2.2.2.trans (H c).h4) g'⟩

/-- The forward pass of the half-step, over machine words. -/
theorem frame_forward : Cert.quiescent_Forward := fun m ρ _ => Cert.Forward.Gen.frame m ρ

/-- The forward pass of the half-step, over the reals. -/
theorem frame_forwardIdeal : Cert.quiescent_ForwardIdeal := fun m ρ _ => Cert.ForwardIdeal.Gen.frame m ρ

/-- Its reference has no semaphores, and its run keeps the arguments. -/
theorem frame_forwardReference : Cert.quiescent_ForwardReferenceIdeal := fun m ρ _ =>
  (θ_run Cert.ForwardReferenceIdeal.defs _ _).mono
    (fun r h => ⟨fun c => (h c).2, sem_eq_zero_of_no_sems (by decide) r.2⟩)
    (Cert.ForwardReferenceIdeal.Value.run m ρ)

/-- The forward pass of the half-step gives the rows the reference gives. -/
theorem forward_is_half_step : Cert.algebraic_ForwardIdeal_ForwardReferenceIdeal := by
  pair_intro
  · run_from Cert.ForwardIdeal.Gen.run_main m g
  · run_from Cert.ForwardReferenceIdeal.Value.run m' g'
    exact (Cert.ForwardIdeal.Sum.final m _).symm

/-- The weight gradient of the projection, over machine words. -/
theorem frame_weight : Cert.quiescent_Weight := fun m ρ _ => Cert.Weight.Gen.frame m ρ

/-- The weight gradient of the projection, over the reals. -/
theorem frame_weightIdeal : Cert.quiescent_WeightIdeal := fun m ρ _ => Cert.WeightIdeal.Gen.frame m ρ

/-- Its reference has no semaphores, and its run keeps the arguments. -/
theorem frame_weightReference : Cert.quiescent_WeightReferenceIdeal := fun m ρ _ =>
  (θ_run Cert.WeightReferenceIdeal.defs _ _).mono
    (fun r h => ⟨fun c => (h c).2, sem_eq_zero_of_no_sems (by decide) r.2⟩)
    (Cert.WeightReferenceIdeal.Value.run m ρ)

/-- The gradient of the projection's weight is the derivative the reference takes. -/
theorem weight_is_gradient : Cert.algebraic_WeightIdeal_WeightReferenceIdeal := by
  pair_intro
  · run_from Cert.WeightIdeal.Gen.run_main m g
  · run_from Cert.WeightReferenceIdeal.Value.run m' g'
    exact (Cert.WeightIdeal.Sum.final m _).symm

/-- The gradient handed back through the projection, over machine words. -/
theorem frame_back : Cert.quiescent_Back := fun m ρ _ => Cert.Back.Gen.frame m ρ

/-- The gradient handed back through the projection, over the reals. -/
theorem frame_backIdeal : Cert.quiescent_BackIdeal := fun m ρ _ => Cert.BackIdeal.Gen.frame m ρ

/-- Its reference has no semaphores, and its run keeps the arguments. -/
theorem frame_backReference : Cert.quiescent_BackReferenceIdeal := fun m ρ _ =>
  (θ_run Cert.BackReferenceIdeal.defs _ _).mono
    (fun r h => ⟨fun c => (h c).2, sem_eq_zero_of_no_sems (by decide) r.2⟩)
    (Cert.BackReferenceIdeal.Value.run m ρ)

/-- The rows handed back are the derivative the reference takes, added to the rows given. -/
theorem back_is_gradient : Cert.algebraic_BackIdeal_BackReferenceIdeal := by
  pair_intro
  · run_from Cert.BackIdeal.Gen.run_main m g
  · run_from Cert.BackReferenceIdeal.Value.run m' g'
    exact (Cert.BackIdeal.Sum.final m _).symm

/-- The input projection, over machine words. -/
theorem frame_inward : Cert.quiescent_Inward := fun m ρ _ => Cert.Inward.Gen.frame m ρ

/-- The input projection, over the reals. -/
theorem frame_inwardIdeal : Cert.quiescent_InwardIdeal := fun m ρ _ => Cert.InwardIdeal.Gen.frame m ρ

/-- Its reference has no semaphores, and its run keeps the arguments. -/
theorem frame_inwardReference : Cert.quiescent_InwardReferenceIdeal := fun m ρ _ =>
  (θ_run Cert.InwardReferenceIdeal.defs _ _).mono
    (fun r h => ⟨fun c => (h c).2, sem_eq_zero_of_no_sems (by decide) r.2⟩)
    (Cert.InwardReferenceIdeal.Value.run m ρ)

/-- The input projection is the reference's product. -/
theorem inward_is_product : Cert.algebraic_InwardIdeal_InwardReferenceIdeal := by
  pair_intro
  · run_from Cert.InwardIdeal.Gen.run_main m g
  · run_from Cert.InwardReferenceIdeal.Value.run m' g'
    exact (Cert.InwardIdeal.Sum.final m _).symm

/-- The gradient handed back through the first projection, over machine words. -/
theorem frame_firstBack : Cert.quiescent_FirstBack := fun m ρ _ => Cert.FirstBack.Gen.frame m ρ

/-- The gradient handed back through the first projection, over the reals. -/
theorem frame_firstBackIdeal : Cert.quiescent_FirstBackIdeal := fun m ρ _ => Cert.FirstBackIdeal.Gen.frame m ρ

/-- Its reference has no semaphores, and its run keeps the arguments. -/
theorem frame_firstBackReference : Cert.quiescent_FirstBackReferenceIdeal := fun m ρ _ =>
  (θ_run Cert.FirstBackReferenceIdeal.defs _ _).mono
    (fun r h => ⟨fun c => (h c).2, sem_eq_zero_of_no_sems (by decide) r.2⟩)
    (Cert.FirstBackReferenceIdeal.Value.run m ρ)

/-- The rows handed back first are the derivative the reference takes. -/
theorem firstBack_is_gradient : Cert.algebraic_FirstBackIdeal_FirstBackReferenceIdeal := by
  pair_intro
  · run_from Cert.FirstBackIdeal.Gen.run_main m g
  · run_from Cert.FirstBackReferenceIdeal.Value.run m' g'
    exact (Cert.FirstBackIdeal.Sum.final m _).symm

/-- The projection to the wide branch, over machine words. -/
theorem frame_branchInward : Cert.quiescent_BranchInward := fun m ρ _ => Cert.BranchInward.Gen.frame m ρ

/-- The projection to the wide branch, over the reals. -/
theorem frame_branchInwardIdeal : Cert.quiescent_BranchInwardIdeal := fun m ρ _ => Cert.BranchInwardIdeal.Gen.frame m ρ

/-- Its reference has no semaphores, and its run keeps the arguments. -/
theorem frame_branchInwardReference : Cert.quiescent_BranchInwardReferenceIdeal := fun m ρ _ =>
  (θ_run Cert.BranchInwardReferenceIdeal.defs _ _).mono
    (fun r h => ⟨fun c => (h c).2, sem_eq_zero_of_no_sems (by decide) r.2⟩)
    (Cert.BranchInwardReferenceIdeal.Value.run m ρ)

/-- The projection to the wide branch is the reference's product. -/
theorem branchInward_is_product : Cert.algebraic_BranchInwardIdeal_BranchInwardReferenceIdeal := by
  pair_intro
  · run_from Cert.BranchInwardIdeal.Gen.run_main m g
  · run_from Cert.BranchInwardReferenceIdeal.Value.run m' g'
    exact (Cert.BranchInwardIdeal.Sum.final m _).symm

/-- The weight gradient of that projection, over machine words. -/
theorem frame_branchWeight : Cert.quiescent_BranchWeight := fun m ρ _ => Cert.BranchWeight.Gen.frame m ρ

/-- The weight gradient of that projection, over the reals. -/
theorem frame_branchWeightIdeal : Cert.quiescent_BranchWeightIdeal := fun m ρ _ => Cert.BranchWeightIdeal.Gen.frame m ρ

/-- Its reference has no semaphores, and its run keeps the arguments. -/
theorem frame_branchWeightReference : Cert.quiescent_BranchWeightReferenceIdeal := fun m ρ _ =>
  (θ_run Cert.BranchWeightReferenceIdeal.defs _ _).mono
    (fun r h => ⟨fun c => (h c).2, sem_eq_zero_of_no_sems (by decide) r.2⟩)
    (Cert.BranchWeightReferenceIdeal.Value.run m ρ)

/-- The gradient of its weight is the derivative the reference takes. -/
theorem branchWeight_is_gradient : Cert.algebraic_BranchWeightIdeal_BranchWeightReferenceIdeal := by
  pair_intro
  · run_from Cert.BranchWeightIdeal.Gen.run_main m g
  · run_from Cert.BranchWeightReferenceIdeal.Value.run m' g'
    exact (Cert.BranchWeightIdeal.Sum.final m _).symm

/-- The gradient handed back through that projection, over machine words. -/
theorem frame_branchBack : Cert.quiescent_BranchBack := fun m ρ _ => Cert.BranchBack.Gen.frame m ρ

/-- The gradient handed back through that projection, over the reals. -/
theorem frame_branchBackIdeal : Cert.quiescent_BranchBackIdeal := fun m ρ _ => Cert.BranchBackIdeal.Gen.frame m ρ

/-- Its reference has no semaphores, and its run keeps the arguments. -/
theorem frame_branchBackReference : Cert.quiescent_BranchBackReferenceIdeal := fun m ρ _ =>
  (θ_run Cert.BranchBackReferenceIdeal.defs _ _).mono
    (fun r h => ⟨fun c => (h c).2, sem_eq_zero_of_no_sems (by decide) r.2⟩)
    (Cert.BranchBackReferenceIdeal.Value.run m ρ)

/-- The rows handed back are the derivative the reference takes, added to the rows given. -/
theorem branchBack_is_gradient : Cert.algebraic_BranchBackIdeal_BranchBackReferenceIdeal := by
  pair_intro
  · run_from Cert.BranchBackIdeal.Gen.run_main m g
  · run_from Cert.BranchBackReferenceIdeal.Value.run m' g'
    exact (Cert.BranchBackIdeal.Sum.final m _).symm

/-- The output projection, over machine words. -/
theorem frame_outward : Cert.quiescent_Outward := fun m ρ _ => Cert.Outward.Gen.frame m ρ

/-- The output projection, over the reals. -/
theorem frame_outwardIdeal : Cert.quiescent_OutwardIdeal := fun m ρ _ => Cert.OutwardIdeal.Gen.frame m ρ

/-- Its reference has no semaphores, and its run keeps the arguments. -/
theorem frame_outwardReference : Cert.quiescent_OutwardReferenceIdeal := fun m ρ _ =>
  (θ_run Cert.OutwardReferenceIdeal.defs _ _).mono
    (fun r h => ⟨fun c => (h c).2, sem_eq_zero_of_no_sems (by decide) r.2⟩)
    (Cert.OutwardReferenceIdeal.Value.run m ρ)

/-- The output projection is the reference's product, added to the rows it joins. -/
theorem outward_is_product : Cert.algebraic_OutwardIdeal_OutwardReferenceIdeal := by
  pair_intro
  · run_from Cert.OutwardIdeal.Gen.run_main m g
  · run_from Cert.OutwardReferenceIdeal.Value.run m' g'
    exact (Cert.OutwardIdeal.Sum.final m _).symm

/-- The weight gradient of the output projection, over machine words. -/
theorem frame_outwardWeight : Cert.quiescent_OutwardWeight := fun m ρ _ => Cert.OutwardWeight.Gen.frame m ρ

/-- The weight gradient of the output projection, over the reals. -/
theorem frame_outwardWeightIdeal : Cert.quiescent_OutwardWeightIdeal := fun m ρ _ => Cert.OutwardWeightIdeal.Gen.frame m ρ

/-- Its reference has no semaphores, and its run keeps the arguments. -/
theorem frame_outwardWeightReference : Cert.quiescent_OutwardWeightReferenceIdeal := fun m ρ _ =>
  (θ_run Cert.OutwardWeightReferenceIdeal.defs _ _).mono
    (fun r h => ⟨fun c => (h c).2, sem_eq_zero_of_no_sems (by decide) r.2⟩)
    (Cert.OutwardWeightReferenceIdeal.Value.run m ρ)

/-- The gradient of its weight is the derivative the reference takes. -/
theorem outwardWeight_is_gradient : Cert.algebraic_OutwardWeightIdeal_OutwardWeightReferenceIdeal := by
  pair_intro
  · run_from Cert.OutwardWeightIdeal.Gen.run_main m g
  · run_from Cert.OutwardWeightReferenceIdeal.Value.run m' g'
    exact (Cert.OutwardWeightIdeal.Sum.final m _).symm

/-- The gradient handed back through the output projection, over machine words. -/
theorem frame_outwardBack : Cert.quiescent_OutwardBack := fun m ρ _ => Cert.OutwardBack.Gen.frame m ρ

/-- The gradient handed back through the output projection, over the reals. -/
theorem frame_outwardBackIdeal : Cert.quiescent_OutwardBackIdeal := fun m ρ _ => Cert.OutwardBackIdeal.Gen.frame m ρ

/-- Its reference has no semaphores, and its run keeps the arguments. -/
theorem frame_outwardBackReference : Cert.quiescent_OutwardBackReferenceIdeal := fun m ρ _ =>
  (θ_run Cert.OutwardBackReferenceIdeal.defs _ _).mono
    (fun r h => ⟨fun c => (h c).2, sem_eq_zero_of_no_sems (by decide) r.2⟩)
    (Cert.OutwardBackReferenceIdeal.Value.run m ρ)

/-- The rows handed back are the derivative the reference takes. -/
theorem outwardBack_is_gradient : Cert.algebraic_OutwardBackIdeal_OutwardBackReferenceIdeal := by
  pair_intro
  · run_from Cert.OutwardBackIdeal.Gen.run_main m g
  · run_from Cert.OutwardBackReferenceIdeal.Value.run m' g'
    exact (Cert.OutwardBackIdeal.Sum.final m _).symm

/-- Every claim of the certificate. -/
theorem claim : Cert.Claim := ⟨Cert.Kernel.Gen.facts, Cert.KernelIdeal.Gen.facts, Cert.ReferenceIdeal.Gen.facts,
  Cert.Product.Gen.facts, Cert.ProductIdeal.Gen.facts, Cert.ProductReferenceIdeal.Gen.facts, Cert.Forward.Gen.facts, Cert.ForwardIdeal.Gen.facts, Cert.ForwardReferenceIdeal.Gen.facts,
  Cert.Weight.Gen.facts, Cert.WeightIdeal.Gen.facts, Cert.WeightReferenceIdeal.Gen.facts,
  Cert.Back.Gen.facts, Cert.BackIdeal.Gen.facts, Cert.BackReferenceIdeal.Gen.facts,
  Cert.Inward.Gen.facts, Cert.InwardIdeal.Gen.facts, Cert.InwardReferenceIdeal.Gen.facts,
  Cert.FirstBack.Gen.facts, Cert.FirstBackIdeal.Gen.facts, Cert.FirstBackReferenceIdeal.Gen.facts,
  Cert.BranchInward.Gen.facts, Cert.BranchInwardIdeal.Gen.facts, Cert.BranchInwardReferenceIdeal.Gen.facts,
  Cert.BranchWeight.Gen.facts, Cert.BranchWeightIdeal.Gen.facts, Cert.BranchWeightReferenceIdeal.Gen.facts,
  Cert.BranchBack.Gen.facts, Cert.BranchBackIdeal.Gen.facts, Cert.BranchBackReferenceIdeal.Gen.facts,
  Cert.Outward.Gen.facts, Cert.OutwardIdeal.Gen.facts, Cert.OutwardReferenceIdeal.Gen.facts,
  Cert.OutwardWeight.Gen.facts, Cert.OutwardWeightIdeal.Gen.facts, Cert.OutwardWeightReferenceIdeal.Gen.facts,
  Cert.OutwardBack.Gen.facts, Cert.OutwardBackIdeal.Gen.facts, Cert.OutwardBackReferenceIdeal.Gen.facts,
  Cert.Finite.facts, frame_kernel,
  frame_kernelIdeal, fun m ρ _ => frame_kernelIdeal m ρ trivial, frame_reference, fun m ρ _ => frame_reference m ρ trivial, frame_product,
  frame_productIdeal, frame_productReference,
  frame_forward, frame_forwardIdeal, frame_forwardReference, frame_weight, frame_weightIdeal, frame_weightReference, frame_back, frame_backIdeal, frame_backReference, frame_inward, frame_inwardIdeal, frame_inwardReference,
  frame_firstBack, frame_firstBackIdeal, frame_firstBackReference,
  frame_branchInward, frame_branchInwardIdeal, frame_branchInwardReference,
  frame_branchWeight, frame_branchWeightIdeal, frame_branchWeightReference,
  frame_branchBack, frame_branchBackIdeal, frame_branchBackReference,
  frame_outward, frame_outwardIdeal, frame_outwardReference,
  frame_outwardWeight, frame_outwardWeightIdeal, frame_outwardWeightReference,
  frame_outwardBack, frame_outwardBackIdeal, frame_outwardBackReference,
  trivial, backward_is_gradient, trivial, product_is_gradient, trivial, forward_is_half_step, trivial, weight_is_gradient, trivial, back_is_gradient, trivial, inward_is_product,
  trivial, firstBack_is_gradient,
  trivial, branchInward_is_product,
  trivial, branchWeight_is_gradient,
  trivial, branchBack_is_gradient,
  trivial, outward_is_product,
  trivial, outwardWeight_is_gradient,
  trivial, outwardBack_is_gradient⟩

end Cert.Proof

end
